-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite [hPre_finite : Cert.Pre_finite.Facts] (m : (ℓ : Loc Cert.NaIdeal.nD Cert.NaIdeal.τ Cert.NaIdeal.sig) → Buf (Elt Ideal) ℓ) : Prop :=
  ∀ c : Dev Cert.NaIdeal.nD,
    (Cert.Pre_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))) = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite [hPre_finite : Cert.Pre_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondRefIdeal (m : (ℓ : Loc Cert.SecondRefIdeal.nD Cert.SecondRefIdeal.τ Cert.SecondRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptRefIdeal (m : (ℓ : Loc Cert.PromptRefIdeal.nD Cert.PromptRefIdeal.τ Cert.PromptRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_finite [hNaIdeal : Cert.NaIdeal.Facts] [hPre_finite : Cert.Pre_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_NaRefIdeal_pre_finite [hNaRefIdeal : Cert.NaRefIdeal.Facts] [hPre_finite : Cert.Pre_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1))
      ∧ r.2.sem = fun _ => 0)

def quiescent_SecondRefIdeal [hSecondRefIdeal : Cert.SecondRefIdeal.Facts] : Prop :=
  ∀ (m : (ℓ : Loc Cert.SecondRefIdeal.nD Cert.SecondRefIdeal.τ Cert.SecondRefIdeal.sig) → Buf (Elt Ideal) ℓ) (g : Dev Cert.SecondRefIdeal.nD → PrngReg), Pre_SecondRefIdeal m →
    θ_run (Cert.SecondRefIdeal.defs (F := Ideal)) (onTc (τ := Cert.SecondRefIdeal.τ) (Cert.SecondRefIdeal.main (F := Ideal))) ⟨m, fun _ => 0, g⟩ (fun r => (∀ c : Dev Cert.SecondRefIdeal.nD,
      r.2.mem ((c.tc : Thread Cert.SecondRefIdeal.nD Cert.SecondRefIdeal.τ).loc Cert.SecondRefIdeal.main_arg0) = m ((c.tc : Thread Cert.SecondRefIdeal.nD Cert.SecondRefIdeal.τ).loc Cert.SecondRefIdeal.main_arg0)
      ∧ r.2.mem ((c.tc : Thread Cert.SecondRefIdeal.nD Cert.SecondRefIdeal.τ).loc Cert.SecondRefIdeal.main_arg1) = m ((c.tc : Thread Cert.SecondRefIdeal.nD Cert.SecondRefIdeal.τ).loc Cert.SecondRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ r.2.sem = fun _ => 0)

def quiescent_PromptRefIdeal [hPromptRefIdeal : Cert.PromptRefIdeal.Facts] : Prop :=
  ∀ (m : (ℓ : Loc Cert.PromptRefIdeal.nD Cert.PromptRefIdeal.τ Cert.PromptRefIdeal.sig) → Buf (Elt Ideal) ℓ) (g : Dev Cert.PromptRefIdeal.nD → PrngReg), Pre_PromptRefIdeal m →
    θ_run (Cert.PromptRefIdeal.defs (F := Ideal)) (onTc (τ := Cert.PromptRefIdeal.τ) (Cert.PromptRefIdeal.main (F := Ideal))) ⟨m, fun _ => 0, g⟩ (fun r => (∀ c : Dev Cert.PromptRefIdeal.nD,
      r.2.mem ((c.tc : Thread Cert.PromptRefIdeal.nD Cert.PromptRefIdeal.τ).loc Cert.PromptRefIdeal.main_arg0) = m ((c.tc : Thread Cert.PromptRefIdeal.nD Cert.PromptRefIdeal.τ).loc Cert.PromptRefIdeal.main_arg0)
      ∧ r.2.mem ((c.tc : Thread Cert.PromptRefIdeal.nD Cert.PromptRefIdeal.τ).loc Cert.PromptRefIdeal.main_arg1) = m ((c.tc : Thread Cert.PromptRefIdeal.nD Cert.PromptRefIdeal.τ).loc Cert.PromptRefIdeal.main_arg1))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1))
      ∧ r.2.sem = fun _ => 0)

def preserves_Na_NaIdeal : Prop :=
  True

def algebraic_NaIdeal_NaRefIdeal_pre_finite [hNaIdeal : Cert.NaIdeal.Facts] [hNaRefIdeal : Cert.NaRefIdeal.Facts] [hPre_finite : Cert.Pre_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v72)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v72) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v112) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v67) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v7) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v8) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1)) (v1 : (c : Dev Cert.QkvIdeal.nD) → Buf (Elt Ideal) ((c.tc : Thread Cert.QkvIdeal.nD Cert.QkvIdeal.τ).loc Cert.QkvIdeal.main_v3)) (v2 : (c : Dev Cert.QkvIdeal.nD) → Buf (Elt Ideal) ((c.tc : Thread Cert.QkvIdeal.nD Cert.QkvIdeal.τ).loc Cert.QkvIdeal.main_v5)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_v3) = v1 c
          ∧ r.2.mem ((c.tc : Thread Cert.QkvIdeal.nD Cert.QkvIdeal.τ).loc Cert.QkvIdeal.main_v5) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_v13) = v1 c
          ∧ r.2.mem ((c.tc : Thread Cert.QkvRefIdeal.nD Cert.QkvRefIdeal.τ).loc Cert.QkvRefIdeal.main_v14) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Second_SecondIdeal : Prop :=
  True

def algebraic_SecondIdeal_SecondRefIdeal [hSecondIdeal : Cert.SecondIdeal.Facts] [hSecondRefIdeal : Cert.SecondRefIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondRefIdeal.nD Cert.SecondRefIdeal.τ Cert.SecondRefIdeal.sig) → Buf (Elt Ideal) ℓ) (g' : Dev Cert.SecondRefIdeal.nD → PrngReg), Pre_SecondIdeal m →
    (∀ c : Dev Cert.SecondIdeal.nD,
      m' ((c.tc : Thread Cert.SecondRefIdeal.nD Cert.SecondRefIdeal.τ).loc Cert.SecondRefIdeal.main_arg0) = m ((c.tc : Thread Cert.SecondIdeal.nD Cert.SecondIdeal.τ).loc Cert.SecondIdeal.main_arg0)
      ∧ m' ((c.tc : Thread Cert.SecondRefIdeal.nD Cert.SecondRefIdeal.τ).loc Cert.SecondRefIdeal.main_arg1) = m ((c.tc : Thread Cert.SecondIdeal.nD Cert.SecondIdeal.τ).loc Cert.SecondIdeal.main_arg1)) →
    ∃ (v0 : (c : Dev Cert.SecondIdeal.nD) → Buf (Elt Ideal) ((c.tc : Thread Cert.SecondIdeal.nD Cert.SecondIdeal.τ).loc Cert.SecondIdeal.main_v1)) (v1 : (c : Dev Cert.SecondIdeal.nD) → Buf (Elt Ideal) ((c.tc : Thread Cert.SecondIdeal.nD Cert.SecondIdeal.τ).loc Cert.SecondIdeal.main_v3)) (v2 : (c : Dev Cert.SecondIdeal.nD) → Buf (Elt Ideal) ((c.tc : Thread Cert.SecondIdeal.nD Cert.SecondIdeal.τ).loc Cert.SecondIdeal.main_v5)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v1) = v0 c
          ∧ r.2.mem ((c.tc : Thread Cert.SecondIdeal.nD Cert.SecondIdeal.τ).loc Cert.SecondIdeal.main_v3) = v1 c
          ∧ r.2.mem ((c.tc : Thread Cert.SecondIdeal.nD Cert.SecondIdeal.τ).loc Cert.SecondIdeal.main_v5) = v2 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1))
      ∧ θ_run (Cert.SecondRefIdeal.defs (F := Ideal)) (onTc (τ := Cert.SecondRefIdeal.τ) (Cert.SecondRefIdeal.main (F := Ideal))) ⟨m', fun _ => 0, g'⟩ (fun r => ∀ c : Dev Cert.SecondRefIdeal.nD,
          r.2.mem ((c.tc : Thread Cert.SecondRefIdeal.nD Cert.SecondRefIdeal.τ).loc Cert.SecondRefIdeal.main_v6) = v0 c
          ∧ r.2.mem ((c.tc : Thread Cert.SecondRefIdeal.nD Cert.SecondRefIdeal.τ).loc Cert.SecondRefIdeal.main_v13) = v1 c
          ∧ r.2.mem ((c.tc : Thread Cert.SecondRefIdeal.nD Cert.SecondRefIdeal.τ).loc Cert.SecondRefIdeal.main_v14) = v2 c
          ∧ r.2.mem ((c.tc : Thread Cert.SecondRefIdeal.nD Cert.SecondRefIdeal.τ).loc Cert.SecondRefIdeal.main_arg0) = m' ((c.tc : Thread Cert.SecondRefIdeal.nD Cert.SecondRefIdeal.τ).loc Cert.SecondRefIdeal.main_arg0)
          ∧ r.2.mem ((c.tc : Thread Cert.SecondRefIdeal.nD Cert.SecondRefIdeal.τ).loc Cert.SecondRefIdeal.main_arg1) = m' ((c.tc : Thread Cert.SecondRefIdeal.nD Cert.SecondRefIdeal.τ).loc Cert.SecondRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v23) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Prompt_PromptIdeal : Prop :=
  True

def algebraic_PromptIdeal_PromptRefIdeal [hPromptIdeal : Cert.PromptIdeal.Facts] [hPromptRefIdeal : Cert.PromptRefIdeal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.PromptRefIdeal.nD Cert.PromptRefIdeal.τ Cert.PromptRefIdeal.sig) → Buf (Elt Ideal) ℓ) (g' : Dev Cert.PromptRefIdeal.nD → PrngReg), Pre_PromptIdeal m →
    (∀ c : Dev Cert.PromptIdeal.nD,
      m' ((c.tc : Thread Cert.PromptRefIdeal.nD Cert.PromptRefIdeal.τ).loc Cert.PromptRefIdeal.main_arg0) = m ((c.tc : Thread Cert.PromptIdeal.nD Cert.PromptIdeal.τ).loc Cert.PromptIdeal.main_arg0)
      ∧ m' ((c.tc : Thread Cert.PromptRefIdeal.nD Cert.PromptRefIdeal.τ).loc Cert.PromptRefIdeal.main_arg1) = m ((c.tc : Thread Cert.PromptIdeal.nD Cert.PromptIdeal.τ).loc Cert.PromptIdeal.main_arg1)) →
    ∃ (v0 : (c : Dev Cert.PromptIdeal.nD) → Buf (Elt Ideal) ((c.tc : Thread Cert.PromptIdeal.nD Cert.PromptIdeal.τ).loc Cert.PromptIdeal.main_v2)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v2) = v0 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1))
      ∧ θ_run (Cert.PromptRefIdeal.defs (F := Ideal)) (onTc (τ := Cert.PromptRefIdeal.τ) (Cert.PromptRefIdeal.main (F := Ideal))) ⟨m', fun _ => 0, g'⟩ (fun r => ∀ c : Dev Cert.PromptRefIdeal.nD,
          r.2.mem ((c.tc : Thread Cert.PromptRefIdeal.nD Cert.PromptRefIdeal.τ).loc Cert.PromptRefIdeal.main_v14) = v0 c
          ∧ r.2.mem ((c.tc : Thread Cert.PromptRefIdeal.nD Cert.PromptRefIdeal.τ).loc Cert.PromptRefIdeal.main_arg0) = m' ((c.tc : Thread Cert.PromptRefIdeal.nD Cert.PromptRefIdeal.τ).loc Cert.PromptRefIdeal.main_arg0)
          ∧ r.2.mem ((c.tc : Thread Cert.PromptRefIdeal.nD Cert.PromptRefIdeal.τ).loc Cert.PromptRefIdeal.main_arg1) = m' ((c.tc : Thread Cert.PromptRefIdeal.nD Cert.PromptRefIdeal.τ).loc Cert.PromptRefIdeal.main_arg1))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)) →
    ∃ (v0 : (c : Dev Cert.SampleIdeal.nD) → Buf (Elt Ideal) ((c.tc : Thread Cert.SampleIdeal.nD Cert.SampleIdeal.τ).loc Cert.SampleIdeal.main_v2)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v2) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v14) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1))

def Claim : Prop :=
  ∃ (hNa : Cert.Na.Facts) (hNaIdeal : Cert.NaIdeal.Facts) (hNaRefIdeal : Cert.NaRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hMix : Cert.Mix.Facts) (hMixIdeal : Cert.MixIdeal.Facts) (hMixRefIdeal : Cert.MixRefIdeal.Facts) (hOut : Cert.Out.Facts) (hOutIdeal : Cert.OutIdeal.Facts) (hOutRefIdeal : Cert.OutRefIdeal.Facts) (hQkv : Cert.Qkv.Facts) (hQkvIdeal : Cert.QkvIdeal.Facts) (hQkvRefIdeal : Cert.QkvRefIdeal.Facts) (hSecond : Cert.Second.Facts) (hSecondIdeal : Cert.SecondIdeal.Facts) (hSecondRefIdeal : Cert.SecondRefIdeal.Facts) (hMerge : Cert.Merge.Facts) (hMergeIdeal : Cert.MergeIdeal.Facts) (hMergeRefIdeal : Cert.MergeRefIdeal.Facts) (hNorm : Cert.Norm.Facts) (hNormIdeal : Cert.NormIdeal.Facts) (hNormRefIdeal : Cert.NormRefIdeal.Facts) (hPrompt : Cert.Prompt.Facts) (hPromptIdeal : Cert.PromptIdeal.Facts) (hPromptRefIdeal : Cert.PromptRefIdeal.Facts) (hSample : Cert.Sample.Facts) (hSampleIdeal : Cert.SampleIdeal.Facts) (hSampleRefIdeal : Cert.SampleRefIdeal.Facts) (hPre_finite : Cert.Pre_finite.Facts),
    quiescent_Na (hNa := hNa)
    ∧ quiescent_NaIdeal (hNaIdeal := hNaIdeal)
    ∧ quiescent_NaIdeal_pre_finite (hNaIdeal := hNaIdeal) (hPre_finite := hPre_finite)
    ∧ quiescent_NaRefIdeal (hNaRefIdeal := hNaRefIdeal)
    ∧ quiescent_NaRefIdeal_pre_finite (hNaRefIdeal := hNaRefIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Mix (hMix := hMix)
    ∧ quiescent_MixIdeal (hMixIdeal := hMixIdeal)
    ∧ quiescent_MixRefIdeal (hMixRefIdeal := hMixRefIdeal)
    ∧ quiescent_Out (hOut := hOut)
    ∧ quiescent_OutIdeal (hOutIdeal := hOutIdeal)
    ∧ quiescent_OutRefIdeal (hOutRefIdeal := hOutRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Second (hSecond := hSecond)
    ∧ quiescent_SecondIdeal (hSecondIdeal := hSecondIdeal)
    ∧ quiescent_SecondRefIdeal (hSecondRefIdeal := hSecondRefIdeal)
    ∧ quiescent_Merge (hMerge := hMerge)
    ∧ quiescent_MergeIdeal (hMergeIdeal := hMergeIdeal)
    ∧ quiescent_MergeRefIdeal (hMergeRefIdeal := hMergeRefIdeal)
    ∧ quiescent_Norm (hNorm := hNorm)
    ∧ quiescent_NormIdeal (hNormIdeal := hNormIdeal)
    ∧ quiescent_NormRefIdeal (hNormRefIdeal := hNormRefIdeal)
    ∧ quiescent_Prompt (hPrompt := hPrompt)
    ∧ quiescent_PromptIdeal (hPromptIdeal := hPromptIdeal)
    ∧ quiescent_PromptRefIdeal (hPromptRefIdeal := hPromptRefIdeal)
    ∧ quiescent_Sample (hSample := hSample)
    ∧ quiescent_SampleIdeal (hSampleIdeal := hSampleIdeal)
    ∧ quiescent_SampleRefIdeal (hSampleRefIdeal := hSampleRefIdeal)
    ∧ preserves_Na_NaIdeal
    ∧ algebraic_NaIdeal_NaRefIdeal_pre_finite (hNaIdeal := hNaIdeal) (hNaRefIdeal := hNaRefIdeal) (hPre_finite := hPre_finite)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Mix_MixIdeal
    ∧ algebraic_MixIdeal_MixRefIdeal (hMixIdeal := hMixIdeal) (hMixRefIdeal := hMixRefIdeal)
    ∧ preserves_Out_OutIdeal
    ∧ algebraic_OutIdeal_OutRefIdeal (hOutIdeal := hOutIdeal) (hOutRefIdeal := hOutRefIdeal)
    ∧ preserves_Qkv_QkvIdeal
    ∧ algebraic_QkvIdeal_QkvRefIdeal (hQkvIdeal := hQkvIdeal) (hQkvRefIdeal := hQkvRefIdeal)
    ∧ preserves_Second_SecondIdeal
    ∧ algebraic_SecondIdeal_SecondRefIdeal (hSecondIdeal := hSecondIdeal) (hSecondRefIdeal := hSecondRefIdeal)
    ∧ preserves_Merge_MergeIdeal
    ∧ algebraic_MergeIdeal_MergeRefIdeal (hMergeIdeal := hMergeIdeal) (hMergeRefIdeal := hMergeRefIdeal)
    ∧ preserves_Norm_NormIdeal
    ∧ algebraic_NormIdeal_NormRefIdeal (hNormIdeal := hNormIdeal) (hNormRefIdeal := hNormRefIdeal)
    ∧ preserves_Prompt_PromptIdeal
    ∧ algebraic_PromptIdeal_PromptRefIdeal (hPromptIdeal := hPromptIdeal) (hPromptRefIdeal := hPromptRefIdeal)
    ∧ preserves_Sample_SampleIdeal
    ∧ algebraic_SampleIdeal_SampleRefIdeal (hSampleIdeal := hSampleIdeal) (hSampleRefIdeal := hSampleRefIdeal)
-- ==== Pre_finite.lean ====
abbrev S8192x1536 : Shape := ⟨2, ![8192, 1536]⟩
abbrev S2x512x8x64 : Shape := ⟨4, ![2, 512, 8, 64]⟩
abbrev S8x15x31 : Shape := ⟨3, ![8, 15, 31]⟩
abbrev S_ : Shape := ⟨0, ![]⟩

class Facts : Prop where
  bcast_S_S8192x1536 : S_.BroadcastsInDim S8192x1536 (![] : Fin 0 → Fin S8192x1536.rank)
  reducesTo_S8192x1536_S_d0_1 : S8192x1536.ReducesTo [0, 1] S_
  h_S_ : 0 < S_.numel
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S8192x1536 .f32) (main_arg1 : FVec F S2x512x8x64 .f32) (main_arg2 : FVec F S2x512x8x64 .f32) (main_arg3 : FVec F S8x15x31 .f32) : IVec S_ 1 :=
  let main_v0 : FVec F S8192x1536 .f32 := Host.absf main_arg0
  let main_cst : FVec F S_ .f32 := constant S_ .f32 0x7F800000#32
  let main_v1 : FVec F S8192x1536 .f32 := broadcastInDim S8192x1536 ![] bcast_S_S8192x1536 main_cst
  let main_v2 : IVec S8192x1536 1 := cmpf .olt main_v0 main_v1
  let main_c : IVec S_ 1 := constantI S_ 1 1#1
  let main_v3 : IVec S_ 1 := (fun x v => Host.reduce IntOp.andi x v reducesTo_S8192x1536_S_d0_1 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  let main_v9 : FVec F S8x15x31 .f32 := Host.absf main_arg3
  let main_cst_2 : FVec F S_ .f32 := constant S_ .f32 0x7F800000#32
  let main_v10 : FVec F S8x15x31 .f32 := broadcastInDim S8x15x31 ![] bcast_S_S8x15x31 main_cst_2
  let main_v11 : IVec S8x15x31 1 := cmpf .olt main_v9 main_v10
  let main_c_3 : IVec S_ 1 := constantI S_ 1 1#1
  let main_v12 : IVec S_ 1 := (fun x v => Host.reduce IntOp.andi x v reducesTo_S8x15x31_S_d0_1_2 h_S_) main_v11 main_c_3
  let main_v13 : IVec S_ 1 := andi main_v8 main_v12
  main_v13
-- ==== Na.lean ====
abbrev S8192x1536 : Shape := ⟨2, ![8192, 1536]⟩
abbrev S2x512x8x64 : Shape := ⟨4, ![2, 512, 8, 64]⟩
abbrev S8x15x31 : Shape := ⟨3, ![8, 15, 31]⟩
abbrev S2x512x512 : Shape := ⟨3, ![2, 512, 512]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S31 : Shape := ⟨1, ![31]⟩
abbrev S1x1x31 : Shape := ⟨3, ![1, 1, 31]⟩
abbrev S64x64x31 : Shape := ⟨3, ![64, 64, 31]⟩
abbrev S8x15x64x64 : Shape := ⟨4, ![8, 15, 64, 64]⟩
abbrev S1x1x64x64 : Shape := ⟨4, ![1, 1, 64, 64]⟩
abbrev S8x8x64x64 : Shape := ⟨4, ![8, 8, 64, 64]⟩
abbrev S8x64x8x64 : Shape := ⟨4, ![8, 64, 8, 64]⟩
abbrev S8x64x512 : Shape := ⟨3, ![8, 64, 512]⟩
abbrev S8x1x64x512 : Shape := ⟨4, ![8, 1, 64, 512]⟩
abbrev S8x8x64x512 : Shape := ⟨4, ![8, 8, 64, 512]⟩
abbrev S4096x512 : Shape := ⟨2, ![4096, 512]⟩
abbrev S2048x128 : Shape := ⟨2, ![2048, 128]⟩
abbrev S1x512x128 : Shape := ⟨3, ![1, 512, 128]⟩
abbrev S2x8x64x512 : Shape := ⟨4, ![2, 8, 64, 512]⟩
abbrev S512x128 : Shape := ⟨2, ![512, 128]⟩
abbrev S1x128 : Shape := ⟨2, ![1, 128]⟩
abbrev S64x128 : Shape := ⟨2, ![64, 128]⟩
abbrev S128x128 : Shape := ⟨2, ![128, 128]⟩
abbrev S2x1x64x512 : Shape := ⟨4, ![2, 1, 64, 512]⟩
abbrev S2x64x512 : Shape := ⟨3, ![2, 64, 512]⟩
abbrev S128x512 : Shape := ⟨2, ![128, 512]⟩
abbrev S128 : Shape := ⟨1, ![128]⟩
abbrev S128x1 : Shape := ⟨2, ![128, 1]⟩

abbrev nBuf : Space → Nat
  | .hbm => 99
  | .vmem => 18
  | .smem => 0
  | _ => 0

abbrev bufTy : (tb : Table) → Fin (tcTables nBuf tb) → BufTy
  | .hbm, ⟨0, _⟩ => ⟨S8192x1536, .f32⟩
  | .hbm, ⟨1, _⟩ => ⟨S2x512x8x64, .f32⟩
  | .hbm, ⟨2, _⟩ => ⟨S2x512x8x64, .f32⟩
  | .hbm, ⟨3, _⟩ => ⟨S8x15x31, .f32⟩
  | .hbm, ⟨4, _⟩ => ⟨S2x512x512, .f32⟩
  | .hbm, ⟨5, _⟩ => ⟨S2x512x512, .f32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S1x64, .i32⟩
  | .hbm, ⟨19, _⟩ => ⟨S64x1, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S1x64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .i1⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S64x64, .i32⟩
  | .hbm, ⟨41, _⟩ => ⟨S64x64, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S64x64x1, .i32⟩
  | .hbm, ⟨52, _⟩ => ⟨S31, .i32⟩
  | .hbm, ⟨53, _⟩ => ⟨S1x1x31, .i32⟩
  | .hbm, ⟨54, _⟩ => ⟨S64x64x31, .i32⟩
  | .hbm, ⟨55, _⟩ => ⟨S64x64x31, .i32⟩
  | .hbm, ⟨56, _⟩ => ⟨S64x64x31, .i1⟩
  | .hbm, ⟨57, _⟩ => ⟨S64x64x31, .f32⟩
  | .hbm, ⟨58, _⟩ => ⟨S8x15x64x64, .f32⟩
  | .hbm, ⟨59, _⟩ => ⟨S1x1x64x64, .i1⟩
  | .hbm, ⟨60, _⟩ => ⟨S_, .f32⟩
  | .hbm, ⟨61, _⟩ => ⟨S_, .f32⟩
  | .hbm, ⟨62, _⟩ => ⟨S8x15x64x64, .i1⟩
  | .hbm, ⟨63, _⟩ => ⟨S8x15x64x64, .f32⟩
  | .hbm, ⟨64, _⟩ => ⟨S8x15x64x64, .f32⟩
  | .hbm, ⟨65, _⟩ => ⟨S8x8x64x64, .f32⟩
  | .hbm, ⟨66, _⟩ => ⟨S8x64x8x64, .f32⟩
  | .hbm, ⟨67, _⟩ => ⟨S8x64x512, .f32⟩
  | .hbm, ⟨68, _⟩ => ⟨S8x8x64x64, .f32⟩
  | .hbm, ⟨69, _⟩ => ⟨S8x64x8x64, .f32⟩
  | .hbm, ⟨70, _⟩ => ⟨S8x64x512, .f32⟩
  | .hbm, ⟨71, _⟩ => ⟨S8x8x64x64, .f32⟩
  | .hbm, ⟨72, _⟩ => ⟨S8x64x8x64, .f32⟩
  | .hbm, ⟨73, _⟩ => ⟨S8x64x512, .f32⟩
  | .hbm, ⟨74, _⟩ => ⟨S8x8x64x64, .f32⟩
  | .hbm, ⟨75, _⟩ => ⟨S8x64x8x64, .f32⟩
  | .hbm, ⟨76, _⟩ => ⟨S8x64x512, .f32⟩
  | .hbm, ⟨77, _⟩ => ⟨S8x8x64x64, .f32⟩
  | .hbm, ⟨78, _⟩ => ⟨S8x64x8x64, .f32⟩
  | .hbm, ⟨79, _⟩ => ⟨S8x64x512, .f32⟩
  | .hbm, ⟨80, _⟩ => ⟨S8x8x64x64, .f32⟩
  | .hbm, ⟨81, _⟩ => ⟨S8x64x8x64, .f32⟩
  | .hbm, ⟨82, _⟩ => ⟨S8x64x512, .f32⟩
  | .hbm, ⟨83, _⟩ => ⟨S8x8x64x64, .f32⟩
  | .hbm, ⟨84, _⟩ => ⟨S8x64x8x64, .f32⟩
  | .hbm, ⟨85, _⟩ => ⟨S8x64x512, .f32⟩
  | .hbm, ⟨86, _⟩ => ⟨S8x8x64x64, .f32⟩
  | .hbm, ⟨87, _⟩ => ⟨S8x64x8x64, .f32⟩
  | .hbm, ⟨88, _⟩ => ⟨S8x64x512, .f32⟩
  | .hbm, ⟨89, _⟩ => ⟨S8x1x64x512, .f32⟩
  | .hbm, ⟨90, _⟩ => ⟨S8x1x64x512, .f32⟩
  | .hbm, ⟨91, _⟩ => ⟨S8x1x64x512, .f32⟩
  | .hbm, ⟨92, _⟩ => ⟨S8x1x64x512, .f32⟩
  | .hbm, ⟨93, _⟩ => ⟨S8x1x64x512, .f32⟩
  | .hbm, ⟨94, _⟩ => ⟨S8x1x64x512, .f32⟩
  | .hbm, ⟨95, _⟩ => ⟨S8x1x64x512, .f32⟩
  | .hbm, ⟨96, _⟩ => ⟨S8x1x64x512, .f32⟩
  | .hbm, ⟨97, _⟩ => ⟨S8x8x64x512, .f32⟩
  | .hbm, ⟨98, _⟩ => ⟨S4096x512, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S2x8x64x512, .f32⟩
  | .local _ .vmem, ⟨11, _⟩ => ⟨S2x8x64x512, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S512x128, .bf16⟩
  | .local _ .vmem, ⟨17, _⟩ => ⟨S512x128, .bf16⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_c_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c32_i32 : BitVec 32 := 32#32
  let v23 : BitVec 32 := Scalar.addi c0_i32 c32_i32
  let c1_i32 : BitVec 32 := 1#32
  ⟨c0_i32, v23, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v30 : BitVec 32 := Scalar.muli arg13 c64_i32
  v30
def k0_mult2 (k0_t1 : Fin k0_t1_loop.trips) : BitVec 32 :=
  let c24_i32 : BitVec 32 := 24#32
  let c0_i32_18 : BitVec 32 := 0#32
  let c0_i32 : BitVec 32 := 0#32
  let c1_i32 : BitVec 32 := 1#32
  let arg13 : BitVec 32 := Scf.iv c0_i32 c1_i32 k0_t1
  let c4_i32 : BitVec 32 := 4#32
  let v24 : BitVec 32 := Scalar.subi arg13 c4_i32
  let v25 : BitVec 32 := Scalar.maxsi c0_i32_18 v24
  let v26 : BitVec 32 := Scalar.minsi c24_i32 v25
  let c64_i32_20 : BitVec 32 := 64#32
  let v32 : BitVec 32 := Scalar.muli v26 c64_i32_20
  v32
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v30 : BitVec 32 := Scalar.muli arg13 c64_i32
  let v31 : BitVec 32 := v30
  let v34 : Index := Scalar.indexCast v31
  let c0_21 : Index := 0#32
  ![v34.toNat, 0]
def k0_off2 (k0_t1 : Fin k0_t1_loop.trips) : Fin 2 → Nat :=
  let c24_i32 : BitVec 32 := 24#32
  let c0_i32_18 : BitVec 32 := 0#32
  let c0_i32 : BitVec 32 := 0#32
  let c1_i32 : BitVec 32 := 1#32
  let arg13 : BitVec 32 := Scf.iv c0_i32 c1_i32 k0_t1
  let c4_i32 : BitVec 32 := 4#32
  let v24 : BitVec 32 := Scalar.subi arg13 c4_i32
  let v25 : BitVec 32 := Scalar.maxsi c0_i32_18 v24
  let v26 : BitVec 32 := Scalar.minsi c24_i32 v25
  let c64_i32_20 : BitVec 32 := 64#32
  let v32 : BitVec 32 := Scalar.muli v26 c64_i32_20
  let v33 : BitVec 32 := v32
  let v38 : Index := Scalar.indexCast v33
  let c0_22 : Index := 0#32
  ![v38.toNat, 0]
def k0_off3 (k0_t1 : Fin k0_t1_loop.trips) : Fin 4 → Nat :=
  let c0_29 : Index := 0#32
  let c24_i32 : BitVec 32 := 24#32
  let c0_i32_18 : BitVec 32 := 0#32
  let c0_i32 : BitVec 32 := 0#32
  let c1_i32 : BitVec 32 := 1#32
  let arg13 : BitVec 32 := Scf.iv c0_i32 c1_i32 k0_t1
  let c4_i32 : BitVec 32 := 4#32
  let v24 : BitVec 32 := Scalar.subi arg13 c4_i32
  let v25 : BitVec 32 := Scalar.maxsi c0_i32_18 v24
  let v26 : BitVec 32 := Scalar.minsi c24_i32 v25
  let v27 : BitVec 32 := Scalar.subi v26 arg13
  let c8_i32 : BitVec 32 := 8#32
  let v28 : BitVec 32 := Scalar.addi v27 c8_i32
  let c1_i32_19 : BitVec 32 := 1#32
  let v29 : BitVec 32 := Scalar.subi v28 c1_i32_19
  let v62 : Index := Scalar.indexCast v29
  let c0_30 : Index := 0#32
  let c0_31 : Index := 0#32
  ![0, v62.toNat, 0, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let v1 : BitVec 32 := Scalar.addi c0_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c4_i32 : BitVec 32 := 4#32
  let v1 : BitVec 32 := Scalar.addi c4_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c8_i32 : BitVec 32 := 8#32
  let v1 : BitVec 32 := Scalar.addi c8_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x8x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NaRefIdeal.lean ====
abbrev S8192x1536 : Shape := ⟨2, ![8192, 1536]⟩
abbrev S2x512x8x64 : Shape := ⟨4, ![2, 512, 8, 64]⟩
abbrev S8x15x31 : Shape := ⟨3, ![8, 15, 31]⟩
abbrev S4096x1536 : Shape := ⟨2, ![4096, 1536]⟩
abbrev S2x2048x1536 : Shape := ⟨3, ![2, 2048, 1536]⟩
abbrev S2x2048x512 : Shape := ⟨3, ![2, 2048, 512]⟩
abbrev S2x2048x8x64 : Shape := ⟨4, ![2, 2048, 8, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x8x1 : Shape := ⟨3, ![32, 8, 1]⟩
abbrev S8x32x8x31 : Shape := ⟨4, ![8, 32, 8, 31]⟩
abbrev S64x64x1 : Shape := ⟨3, ![64, 64, 1]⟩
abbrev S1 : Shape := ⟨1, ![1]⟩
abbrev S1x1x1 : Shape := ⟨3, ![1, 1, 1]⟩
abbrev S8x32x8x64x64 : Shape := ⟨5, ![8, 32, 8, 64, 64]⟩
abbrev S8x32x64x8x64 : Shape := ⟨5, ![8, 32, 64, 8, 64]⟩
abbrev S2x32x64x8x64 : Shape := ⟨5, ![2, 32, 64, 8, 64]⟩
abbrev S2x32x8x64x8x64 : Shape := ⟨6, ![2, 32, 8, 64, 8, 64]⟩
abbrev S2x8x32x64x8x64 : Shape := ⟨6, ![2, 8, 32, 64, 8, 64]⟩
abbrev S1x8x32x64x8x64 : Shape := ⟨6, ![1, 8, 32, 64, 8, 64]⟩
abbrev S1x1x1x64x1x64 : Shape := ⟨6, ![1, 1, 1, 64, 1, 64]⟩
abbrev S2x8x32x64x512 : Shape := ⟨5, ![2, 8, 32, 64, 512]⟩
abbrev S2x8x32x64x1024 : Shape := ⟨5, ![2, 8, 32, 64, 1024]⟩
abbrev S2x8x32x64 : Shape := ⟨4, ![2, 8, 32, 64]⟩
abbrev S2x8x32x64x1 : Shape := ⟨5, ![2, 8, 32, 64, 1]⟩
abbrev S2x32x8x64x64 : Shape := ⟨5, ![2, 32, 8, 64, 64]⟩
abbrev S2x8x64x32x64 : Shape := ⟨5, ![2, 8, 64, 32, 64]⟩
abbrev S4096x512 : Shape := ⟨2, ![4096, 512]⟩

abbrev nBuf : Space → Nat
  | .hbm => 182
  | .vmem => 0
  | .smem => 0
  | _ => 0

abbrev hbmTy0_0 (i : Nat) : BufTy := match i % 128 with
  | 0 => ⟨S8192x1536, .f32⟩
  | 1 => ⟨S2x512x8x64, .f32⟩
  | 2 => ⟨S2x512x8x64, .f32⟩
  | 3 => ⟨S8x15x31, .f32⟩
  | 4 => ⟨S4096x1536, .f32⟩
  | 5 => ⟨S2x2048x1536, .f32⟩
  | 6 => ⟨S2x2048x512, .f32⟩
  | 7 => ⟨S2x2048x512, .f32⟩
  | 8 => ⟨S2x2048x512, .f32⟩
  | 9 => ⟨S2x2048x8x64, .f32⟩
  | 10 => ⟨S2x2048x8x64, .f32⟩
  | 11 => ⟨S2x2048x8x64, .f32⟩
  | 12 => ⟨S32, .i32⟩
  | 13 => ⟨S_, .i32⟩
  | 14 => ⟨S32, .i32⟩
  | 15 => ⟨S32, .i32⟩
  | 16 => ⟨S_, .i32⟩
  | 17 => ⟨S_, .i32⟩
  | 18 => ⟨S_, .i32⟩
  | 19 => ⟨S32, .i32⟩
  | 20 => ⟨S32, .i32⟩
  | 21 => ⟨S_, .i32⟩
  | 22 => ⟨S32, .i32⟩
  | 23 => ⟨S32, .i32⟩
  | 24 => ⟨S32x1, .i32⟩
  | 25 => ⟨S8, .i32⟩
  | 26 => ⟨S1x8, .i32⟩
  | 27 => ⟨S32x8, .i32⟩
  | 28 => ⟨S32x8, .i32⟩
  | 29 => ⟨S32x8, .i32⟩
  | 30 => ⟨S64, .i32⟩
  | 31 => ⟨S_, .i32⟩
  | 32 => ⟨S64, .i32⟩
  | 33 => ⟨S64, .i32⟩
  | 34 => ⟨S_, .i32⟩
  | 35 => ⟨S_, .i32⟩
  | 36 => ⟨S_, .i32⟩
  | 37 => ⟨S64, .i32⟩
  | 38 => ⟨S64, .i32⟩
  | 39 => ⟨S_, .i32⟩
  | 40 => ⟨S64, .i32⟩
  | 41 => ⟨S64, .i32⟩
  | 42 => ⟨S1x64, .i32⟩
  | 43 => ⟨S64x1, .i32⟩
  | 44 => ⟨S64x64, .i32⟩
  | 45 => ⟨S64x64, .i32⟩
  | 46 => ⟨S64x64, .i1⟩
  | 47 => ⟨S1x64, .i32⟩
  | 48 => ⟨S64x1, .i32⟩
  | 49 => ⟨S_, .i32⟩
  | 50 => ⟨S64x1, .i32⟩
  | 51 => ⟨S64x1, .i32⟩
  | 52 => ⟨S64x64, .i32⟩
  | 53 => ⟨S64x64, .i32⟩
  | 54 => ⟨S64x64, .i1⟩
  | 55 => ⟨S64x64, .i1⟩
  | 56 => ⟨S32x1, .i32⟩
  | 57 => ⟨S32x8, .i32⟩
  | 58 => ⟨S32x8, .i32⟩
  | 59 => ⟨S_, .i32⟩
  | 60 => ⟨S32x8, .i32⟩
  | 61 => ⟨S32x8, .i32⟩
  | 62 => ⟨S_, .i32⟩
  | 63 => ⟨S32x8, .i32⟩
  | 64 => ⟨S32x8, .i32⟩
  | 65 => ⟨S1x64, .i32⟩
  | 66 => ⟨S64x1, .i32⟩
  | 67 => ⟨S64x64, .i32⟩
  | 68 => ⟨S64x64, .i32⟩
  | 69 => ⟨S64x64, .i32⟩
  | 70 => ⟨S_, .i32⟩
  | 71 => ⟨S_, .i32⟩
  | 72 => ⟨S_, .i32⟩
  | 73 => ⟨S64x64, .i32⟩
  | 74 => ⟨S64x64, .i32⟩
  | 75 => ⟨S_, .i32⟩
  | 76 => ⟨S64x64, .i32⟩
  | 77 => ⟨S64x64, .i32⟩
  | 78 => ⟨S_, .i32⟩
  | 79 => ⟨S64x64, .i32⟩
  | 80 => ⟨S64x64, .i32⟩
  | 81 => ⟨S_, .i32⟩
  | 82 => ⟨S64x64, .i32⟩
  | 83 => ⟨S64x64, .i32⟩
  | 84 => ⟨S_, .i32⟩
  | 85 => ⟨S32x8, .i32⟩
  | 86 => ⟨S32x8, .i1⟩
  | 87 => ⟨S_, .i32⟩
  | 88 => ⟨S32x8, .i32⟩
  | 89 => ⟨S32x8, .i32⟩
  | 90 => ⟨S32x8, .i32⟩
  | 91 => ⟨S32x8x1, .i32⟩
  | 92 => ⟨S8x32x8x31, .f32⟩
  | 93 => ⟨S_, .i32⟩
  | 94 => ⟨S64x64, .i32⟩
  | 95 => ⟨S64x64, .i1⟩
  | 96 => ⟨S_, .i32⟩
  | 97 => ⟨S64x64, .i32⟩
  | 98 => ⟨S64x64, .i32⟩
  | 99 => ⟨S64x64, .i32⟩
  | 100 => ⟨S64x64x1, .i32⟩
  | 101 => ⟨S1, .i32⟩
  | 102 => ⟨S_, .i32⟩
  | 103 => ⟨S64x64x1, .i32⟩
  | 104 => ⟨S64x64x1, .i1⟩
  | 105 => ⟨S1x1x1, .i32⟩
  | 106 => ⟨S64x64x1, .i32⟩
  | 107 => ⟨S64x64x1, .i1⟩
  | 108 => ⟨S64x64x1, .i1⟩
  | 109 => ⟨S_, .i1⟩
  | 110 => ⟨S64x64, .i1⟩
  | 111 => ⟨S8x32x8x64x64, .f32⟩
  | 112 => ⟨S8x32x8x64x64, .i1⟩
  | 113 => ⟨S_, .f32⟩
  | 114 => ⟨S8x32x8x64x64, .f32⟩
  | 115 => ⟨S8x32x8x64x64, .f32⟩
  | 116 => ⟨S8x32x64x8x64, .f32⟩
  | 117 => ⟨S2x32x64x8x64, .f32⟩
  | 118 => ⟨S2x32x64x8x64, .f32⟩
  | 119 => ⟨S_, .i32⟩
  | 120 => ⟨S32x8, .i32⟩
  | 121 => ⟨S32x8, .i1⟩
  | 122 => ⟨S_, .i32⟩
  | 123 => ⟨S32x8, .i32⟩
  | 124 => ⟨S32x8, .i32⟩
  | 125 => ⟨S32x8, .i32⟩
  | 126 => ⟨S32x8x1, .i32⟩
  | 127 => ⟨S2x32x8x64x8x64, .f32⟩
  | _ => ⟨S8192x1536, .f32⟩

abbrev hbmTy0_1 (i : Nat) : BufTy := match i % 128 with
  | 0 => ⟨S2x32x64x8x64, .f32⟩
  | 1 => ⟨S_, .i32⟩
  | 2 => ⟨S32x8, .i32⟩
  | 3 => ⟨S32x8, .i1⟩
  | 4 => ⟨S_, .i32⟩
  | 5 => ⟨S32x8, .i32⟩
  | 6 => ⟨S32x8, .i32⟩
  | 7 => ⟨S32x8, .i32⟩
  | 8 => ⟨S32x8x1, .i32⟩
  | 9 => ⟨S2x32x8x64x8x64, .f32⟩
  | 10 => ⟨S2x8x32x64x8x64, .f32⟩
  | 11 => ⟨S_, .f32⟩
  | 12 => ⟨S2x8x32x64x8x64, .f32⟩
  | 13 => ⟨S2x8x32x64x8x64, .f32⟩
  | 14 => ⟨S1x8x32x64x8x64, .f32⟩
  | 15 => ⟨S2x8x32x64x8x64, .f32⟩
  | 16 => ⟨S2x8x32x64x8x64, .f32⟩
  | 17 => ⟨S1x1x1x64x1x64, .i1⟩
  | 18 => ⟨S_, .f32⟩
  | 19 => ⟨S_, .f32⟩
  | 20 => ⟨S2x8x32x64x8x64, .i1⟩
  | 21 => ⟨S2x8x32x64x8x64, .f32⟩
  | 22 => ⟨S2x8x32x64x8x64, .f32⟩
  | 23 => ⟨S2x8x32x64x512, .f32⟩
  | 24 => ⟨S_, .f32⟩
  | 25 => ⟨S2x8x32x64x512, .f32⟩
  | 26 => ⟨S2x8x32x64x512, .f32⟩
  | 27 => ⟨S2x8x32x64x512, .f32⟩
  | 28 => ⟨S2x8x32x64x1024, .f32⟩
  | 29 => ⟨S_, .f32⟩
  | 30 => ⟨S2x8x32x64, .f32⟩
  | 31 => ⟨S_, .f32⟩
  | 32 => ⟨S2x8x32x64, .f32⟩
  | 33 => ⟨S2x8x32x64, .f32⟩
  | 34 => ⟨S2x8x32x64x1, .f32⟩
  | 35 => ⟨S2x8x32x64x1024, .f32⟩
  | 36 => ⟨S2x8x32x64x1024, .f32⟩
  | 37 => ⟨S2x8x32x64x1024, .f32⟩
  | 38 => ⟨S_, .f32⟩
  | 39 => ⟨S2x8x32x64, .f32⟩
  | 40 => ⟨S2x8x32x64x1, .f32⟩
  | 41 => ⟨S2x8x32x64x1024, .f32⟩
  | 42 => ⟨S2x8x32x64x1024, .f32⟩
  | 43 => ⟨S2x8x32x64x512, .f32⟩
  | 44 => ⟨S2x8x32x64x8x64, .f32⟩
  | 45 => ⟨S2x32x8x64x64, .f32⟩
  | 46 => ⟨S2x32x64x8x64, .f32⟩
  | 47 => ⟨S2x8x32x64x512, .f32⟩
  | 48 => ⟨S2x8x64x32x64, .f32⟩
  | 49 => ⟨S2x32x64x8x64, .f32⟩
  | 50 => ⟨S2x32x64x8x64, .f32⟩
  | 51 => ⟨S2x2048x512, .f32⟩
  | 52 => ⟨S4096x512, .f32⟩
  | 53 => ⟨S4096x512, .bf16⟩
  | _ => ⟨S8192x1536, .f32⟩

abbrev hbmTy (i : Nat) : BufTy := match i / 128 with
  | 0 => hbmTy0_0 i
  | 1 => hbmTy0_1 i
  | _ => ⟨S8192x1536, .f32⟩

abbrev bufTy : (tb : Table) → Fin (tcTables nBuf tb) → BufTy
  | .hbm, ⟨i, _⟩ => hbmTy i
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_c_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_8 : Ref sig .tc := ⟨.hbm, 70, rfl⟩
abbrev main_c_9 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_c_13 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_c_14 : Ref sig .tc := ⟨.hbm, 119, rfl⟩
abbrev main_v63 : Ref sig .tc := ⟨.hbm, 120, rfl⟩
abbrev main_v64 : Ref sig .tc := ⟨.hbm, 121, rfl⟩
abbrev main_c_15 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_c_16 : Ref sig .tc := ⟨.hbm, 129, rfl⟩
abbrev main_v71 : Ref sig .tc := ⟨.hbm, 130, rfl⟩
abbrev main_v72 : Ref sig .tc := ⟨.hbm, 131, rfl⟩
abbrev main_c_17 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_cst : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_cst_18 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v85 : Ref sig .tc := ⟨.hbm, 150, rfl⟩
abbrev main_v86 : Ref sig .tc := ⟨.hbm, 151, rfl⟩
abbrev main_cst_19 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_20 : Ref sig .tc := ⟨.hbm, 157, rfl⟩
abbrev main_v91 : Ref sig .tc := ⟨.hbm, 158, rfl⟩
abbrev main_cst_21 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_cst_22 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩

abbrev nD : Nat := 1
abbrev τ : Topo := Topo.v7x

variable {F : FTy → Type} [FloatOps F]
-- ==== Up.lean ====
abbrev S8192x2048 : Shape := ⟨2, ![8192, 2048]⟩
abbrev S2x2048x11264 : Shape := ⟨3, ![2, 2048, 11264]⟩
abbrev S2x3x11264 : Shape := ⟨3, ![2, 3, 11264]⟩
abbrev S1x3x11264 : Shape := ⟨3, ![1, 3, 11264]⟩
abbrev S3x11264 : Shape := ⟨2, ![3, 11264]⟩
abbrev S8192x5632 : Shape := ⟨2, ![8192, 5632]⟩
abbrev S1024x2048 : Shape := ⟨2, ![1024, 2048]⟩
abbrev S16x2048 : Shape := ⟨2, ![16, 2048]⟩
abbrev S1x2048x512 : Shape := ⟨3, ![1, 2048, 512]⟩
abbrev S3x512 : Shape := ⟨2, ![3, 512]⟩
abbrev S1024x512 : Shape := ⟨2, ![1024, 512]⟩
abbrev S2048x1024 : Shape := ⟨2, ![2048, 1024]⟩
abbrev S1x2048x128 : Shape := ⟨3, ![1, 2048, 128]⟩
abbrev S2048x128 : Shape := ⟨2, ![2048, 128]⟩
abbrev S1056x2048 : Shape := ⟨2, ![1056, 2048]⟩
abbrev S1024x1 : Shape := ⟨2, ![1024, 1]⟩
abbrev S2048x256 : Shape := ⟨2, ![2048, 256]⟩
abbrev S1056x256 : Shape := ⟨2, ![1056, 256]⟩
abbrev S3x128 : Shape := ⟨2, ![3, 128]⟩
abbrev S3x256 : Shape := ⟨2, ![3, 256]⟩
abbrev S1024x256 : Shape := ⟨2, ![1024, 256]⟩
abbrev S1x256 : Shape := ⟨2, ![1, 256]⟩
abbrev S1024x128 : Shape := ⟨2, ![1024, 128]⟩

abbrev nBuf : Space → Nat
  | .hbm => 6
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S1x3x11264, .f32⟩
  | .hbm, ⟨4, _⟩ => ⟨S3x11264, .f32⟩
  | .hbm, ⟨5, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S16x2048, .bf16⟩
  | .local _ .vmem, ⟨5, _⟩ => ⟨S16x2048, .bf16⟩
  | .local _ .vmem, ⟨6, _⟩ => ⟨S1x2048x512, .f32⟩
  | .local _ .vmem, ⟨7, _⟩ => ⟨S1x2048x512, .f32⟩
  | .local _ .vmem, ⟨8, _⟩ => ⟨S1x2048x512, .f32⟩
  | .local _ .vmem, ⟨9, _⟩ => ⟨S1x2048x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S1024x512, .bf16⟩
  | .local _ .vmem, ⟨15, _⟩ => ⟨S1024x512, .bf16⟩
  | .local _ .vmem, ⟨16, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpRefIdeal.lean ====
abbrev S8192x2048 : Shape := ⟨2, ![8192, 2048]⟩
abbrev S2x2048x11264 : Shape := ⟨3, ![2, 2048, 11264]⟩
abbrev S2x3x11264 : Shape := ⟨3, ![2, 3, 11264]⟩
abbrev S1x2048x11264 : Shape := ⟨3, ![1, 2048, 11264]⟩
abbrev S2048x11264 : Shape := ⟨2, ![2048, 11264]⟩
abbrev S8192x11264 : Shape := ⟨2, ![8192, 11264]⟩
abbrev S4096x11264 : Shape := ⟨2, ![4096, 11264]⟩
abbrev S16x256x11264 : Shape := ⟨3, ![16, 256, 11264]⟩
abbrev S1x3x11264 : Shape := ⟨3, ![1, 3, 11264]⟩
abbrev S3x11264 : Shape := ⟨2, ![3, 11264]⟩
abbrev S_ : Shape := ⟨0, ![]⟩
abbrev S16x1x11264 : Shape := ⟨3, ![16, 1, 11264]⟩
abbrev S16x255x11264 : Shape := ⟨3, ![16, 255, 11264]⟩
abbrev S1x11264 : Shape := ⟨2, ![1, 11264]⟩
abbrev S11264 : Shape := ⟨1, ![11264]⟩
abbrev S1x1x11264 : Shape := ⟨3, ![1, 1, 11264]⟩
abbrev S16x256x5632 : Shape := ⟨3, ![16, 256, 5632]⟩
abbrev S4096x5632 : Shape := ⟨2, ![4096, 5632]⟩
abbrev S2x1x11264 : Shape := ⟨3, ![2, 1, 11264]⟩
abbrev S2x2047x11264 : Shape := ⟨3, ![2, 2047, 11264]⟩
abbrev S2x2048x5632 : Shape := ⟨3, ![2, 2048, 5632]⟩
abbrev S8192x5632 : Shape := ⟨2, ![8192, 5632]⟩

abbrev nBuf : Space → Nat
  | .hbm => 89
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11264, .f32⟩
  | .hbm, ⟨2, _⟩ => ⟨S2x3x11264, .f32⟩
  | .hbm, ⟨3, _⟩ => ⟨S8192x2048, .f32⟩
  | .hbm, ⟨4, _⟩ => ⟨S1x2048x11264, .f32⟩
  | .hbm, ⟨5, _⟩ => ⟨S2048x11264, .f32⟩
  | .hbm, ⟨6, _⟩ => ⟨S8192x11264, .f32⟩
  | .hbm, ⟨7, _⟩ => ⟨S4096x11264, .f32⟩
  | .hbm, ⟨8, _⟩ => ⟨S16x256x11264, .f32⟩
  | .hbm, ⟨9, _⟩ => ⟨S1x3x11264, .f32⟩
  | .hbm, ⟨10, _⟩ => ⟨S3x11264, .f32⟩
  | .hbm, ⟨11, _⟩ => ⟨S_, .f32⟩
  | .hbm, ⟨12, _⟩ => ⟨S16x1x11264, .f32⟩
  | .hbm, ⟨13, _⟩ => ⟨S16x255x11264, .f32⟩
  | .hbm, ⟨14, _⟩ => ⟨S16x256x11264, .f32⟩
  | .hbm, ⟨15, _⟩ => ⟨S16x255x11264, .f32⟩
  | .hbm, ⟨16, _⟩ => ⟨S16x256x11264, .f32⟩
  | .hbm, ⟨17, _⟩ => ⟨S1x11264, .f32⟩
  | .hbm, ⟨18, _⟩ => ⟨S11264, .f32⟩
  | .hbm, ⟨19, _⟩ => ⟨S1x1x11264, .f32⟩
  | .hbm, ⟨20, _⟩ => ⟨S16x256x11264, .f32⟩
  | .hbm, ⟨21, _⟩ => ⟨S16x256x11264, .f32⟩
  | .hbm, ⟨22, _⟩ => ⟨S1x11264, .f32⟩
  | .hbm, ⟨23, _⟩ => ⟨S11264, .f32⟩
  | .hbm, ⟨24, _⟩ => ⟨S1x1x11264, .f32⟩
  | .hbm, ⟨25, _⟩ => ⟨S16x256x11264, .f32⟩
  | .hbm, ⟨26, _⟩ => ⟨S16x256x11264, .f32⟩
  | .hbm, ⟨27, _⟩ => ⟨S16x256x11264, .f32⟩
  | .hbm, ⟨28, _⟩ => ⟨S1x11264, .f32⟩
  | .hbm, ⟨29, _⟩ => ⟨S11264, .f32⟩
  | .hbm, ⟨30, _⟩ => ⟨S1x1x11264, .f32⟩
  | .hbm, ⟨31, _⟩ => ⟨S16x256x11264, .f32⟩
  | .hbm, ⟨32, _⟩ => ⟨S16x256x11264, .f32⟩
  | .hbm, ⟨33, _⟩ => ⟨S16x256x11264, .f32⟩
  | .hbm, ⟨34, _⟩ => ⟨S16x256x5632, .f32⟩
  | .hbm, ⟨35, _⟩ => ⟨S16x256x5632, .f32⟩
  | .hbm, ⟨36, _⟩ => ⟨S16x256x5632, .f32⟩
  | .hbm, ⟨37, _⟩ => ⟨S16x256x5632, .f32⟩
  | .hbm, ⟨38, _⟩ => ⟨S_, .f32⟩
  | .hbm, ⟨39, _⟩ => ⟨S16x256x5632, .f32⟩
  | .hbm, ⟨40, _⟩ => ⟨S16x256x5632, .f32⟩
  | .hbm, ⟨41, _⟩ => ⟨S_, .f32⟩
  | .hbm, ⟨42, _⟩ => ⟨S16x256x5632, .f32⟩
  | .hbm, ⟨43, _⟩ => ⟨S16x256x5632, .f32⟩
  | .hbm, ⟨44, _⟩ => ⟨S16x256x5632, .f32⟩
  | .hbm, ⟨45, _⟩ => ⟨S16x256x5632, .f32⟩
  | .hbm, ⟨46, _⟩ => ⟨S4096x5632, .f32⟩
  | .hbm, ⟨47, _⟩ => ⟨S4096x11264, .f32⟩
  | .hbm, ⟨48, _⟩ => ⟨S2x2048x11264, .f32⟩
  | .hbm, ⟨49, _⟩ => ⟨S1x3x11264, .f32⟩
  | .hbm, ⟨50, _⟩ => ⟨S3x11264, .f32⟩
  | .hbm, ⟨51, _⟩ => ⟨S_, .f32⟩
  | .hbm, ⟨52, _⟩ => ⟨S2x1x11264, .f32⟩
  | .hbm, ⟨53, _⟩ => ⟨S2x2047x11264, .f32⟩
  | .hbm, ⟨54, _⟩ => ⟨S2x2048x11264, .f32⟩
  | .hbm, ⟨55, _⟩ => ⟨S2x2047x11264, .f32⟩
  | .hbm, ⟨56, _⟩ => ⟨S2x2048x11264, .f32⟩
  | .hbm, ⟨57, _⟩ => ⟨S1x11264, .f32⟩
  | .hbm, ⟨58, _⟩ => ⟨S11264, .f32⟩
  | .hbm, ⟨59, _⟩ => ⟨S1x1x11264, .f32⟩
  | .hbm, ⟨60, _⟩ => ⟨S2x2048x11264, .f32⟩
  | .hbm, ⟨61, _⟩ => ⟨S2x2048x11264, .f32⟩
  | .hbm, ⟨62, _⟩ => ⟨S1x11264, .f32⟩
  | .hbm, ⟨63, _⟩ => ⟨S11264, .f32⟩
  | .hbm, ⟨64, _⟩ => ⟨S1x1x11264, .f32⟩
  | .hbm, ⟨65, _⟩ => ⟨S2x2048x11264, .f32⟩
  | .hbm, ⟨66, _⟩ => ⟨S2x2048x11264, .f32⟩
  | .hbm, ⟨67, _⟩ => ⟨S2x2048x11264, .f32⟩
  | .hbm, ⟨68, _⟩ => ⟨S1x11264, .f32⟩
  | .hbm, ⟨69, _⟩ => ⟨S11264, .f32⟩
  | .hbm, ⟨70, _⟩ => ⟨S1x1x11264, .f32⟩
  | .hbm, ⟨71, _⟩ => ⟨S2x2048x11264, .f32⟩
  | .hbm, ⟨72, _⟩ => ⟨S2x2048x11264, .f32⟩
  | .hbm, ⟨73, _⟩ => ⟨S2x2048x11264, .f32⟩
  | .hbm, ⟨74, _⟩ => ⟨S2x2048x5632, .f32⟩
  | .hbm, ⟨75, _⟩ => ⟨S2x2048x5632, .f32⟩
  | .hbm, ⟨76, _⟩ => ⟨S2x2048x5632, .f32⟩
  | .hbm, ⟨77, _⟩ => ⟨S2x2048x5632, .f32⟩
  | .hbm, ⟨78, _⟩ => ⟨S_, .f32⟩
  | .hbm, ⟨79, _⟩ => ⟨S2x2048x5632, .f32⟩
  | .hbm, ⟨80, _⟩ => ⟨S2x2048x5632, .f32⟩
  | .hbm, ⟨81, _⟩ => ⟨S_, .f32⟩
  | .hbm, ⟨82, _⟩ => ⟨S2x2048x5632, .f32⟩
  | .hbm, ⟨83, _⟩ => ⟨S2x2048x5632, .f32⟩
  | .hbm, ⟨84, _⟩ => ⟨S2x2048x5632, .f32⟩
  | .hbm, ⟨85, _⟩ => ⟨S2x2048x5632, .f32⟩
  | .hbm, ⟨86, _⟩ => ⟨S4096x5632, .f32⟩
  | .hbm, ⟨87, _⟩ => ⟨S8192x5632, .f32⟩
  | .hbm, ⟨88, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Down.lean ====
abbrev S8192x5632 : Shape := ⟨2, ![8192, 5632]⟩
abbrev S2x5632x2048 : Shape := ⟨3, ![2, 5632, 2048]⟩
abbrev S8192x2048 : Shape := ⟨2, ![8192, 2048]⟩
abbrev S4x1x2048 : Shape := ⟨3, ![4, 1, 2048]⟩
abbrev S1x5632x2048 : Shape := ⟨3, ![1, 5632, 2048]⟩
abbrev S5632x2048 : Shape := ⟨2, ![5632, 2048]⟩
abbrev S1024x5632 : Shape := ⟨2, ![1024, 5632]⟩
abbrev S5632x512 : Shape := ⟨2, ![5632, 512]⟩
abbrev S1x1x512 : Shape := ⟨3, ![1, 1, 512]⟩
abbrev S1024x512 : Shape := ⟨2, ![1024, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S4x1x2048, .f32⟩
  | .hbm, ⟨4, _⟩ => ⟨S1x5632x2048, .f32⟩
  | .hbm, ⟨5, _⟩ => ⟨S5632x2048, .f32⟩
  | .hbm, ⟨6, _⟩ => ⟨S5632x2048, .bf16⟩
  | .hbm, ⟨7, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1x1x512, .f32⟩
  | .local _ .vmem, ⟨5, _⟩ => ⟨S1x1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S8192x5632 : Shape := ⟨2, ![8192, 5632]⟩
abbrev S2x5632x2048 : Shape := ⟨3, ![2, 5632, 2048]⟩
abbrev S8192x2048 : Shape := ⟨2, ![8192, 2048]⟩
abbrev S4x1x2048 : Shape := ⟨3, ![4, 1, 2048]⟩
abbrev S1x5632x2048 : Shape := ⟨3, ![1, 5632, 2048]⟩
abbrev S5632x2048 : Shape := ⟨2, ![5632, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2x5632x2048, .f32⟩
  | .hbm, ⟨2, _⟩ => ⟨S8192x2048, .f32⟩
  | .hbm, ⟨3, _⟩ => ⟨S4x1x2048, .f32⟩
  | .hbm, ⟨4, _⟩ => ⟨S8192x5632, .f32⟩
  | .hbm, ⟨5, _⟩ => ⟨S1x5632x2048, .f32⟩
  | .hbm, ⟨6, _⟩ => ⟨S5632x2048, .f32⟩
  | .hbm, ⟨7, _⟩ => ⟨S8192x2048, .f32⟩
  | .hbm, ⟨8, _⟩ => ⟨S4x2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Mix.lean ====
abbrev S8192x2048 : Shape := ⟨2, ![8192, 2048]⟩
abbrev S2x2048x12320 : Shape := ⟨3, ![2, 2048, 12320]⟩
abbrev S8192x4608 : Shape := ⟨2, ![8192, 4608]⟩
abbrev S1024x2048 : Shape := ⟨2, ![1024, 2048]⟩
abbrev S1x2048x768 : Shape := ⟨3, ![1, 2048, 768]⟩
abbrev S1x2048x128 : Shape := ⟨3, ![1, 2048, 128]⟩
abbrev S1024x768 : Shape := ⟨2, ![1024, 768]⟩
abbrev S2048x768 : Shape := ⟨2, ![2048, 768]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x12320, .f32⟩
  | .hbm, ⟨2, _⟩ => ⟨S2x2048x12320, .bf16⟩
  | .hbm, ⟨3, _⟩ => ⟨S8192x4608, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x768, .bf16⟩
  | .local _ .vmem, ⟨7, _⟩ => ⟨S1024x768, .bf16⟩
  | .local _ .vmem, ⟨8, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let v1 : BitVec 32 := Scalar.addi v0 c1_i32
  let c6_i32 : BitVec 32 := 6#32
  let v2 : BitVec 32 := Scalar.muli v1 c6_i32
  let c0_i32_0 : BitVec 32 := 0#32
  let c0_i32_1 : BitVec 32 := 0#32
  let c0_i32_2 : BitVec 32 := 0#32
  ![c0_i32_0.toNat, c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MixRefIdeal.lean ====
abbrev S8192x2048 : Shape := ⟨2, ![8192, 2048]⟩
abbrev S2x2048x12320 : Shape := ⟨3, ![2, 2048, 12320]⟩
abbrev S1x2048x12320 : Shape := ⟨3, ![1, 2048, 12320]⟩
abbrev S2048x12320 : Shape := ⟨2, ![2048, 12320]⟩
abbrev S8192x12320 : Shape := ⟨2, ![8192, 12320]⟩
abbrev S8192x4608 : Shape := ⟨2, ![8192, 4608]⟩
abbrev S8192x32 : Shape := ⟨2, ![8192, 32]⟩
abbrev S8192x1536 : Shape := ⟨2, ![8192, 1536]⟩
abbrev S8192x6144 : Shape := ⟨2, ![8192, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x12320, .f32⟩
  | .hbm, ⟨2, _⟩ => ⟨S8192x2048, .f32⟩
  | .hbm, ⟨3, _⟩ => ⟨S1x2048x12320, .f32⟩
  | .hbm, ⟨4, _⟩ => ⟨S2048x12320, .f32⟩
  | .hbm, ⟨5, _⟩ => ⟨S8192x12320, .f32⟩
  | .hbm, ⟨6, _⟩ => ⟨S8192x4608, .f32⟩
  | .hbm, ⟨7, _⟩ => ⟨S8192x32, .f32⟩
  | .hbm, ⟨8, _⟩ => ⟨S8192x1536, .f32⟩
  | .hbm, ⟨9, _⟩ => ⟨S8192x6144, .f32⟩
  | .hbm, ⟨10, _⟩ => ⟨S8192x4608, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Out.lean ====
abbrev S8192x2048 : Shape := ⟨2, ![8192, 2048]⟩
abbrev S2x2048x2048 : Shape := ⟨3, ![2, 2048, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x1x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S8192x2048 : Shape := ⟨2, ![8192, 2048]⟩
abbrev S2x2048x2048 : Shape := ⟨3, ![2, 2048, 2048]⟩
abbrev S4x1x2048 : Shape := ⟨3, ![4, 1, 2048]⟩
abbrev S1x2048x2048 : Shape := ⟨3, ![1, 2048, 2048]⟩
abbrev S2048x2048 : Shape := ⟨2, ![2048, 2048]⟩
abbrev S4x2048x2048 : Shape := ⟨3, ![4, 2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S4x1x2048, .f32⟩
  | .hbm, ⟨4, _⟩ => ⟨S8192x2048, .f32⟩
  | .hbm, ⟨5, _⟩ => ⟨S1x2048x2048, .f32⟩
  | .hbm, ⟨6, _⟩ => ⟨S2048x2048, .f32⟩
  | .hbm, ⟨7, _⟩ => ⟨S8192x2048, .f32⟩
  | .hbm, ⟨8, _⟩ => ⟨S4x2048x2048, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Qkv.lean ====
abbrev S8192x2048 : Shape := ⟨2, ![8192, 2048]⟩
abbrev S2x2048x12320 : Shape := ⟨3, ![2, 2048, 12320]⟩
abbrev S8192x1536 : Shape := ⟨2, ![8192, 1536]⟩
abbrev S1024x2048 : Shape := ⟨2, ![1024, 2048]⟩
abbrev S1x2048x768 : Shape := ⟨3, ![1, 2048, 768]⟩
abbrev S1x2048x128 : Shape := ⟨3, ![1, 2048, 128]⟩
abbrev S1024x768 : Shape := ⟨2, ![1024, 768]⟩
abbrev S2048x768 : Shape := ⟨2, ![2048, 768]⟩
abbrev S2048x736 : Shape := ⟨2, ![2048, 736]⟩
abbrev S1x2048x32 : Shape := ⟨3, ![1, 2048, 32]⟩
abbrev S2048x32 : Shape := ⟨2, ![2048, 32]⟩
abbrev S4096x512 : Shape := ⟨2, ![4096, 512]⟩
abbrev S16x256x8x64 : Shape := ⟨4, ![16, 256, 8, 64]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x12320, .f32⟩
  | .hbm, ⟨2, _⟩ => ⟨S2x2048x12320, .bf16⟩
  | .hbm, ⟨3, _⟩ => ⟨S8192x1536, .f32⟩
  | .hbm, ⟨4, _⟩ => ⟨S4096x512, .f32⟩
  | .hbm, ⟨5, _⟩ => ⟨S16x256x8x64, .f32⟩
  | .hbm, ⟨6, _⟩ => ⟨S4096x512, .f32⟩
  | .hbm, ⟨7, _⟩ => ⟨S16x256x8x64, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x768, .f32⟩
  | .local _ .vmem, ⟨7, _⟩ => ⟨S1024x768, .f32⟩
  | .local _ .vmem, ⟨8, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c1_i32 : BitVec 32 := 1#32
  let v1 : BitVec 32 := Scalar.addi v0 c1_i32
  let c6_i32_0 : BitVec 32 := 6#32
  let v2 : BitVec 32 := Scalar.muli v1 c6_i32_0
  let c0_i32 : BitVec 32 := 0#32
  let c0_i32_1 : BitVec 32 := 0#32
  let c0_i32_2 : BitVec 32 := 0#32
  ![c0_i32.toNat, c0_i32_1.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S8192x2048 : Shape := ⟨2, ![8192, 2048]⟩
abbrev S2x2048x12320 : Shape := ⟨3, ![2, 2048, 12320]⟩
abbrev S1x2048x12320 : Shape := ⟨3, ![1, 2048, 12320]⟩
abbrev S2048x12320 : Shape := ⟨2, ![2048, 12320]⟩
abbrev S8192x12320 : Shape := ⟨2, ![8192, 12320]⟩
abbrev S8192x4608 : Shape := ⟨2, ![8192, 4608]⟩
abbrev S8192x32 : Shape := ⟨2, ![8192, 32]⟩
abbrev S8192x1536 : Shape := ⟨2, ![8192, 1536]⟩
abbrev S8192x6144 : Shape := ⟨2, ![8192, 6144]⟩
abbrev S4096x1536 : Shape := ⟨2, ![4096, 1536]⟩
abbrev S4096x512 : Shape := ⟨2, ![4096, 512]⟩
abbrev S16x256x8x64 : Shape := ⟨4, ![16, 256, 8, 64]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x12320, .f32⟩
  | .hbm, ⟨2, _⟩ => ⟨S8192x2048, .f32⟩
  | .hbm, ⟨3, _⟩ => ⟨S1x2048x12320, .f32⟩
  | .hbm, ⟨4, _⟩ => ⟨S2048x12320, .f32⟩
  | .hbm, ⟨5, _⟩ => ⟨S8192x12320, .f32⟩
  | .hbm, ⟨6, _⟩ => ⟨S8192x4608, .f32⟩
  | .hbm, ⟨7, _⟩ => ⟨S8192x32, .f32⟩
  | .hbm, ⟨8, _⟩ => ⟨S8192x1536, .f32⟩
  | .hbm, ⟨9, _⟩ => ⟨S8192x6144, .f32⟩
  | .hbm, ⟨10, _⟩ => ⟨S4096x1536, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S16x256x8x64, .f32⟩
  | .hbm, ⟨15, _⟩ => ⟨S16x256x8x64, .f32⟩
  | .hbm, ⟨16, _⟩ => ⟨S16x256x8x64, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Second.lean ====
abbrev S8192x2048 : Shape := ⟨2, ![8192, 2048]⟩
abbrev S2x2048x12320 : Shape := ⟨3, ![2, 2048, 12320]⟩
abbrev S8192x1536 : Shape := ⟨2, ![8192, 1536]⟩
abbrev S1024x2048 : Shape := ⟨2, ![1024, 2048]⟩
abbrev S1x2048x768 : Shape := ⟨3, ![1, 2048, 768]⟩
abbrev S1x2048x128 : Shape := ⟨3, ![1, 2048, 128]⟩
abbrev S1024x768 : Shape := ⟨2, ![1024, 768]⟩
abbrev S2048x768 : Shape := ⟨2, ![2048, 768]⟩
abbrev S2048x736 : Shape := ⟨2, ![2048, 736]⟩
abbrev S1x2048x32 : Shape := ⟨3, ![1, 2048, 32]⟩
abbrev S2048x32 : Shape := ⟨2, ![2048, 32]⟩
abbrev S4096x512 : Shape := ⟨2, ![4096, 512]⟩
abbrev S16x256x8x64 : Shape := ⟨4, ![16, 256, 8, 64]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2x2048x12320, .f32⟩
  | .hbm, ⟨2, _⟩ => ⟨S2x2048x12320, .bf16⟩
  | .hbm, ⟨3, _⟩ => ⟨S8192x1536, .f32⟩
  | .hbm, ⟨4, _⟩ => ⟨S4096x512, .f32⟩
  | .hbm, ⟨5, _⟩ => ⟨S16x256x8x64, .f32⟩
  | .hbm, ⟨6, _⟩ => ⟨S4096x512, .f32⟩
  | .hbm, ⟨7, _⟩ => ⟨S16x256x8x64, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x2048x128, .bf16⟩
  | .local _ .vmem, ⟨5, _⟩ => ⟨S1x2048x128, .bf16⟩
  | .local _ .vmem, ⟨6, _⟩ => ⟨S1024x768, .f32⟩
  | .local _ .vmem, ⟨7, _⟩ => ⟨S1024x768, .f32⟩
  | .local _ .vmem, ⟨8, _⟩ => ⟨S2048x768, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c1_i32 : BitVec 32 := 1#32
  let v1 : BitVec 32 := Scalar.addi v0 c1_i32
  let c6_i32_0 : BitVec 32 := 6#32
  let v2 : BitVec 32 := Scalar.muli v1 c6_i32_0
  let c1_i32_1 : BitVec 32 := 1#32
  let c0_i32 : BitVec 32 := 0#32
  let c0_i32_2 : BitVec 32 := 0#32
  ![c1_i32_1.toNat, c0_i32.toNat, v2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SecondRefIdeal.lean ====
abbrev S8192x2048 : Shape := ⟨2, ![8192, 2048]⟩
abbrev S2x2048x12320 : Shape := ⟨3, ![2, 2048, 12320]⟩
abbrev S1x2048x12320 : Shape := ⟨3, ![1, 2048, 12320]⟩
abbrev S2048x12320 : Shape := ⟨2, ![2048, 12320]⟩
abbrev S8192x12320 : Shape := ⟨2, ![8192, 12320]⟩
abbrev S8192x4608 : Shape := ⟨2, ![8192, 4608]⟩
abbrev S8192x32 : Shape := ⟨2, ![8192, 32]⟩
abbrev S8192x1536 : Shape := ⟨2, ![8192, 1536]⟩
abbrev S8192x6144 : Shape := ⟨2, ![8192, 6144]⟩
abbrev S4096x1536 : Shape := ⟨2, ![4096, 1536]⟩
abbrev S4096x512 : Shape := ⟨2, ![4096, 512]⟩
abbrev S16x256x8x64 : Shape := ⟨4, ![16, 256, 8, 64]⟩

abbrev nBuf : Space → Nat
  | .hbm => 17
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x12320, .f32⟩
  | .hbm, ⟨2, _⟩ => ⟨S8192x2048, .f32⟩
  | .hbm, ⟨3, _⟩ => ⟨S1x2048x12320, .f32⟩
  | .hbm, ⟨4, _⟩ => ⟨S2048x12320, .f32⟩
  | .hbm, ⟨5, _⟩ => ⟨S8192x12320, .f32⟩
  | .hbm, ⟨6, _⟩ => ⟨S8192x4608, .f32⟩
  | .hbm, ⟨7, _⟩ => ⟨S8192x32, .f32⟩
  | .hbm, ⟨8, _⟩ => ⟨S8192x1536, .f32⟩
  | .hbm, ⟨9, _⟩ => ⟨S8192x6144, .f32⟩
  | .hbm, ⟨10, _⟩ => ⟨S4096x1536, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S16x256x8x64, .f32⟩
  | .hbm, ⟨15, _⟩ => ⟨S16x256x8x64, .f32⟩
  | .hbm, ⟨16, _⟩ => ⟨S16x256x8x64, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Merge.lean ====
abbrev S8192x512 : Shape := ⟨2, ![8192, 512]⟩
abbrev S4096x1024 : Shape := ⟨2, ![4096, 1024]⟩
abbrev S4096x512 : Shape := ⟨2, ![4096, 512]⟩
abbrev S2x512x2048 : Shape := ⟨3, ![2, 512, 2048]⟩
abbrev S2x1024x2048 : Shape := ⟨3, ![2, 1024, 2048]⟩
abbrev S8192x6144 : Shape := ⟨2, ![8192, 6144]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩
abbrev S8192x2048 : Shape := ⟨2, ![8192, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 19
  | .vmem => 24
  | .smem => 0
  | _ => 0

abbrev bufTy : (tb : Table) → Fin (tcTables nBuf tb) → BufTy
  | .hbm, ⟨0, _⟩ => ⟨S8192x512, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x512, .bf16⟩
  | .hbm, ⟨5, _⟩ => ⟨S2x512x2048, .f32⟩
  | .hbm, ⟨6, _⟩ => ⟨S2x1024x2048, .f32⟩
  | .hbm, ⟨7, _⟩ => ⟨S2x512x2048, .f32⟩
  | .hbm, ⟨8, _⟩ => ⟨S8192x6144, .bf16⟩
  | .hbm, ⟨9, _⟩ => ⟨S1x512x2048, .f32⟩
  | .hbm, ⟨10, _⟩ => ⟨S512x2048, .f32⟩
  | .hbm, ⟨11, _⟩ => ⟨S512x2048, .bf16⟩
  | .hbm, ⟨12, _⟩ => ⟨S1x1024x2048, .f32⟩
  | .hbm, ⟨13, _⟩ => ⟨S1024x2048, .f32⟩
  | .hbm, ⟨14, _⟩ => ⟨S1024x2048, .bf16⟩
  | .hbm, ⟨15, _⟩ => ⟨S1x512x2048, .f32⟩
  | .hbm, ⟨16, _⟩ => ⟨S512x2048, .f32⟩
  | .hbm, ⟨17, _⟩ => ⟨S512x2048, .bf16⟩
  | .hbm, ⟨18, _⟩ => ⟨S8192x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MergeRefIdeal.lean ====
abbrev S8192x512 : Shape := ⟨2, ![8192, 512]⟩
abbrev S4096x1024 : Shape := ⟨2, ![4096, 1024]⟩
abbrev S4096x512 : Shape := ⟨2, ![4096, 512]⟩
abbrev S2x512x2048 : Shape := ⟨3, ![2, 512, 2048]⟩
abbrev S2x1024x2048 : Shape := ⟨3, ![2, 1024, 2048]⟩
abbrev S8192x6144 : Shape := ⟨2, ![8192, 6144]⟩
abbrev S8192x1024 : Shape := ⟨2, ![8192, 1024]⟩
abbrev S_ : Shape := ⟨0, ![]⟩
abbrev S8192x3x2048 : Shape := ⟨3, ![8192, 3, 2048]⟩
abbrev S8192x1x2048 : Shape := ⟨3, ![8192, 1, 2048]⟩
abbrev S8192x2048 : Shape := ⟨2, ![8192, 2048]⟩
abbrev S1x512x2048 : Shape := ⟨3, ![1, 512, 2048]⟩
abbrev S512x2048 : Shape := ⟨2, ![512, 2048]⟩
abbrev S1x1024x2048 : Shape := ⟨3, ![1, 1024, 2048]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S4096x1024, .bf16⟩
  | .hbm, ⟨2, _⟩ => ⟨S4096x1024, .bf16⟩
  | .hbm, ⟨3, _⟩ => ⟨S4096x512, .bf16⟩
  | .hbm, ⟨4, _⟩ => ⟨S4096x512, .bf16⟩
  | .hbm, ⟨5, _⟩ => ⟨S2x512x2048, .f32⟩
  | .hbm, ⟨6, _⟩ => ⟨S2x1024x2048, .f32⟩
  | .hbm, ⟨7, _⟩ => ⟨S2x512x2048, .f32⟩
  | .hbm, ⟨8, _⟩ => ⟨S8192x6144, .bf16⟩
  | .hbm, ⟨9, _⟩ => ⟨S8192x1024, .bf16⟩
  | .hbm, ⟨10, _⟩ => ⟨S8192x1024, .f32⟩
  | .hbm, ⟨11, _⟩ => ⟨S8192x512, .bf16⟩
  | .hbm, ⟨12, _⟩ => ⟨S8192x512, .f32⟩
  | .hbm, ⟨13, _⟩ => ⟨S8192x6144, .f32⟩
  | .hbm, ⟨14, _⟩ => ⟨S8192x6144, .f32⟩
  | .hbm, ⟨15, _⟩ => ⟨S8192x6144, .f32⟩
  | .hbm, ⟨16, _⟩ => ⟨S_, .f32⟩
  | .hbm, ⟨17, _⟩ => ⟨S8192x6144, .f32⟩
  | .hbm, ⟨18, _⟩ => ⟨S8192x6144, .f32⟩
  | .hbm, ⟨19, _⟩ => ⟨S_, .f32⟩
  | .hbm, ⟨20, _⟩ => ⟨S8192x6144, .f32⟩
  | .hbm, ⟨21, _⟩ => ⟨S8192x6144, .f32⟩
  | .hbm, ⟨22, _⟩ => ⟨S8192x3x2048, .f32⟩
  | .hbm, ⟨23, _⟩ => ⟨S8192x1x2048, .f32⟩
  | .hbm, ⟨24, _⟩ => ⟨S8192x2048, .f32⟩
  | .hbm, ⟨25, _⟩ => ⟨S8192x512, .f32⟩
  | .hbm, ⟨26, _⟩ => ⟨S1x512x2048, .f32⟩
  | .hbm, ⟨27, _⟩ => ⟨S512x2048, .f32⟩
  | .hbm, ⟨28, _⟩ => ⟨S8192x2048, .f32⟩
  | .hbm, ⟨29, _⟩ => ⟨S8192x2048, .f32⟩
  | .hbm, ⟨30, _⟩ => ⟨S8192x1x2048, .f32⟩
  | .hbm, ⟨31, _⟩ => ⟨S8192x2048, .f32⟩
  | .hbm, ⟨32, _⟩ => ⟨S1x1024x2048, .f32⟩
  | .hbm, ⟨33, _⟩ => ⟨S1024x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x1x2048, .f32⟩
  | .hbm, ⟨38, _⟩ => ⟨S8192x2048, .f32⟩
  | .hbm, ⟨39, _⟩ => ⟨S1x512x2048, .f32⟩
  | .hbm, ⟨40, _⟩ => ⟨S512x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Norm.lean ====
abbrev S8192x2048 : Shape := ⟨2, ![8192, 2048]⟩
abbrev S2x2048 : Shape := ⟨2, ![2, 2048]⟩
abbrev S4x1x2048 : Shape := ⟨3, ![4, 1, 2048]⟩
abbrev S1x2048 : Shape := ⟨2, ![1, 2048]⟩
abbrev S2048 : Shape := ⟨1, ![2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .bf16⟩
  | .local _ .vmem, ⟨8, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x2048 : Shape := ⟨2, ![8192, 2048]⟩
abbrev S2x2048 : Shape := ⟨2, ![2, 2048]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S4x2048x2048 : Shape := ⟨3, ![4, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2x2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S4x2048x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S4x2048x2048, .f32⟩
  | .hbm, ⟨29, _⟩ => ⟨S8192x2048, .f32⟩
  | .hbm, ⟨30, _⟩ => ⟨S8192x2048, .f32⟩
  | .hbm, ⟨31, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Prompt.lean ====
abbrev S8192x2048 : Shape := ⟨2, ![8192, 2048]⟩
abbrev S2048 : Shape := ⟨1, ![2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩
abbrev S16x256x2048 : Shape := ⟨3, ![16, 256, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S4096x2048, .f32⟩
  | .hbm, ⟨4, _⟩ => ⟨S16x256x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PromptRefIdeal.lean ====
abbrev S8192x2048 : Shape := ⟨2, ![8192, 2048]⟩
abbrev S2048 : Shape := ⟨1, ![2048]⟩
abbrev S4096x2048 : Shape := ⟨2, ![4096, 2048]⟩
abbrev S16x256x2048 : Shape := ⟨3, ![16, 256, 2048]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4096x2048, .f32⟩
  | .hbm, ⟨3, _⟩ => ⟨S16x256x2048, .f32⟩
  | .hbm, ⟨4, _⟩ => ⟨S16x256x2048, .f32⟩
  | .hbm, ⟨5, _⟩ => ⟨S_, .f32⟩
  | .hbm, ⟨6, _⟩ => ⟨S16x256, .f32⟩
  | .hbm, ⟨7, _⟩ => ⟨S16x256x1, .f32⟩
  | .hbm, ⟨8, _⟩ => ⟨S_, .f32⟩
  | .hbm, ⟨9, _⟩ => ⟨S16x256x1, .f32⟩
  | .hbm, ⟨10, _⟩ => ⟨S16x256x1, .f32⟩
  | .hbm, ⟨11, _⟩ => ⟨S_, .f32⟩
  | .hbm, ⟨12, _⟩ => ⟨S16x256x1, .f32⟩
  | .hbm, ⟨13, _⟩ => ⟨S16x256x1, .f32⟩
  | .hbm, ⟨14, _⟩ => ⟨S16x256x1, .f32⟩
  | .hbm, ⟨15, _⟩ => ⟨S16x256x2048, .f32⟩
  | .hbm, ⟨16, _⟩ => ⟨S16x256x2048, .f32⟩
  | .hbm, ⟨17, _⟩ => ⟨S1x1x2048, .f32⟩
  | .hbm, ⟨18, _⟩ => ⟨S16x256x2048, .f32⟩
  | .hbm, ⟨19, _⟩ => ⟨S16x256x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Sample.lean ====
abbrev S8192x2048 : Shape := ⟨2, ![8192, 2048]⟩
abbrev S2048 : Shape := ⟨1, ![2048]⟩
abbrev S1x2048 : Shape := ⟨2, ![1, 2048]⟩
abbrev S4096x2048 : Shape := ⟨2, ![4096, 2048]⟩
abbrev S512x2048 : Shape := ⟨2, ![512, 2048]⟩
abbrev S512 : Shape := ⟨1, ![512]⟩
abbrev S512x1 : Shape := ⟨2, ![512, 1]⟩
abbrev S2x2048x2048 : Shape := ⟨3, ![2, 2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S4096x2048, .f32⟩
  | .hbm, ⟨4, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SampleRefIdeal.lean ====
abbrev S8192x2048 : Shape := ⟨2, ![8192, 2048]⟩
abbrev S2048 : Shape := ⟨1, ![2048]⟩
abbrev S4096x2048 : Shape := ⟨2, ![4096, 2048]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4096x2048, .f32⟩
  | .hbm, ⟨3, _⟩ => ⟨S2x2048x2048, .f32⟩
  | .hbm, ⟨4, _⟩ => ⟨S2x2048x2048, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x2048, .f32⟩
  | .hbm, ⟨16, _⟩ => ⟨S2x2048x2048, .f32⟩
  | .hbm, ⟨17, _⟩ => ⟨S1x1x2048, .f32⟩
  | .hbm, ⟨18, _⟩ => ⟨S2x2048x2048, .f32⟩
  | .hbm, ⟨19, _⟩ => ⟨S2x2048x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Finite.lean ====
module

public import proofs.«01_k».proof.Pre_finite
public import Idealize.ShloMosaic.Lib.Pointwise
public import Idealize.ShloMosaic.Lib.ReduceAll

@[expose] public section

noncomputable section

namespace Cert.Pre_finite

open Idealize.ShloMosaic
open Facts

/-- A number below plus infinity in absolute value is neither infinity. -/
theorem real_of_word (x : Ideal .f32) (h : FloatOps.cmpf .olt (FloatOps.absf x) (Ideal.ofBits .f32 0x7F800000#32) = 1#1) : ∃ r : ℝ, (x : EReal) = (r : EReal) := by
  have ht : Ideal.ofBits .f32 0x7F800000#32 = ⊤ := by simp [Ideal.ofBits, Ideal.ieee]
  rw [ht] at h
  induction x using EReal.rec with
  | bot => exact absurd h (by simp [Ideal.cmpf_def, Ideal.absf_def, Ideal.cmp])
  | top => exact absurd h (by simp [Ideal.cmpf_def, Ideal.absf_def, Ideal.cmp])
  | coe r => exact ⟨r, rfl⟩

theorem andi_one (x y : BitVec 1) (h : IntOp.andi x y = 1#1) : x = 1#1 ∧ y = 1#1 := IntOp.andi_eq_one.1 h

/-- The predicate's side conditions. -/
instance facts : Facts where
  bcast_S_S8192x1536 := by decide
  reducesTo_S8192x1536_S_d0_1 := by decide
  h_S_ := by decide
  bcast_S_S2x512x8x64 := by decide
  reducesTo_S2x512x8x64_S_d0_1_2_3 := by decide
  bcast_S_S8x15x31 := by decide
  reducesTo_S8x15x31_S_d0_1_2 := by decide

variable [Facts]

instance : Subsingleton S_.Idx := ⟨fun a b => funext fun i => i.elim0⟩

theorem of_fn (a : FVec Ideal S8192x1536 .f32) (b d : FVec Ideal S2x512x8x64 .f32) (e : FVec Ideal S8x15x31 .f32)
    (h : fn a b d e = fun _ => 1#1) :
    (∀ i, ∃ r : ℝ, (a i : EReal) = (r : EReal)) ∧ (∀ i, ∃ r : ℝ, (b i : EReal) = (r : EReal)) ∧ ∀ i, ∃ r : ℝ, (e i : EReal) = (r : EReal) := by
  have h0 := congrFun h (fun i => i.elim0)
  unfold fn at h0
  obtain ⟨h1, h2⟩ := andi_one _ _ h0
  obtain ⟨h3, h4⟩ := andi_one _ _ h1
  exact ⟨fun i => real_of_word _ (Host.reduce_andi_all _ _ _ _ _ h3 i), fun i => real_of_word _ (Host.reduce_andi_all _ _ _ _ _ h4 i),
    fun i => real_of_word _ (Host.reduce_andi_all _ _ _ _ _ h2 i)⟩

end Cert.Pre_finite
-- ==== Proof.Trip.lean ====
module

public import proofs.«01_k».proof.Proof.Gen.NaIdeal.Value
public import Idealize.ShloMosaic.Lib.Pipeline.ValueKit
public import Idealize.ShloMosaic.Lib.Pointwise
public import Idealize.ShloMosaic.Lib.Claim

@[expose] public section

set_option maxRecDepth 16384

noncomputable section

namespace Cert.NaIdeal.Na

open Cert.NaIdeal Cert.NaIdeal.Gen Idealize.ShloMosaic Idealize.ShloMosaic.TcCoe Idealize.SL.Sem

variable {F : FTy → Type} [FloatOps F]

theorem trips_eq : k0_t1_loop.trips = 32 := by decide +kernel

theorem off1_eq : ∀ k : Fin k0_t1_loop.trips, k0_off1 k 0 = 64 * k.val ∧ k0_off1 k 1 = 0 := by decide +kernel

theorem off2_eq : ∀ k : Fin k0_t1_loop.trips, k0_off2 k 0 = 64 * min 24 (k.val - 4) ∧ k0_off2 k 1 = 0 := by decide +kernel

theorem off3_eq : ∀ k : Fin k0_t1_loop.trips, k0_off3 k 0 = 0 ∧ k0_off3 k 1 = min 24 (k.val - 4) + 7 - k.val
    ∧ k0_off3 k 2 = 0 ∧ k0_off3 k 3 = 0 := by decide +kernel

/-- The lane numbers 0 … 127 as the body makes them. -/
def lanes : IVec S1x128 32 := kernelRun0_A.sl.v22

/-- What trip `k` stores: the attention of grid row `k`'s 64 queries for two heads. -/
def Tile (x0 x1 x2 : Vec F S2048x128 .f32) (x3 x4 : Vec F S1x512x128 .f32) (x5 : Vec F S2x8x64x512 .f32)
    (k : Fin k0_t1_loop.trips) : Vec F S64x128 .bf16 :=
  k0_pay5 (View.ld (k0_pay1 x1) (Rect.unit (s := S2048x128) (k0_off2 k) S512x128.size (k0_off2_inb k)))
    (View.ld (k0_pay2 x2) (Rect.unit (s := S2048x128) (k0_off2 k) S512x128.size (k0_off2_inb k))) (k0_pay6 lanes)
    (k0_pay7 lanes (View.ld x0 (Rect.unit (s := S2048x128) (k0_off1 k) S64x128.size (k0_off1_inb k))))
    (View.ld x5 (Rect.unit (s := S2x8x64x512) (k0_off3 k) S2x1x64x512.size (k0_off3_inb k))) (k0_pay3 x3) (k0_pay4 x4)

section Body

variable (c : Dev nD) (i : grid0.Coords) (arg2 : Memref sig .tc .vmem S2048x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S1x512x128 .f32) (harg5 : arg5.IsWhole)
  (arg6 : Memref sig .tc .vmem S1x512x128 .f32) (harg6 : arg6.IsWhole) (arg7 : Memref sig .tc .vmem S2x8x64x512 .f32) (harg7 : arg7.IsWhole)
  (arg8 : Memref sig .tc .vmem S2048x128 .bf16) (harg8 : arg8.IsWhole) (arg9 : Memref sig .tc .vmem S2048x128 .bf16) (harg9 : arg9.IsWhole)
  (arg10 : Memref sig .tc .vmem S2048x128 .bf16) (harg10 : arg10.IsWhole) (arg11 : Memref sig .tc .vmem S512x128 .bf16) (harg11 : arg11.IsWhole)
  (arg12 : Memref sig .tc .vmem S512x128 .bf16) (harg12 : arg12.IsWhole)
  (x0 x1 x2 : Vec F S2048x128 .f32) (x3 x4 : Vec F S1x512x128 .f32) (x5 : Vec F S2x8x64x512 .f32)

theorem trip_pieces (k : Fin k0_t1_loop.trips) :
    tripL_k0_t1 (F := F) Variants.none c none i arg2 harg2 arg3 harg3 arg4 harg4 arg5 harg5 arg6 harg6 arg7 harg7 arg8 harg8 arg9
      harg9 arg10 harg10 arg11 harg11 arg12 harg12 kernelRun0_A.sl.v22 (harg2.unread x0) (harg7.unread x5)
      (arg9.view.writes (Elt F) arg9.view.junk (kernelRun0_A.sl.HS0_1 c arg3 harg3 x1))
      (arg10.view.writes (Elt F) arg10.view.junk (kernelRun0_A.sl.HS1_1 c arg4 harg4 x2))
      (arg11.view.writes (Elt F) arg11.view.junk (kernelRun0_A.sl.HS2_1 c arg5 harg5 x3))
      (arg12.view.writes (Elt F) arg12.view.junk (kernelRun0_A.sl.HS3_1 c arg6 harg6 x4)) k
    = [⟨Rect.unit (k0_off1 k) S64x128.size (k0_off1_inb k), Tile x0 x1 x2 x3 x4 x5 k⟩] := by
  unfold tripL_k0_t1 trip_k0_t1 trip_k0_t1.sl.r trip_k0_t1.sl.r_1 trip_k0_t1.sl.r_2 kernelRun0_A.sl.HS0_1 kernelRun0_A.sl.HS1_1
    kernelRun0_A.sl.HS2_1 kernelRun0_A.sl.HS3_1
  frame_out
  rfl

/-- The block the trips leave: row `64·k + q` holds trip `k`'s row `q`. -/
def Block (y : S2048x128.Idx) : Elt F .bf16 :=
  Tile x0 x1 x2 x3 x4 x5 ⟨(y 0).val / 64, by have := (y 0).isLt; rw [trips_eq]; change _ < 2048 at this; omega⟩
    (show S64x128.Idx from fun a => match a with
      | ⟨0, _⟩ => ⟨(y 0).val % 64, Nat.mod_lt _ (by decide)⟩
      | ⟨1, _⟩ => ⟨(y 1).val, (y 1).isLt⟩)

theorem piece_block (k : Fin k0_t1_loop.trips) (x : S64x128.Idx) :
    Tile x0 x1 x2 x3 x4 x5 k x
      = Block x0 x1 x2 x3 x4 x5 ((Rect.unit (s := S2048x128) (k0_off1 k) S64x128.size (k0_off1_inb k)).emb x) := by
  have h0 : ((Rect.unit (s := S2048x128) (k0_off1 k) S64x128.size (k0_off1_inb k)).emb x 0).val = 64 * k.val + (x 0).val := by
    rw [← (off1_eq k).1]; show k0_off1 k 0 + 1 * (x 0).val = _; omega
  have h1 : ((Rect.unit (s := S2048x128) (k0_off1 k) S64x128.size (k0_off1_inb k)).emb x 1).val = (x 1).val := by
    have := (off1_eq k).2
    show k0_off1 k 1 + 1 * (x 1).val = _; omega
  have hx : (x 0).val < 64 := (x 0).isLt
  unfold Block
  congr 1
  · ext; show k.val = ((Rect.unit (s := S2048x128) (k0_off1 k) S64x128.size (k0_off1_inb k)).emb x 0).val / 64; omega
  · funext a
    match a with
    | ⟨0, _⟩ => ext; show (x 0).val = ((Rect.unit (s := S2048x128) (k0_off1 k) S64x128.size (k0_off1_inb k)).emb x 0).val % 64; omega
    | ⟨1, _⟩ => ext; show (x 1).val = ((Rect.unit (s := S2048x128) (k0_off1 k) S64x128.size (k0_off1_inb k)).emb x 1).val; omega

/-- The pieces of the first `n` trips: each is a trip's, and each such trip's is among them. -/
theorem mem_pieces (n : ℕ) (hn : n ≤ 32) (p : View.Piece (Elt F) S2048x128 .bf16) :
    p ∈ pb_k0_t1 (F := F) Variants.none c none i arg2 harg2 arg3 harg3 arg4 harg4 arg5 harg5 arg6 harg6 arg7 harg7 arg8 harg8 arg9
      harg9 arg10 harg10 arg11 harg11 arg12 harg12 kernelRun0_A.sl.v22 (harg2.unread x0) (harg7.unread x5)
      (arg9.view.writes (Elt F) arg9.view.junk (kernelRun0_A.sl.HS0_1 c arg3 harg3 x1))
      (arg10.view.writes (Elt F) arg10.view.junk (kernelRun0_A.sl.HS1_1 c arg4 harg4 x2))
      (arg11.view.writes (Elt F) arg11.view.junk (kernelRun0_A.sl.HS2_1 c arg5 harg5 x3))
      (arg12.view.writes (Elt F) arg12.view.junk (kernelRun0_A.sl.HS3_1 c arg6 harg6 x4)) n ↔ ∃ k : Fin k0_t1_loop.trips, k.val < n ∧
      p = ⟨Rect.unit (k0_off1 k) S64x128.size (k0_off1_inb k), Tile x0 x1 x2 x3 x4 x5 k⟩ := by
  induction n with
  | zero => simp [pb_k0_t1]
  | succ n ih =>
    have e := pb_k0_t1_succ (F := F) Variants.none c none i arg2 harg2 arg3 harg3 arg4 harg4 arg5 harg5 arg6 harg6 arg7 harg7 arg8
      harg8 arg9 harg9 arg10 harg10 arg11 harg11 arg12 harg12 kernelRun0_A.sl.v22 (harg2.unread x0) (harg7.unread x5)
      (arg9.view.writes (Elt F) arg9.view.junk (kernelRun0_A.sl.HS0_1 c arg3 harg3 x1))
      (arg10.view.writes (Elt F) arg10.view.junk (kernelRun0_A.sl.HS1_1 c arg4 harg4 x2))
      (arg11.view.writes (Elt F) arg11.view.junk (kernelRun0_A.sl.HS2_1 c arg5 harg5 x3))
      (arg12.view.writes (Elt F) arg12.view.junk (kernelRun0_A.sl.HS3_1 c arg6 harg6 x4)) ⟨n, by rw [trips_eq]; omega⟩
    rw [show n + 1 = (⟨n, by rw [trips_eq]; omega⟩ : Fin k0_t1_loop.trips).val + 1 from rfl, e, trip_pieces, List.mem_append, ih (by omega)]
    constructor
    · rintro (h | ⟨k, hk, rfl⟩)
      · exact ⟨_, Nat.lt_succ_self n, List.mem_singleton.mp h⟩
      · exact ⟨k, Nat.lt_succ_of_lt hk, rfl⟩
    · rintro ⟨k, hk, rfl⟩
      by_cases h : k.val = n
      · left; subst h; exact List.mem_singleton_self _
      · right; exact ⟨k, by have : k.val < n + 1 := hk; omega, rfl⟩

theorem run_pieces :
    (kernelRun0_A c i arg2 harg2 arg3 harg3 arg4 harg4 arg5 harg5 arg6 harg6 arg7 harg7 arg8 harg8 arg9 harg9 arg10 harg10 arg11 harg11
      arg12 harg12 x0 x1 x2 x3 x4 x5).1 = pb_k0_t1 (F := F) Variants.none c none i arg2 harg2 arg3 harg3 arg4 harg4 arg5 harg5 arg6 harg6 arg7 harg7 arg8 harg8 arg9
      harg9 arg10 harg10 arg11 harg11 arg12 harg12 kernelRun0_A.sl.v22 (harg2.unread x0) (harg7.unread x5)
      (arg9.view.writes (Elt F) arg9.view.junk (kernelRun0_A.sl.HS0_1 c arg3 harg3 x1))
      (arg10.view.writes (Elt F) arg10.view.junk (kernelRun0_A.sl.HS1_1 c arg4 harg4 x2))
      (arg11.view.writes (Elt F) arg11.view.junk (kernelRun0_A.sl.HS2_1 c arg5 harg5 x3))
      (arg12.view.writes (Elt F) arg12.view.junk (kernelRun0_A.sl.HS3_1 c arg6 harg6 x4)) 32 := by
  have hn : Scf.trips k0_t1_loop.lb k0_t1_loop.ub k0_t1_loop.st = 32 := by decide +kernel
  unfold kernelRun0_A
  exact congrArg (fun n => pb_k0_t1 (F := F) Variants.none c none i arg2 harg2 arg3 harg3 arg4 harg4 arg5 harg5 arg6 harg6 arg7 harg7 arg8 harg8 arg9
      harg9 arg10 harg10 arg11 harg11 arg12 harg12 kernelRun0_A.sl.v22 (harg2.unread x0) (harg7.unread x5)
      (arg9.view.writes (Elt F) arg9.view.junk (kernelRun0_A.sl.HS0_1 c arg3 harg3 x1))
      (arg10.view.writes (Elt F) arg10.view.junk (kernelRun0_A.sl.HS1_1 c arg4 harg4 x2))
      (arg11.view.writes (Elt F) arg11.view.junk (kernelRun0_A.sl.HS2_1 c arg5 harg5 x3))
      (arg12.view.writes (Elt F) arg12.view.junk (kernelRun0_A.sl.HS3_1 c arg6 harg6 x4)) n) hn

/-- What the body leaves in its block. -/
theorem out_eq :
    out0_A_6 c i arg2 harg2 arg3 harg3 arg4 harg4 arg5 harg5 arg6 harg6 arg7 harg7 arg8 harg8 arg9 harg9 arg10 harg10 arg11 harg11
      arg12 harg12 x0 x1 x2 x3 x4 x5 = Block x0 x1 x2 x3 x4 x5 := by
  funext y
  unfold out0_A_6
  rw [View.read_writes_junk_eq_canon]
  have hm := mem_pieces c i arg2 harg2 arg3 harg3 arg4 harg4 arg5 harg5 arg6 harg6 arg7 harg7 arg8 harg8 arg9 harg9 arg10 harg10
    arg11 harg11 arg12 harg12 x0 x1 x2 x3 x4 x5 32 le_rfl
  rw [run_pieces]
  have hy : (y 0).val < 2048 := (y 0).isLt
  refine View.canon_apply_of_pieces _ _ (fun p hp x => ?_) y ?_
  · obtain ⟨k, -, rfl⟩ := (hm p).mp hp
    exact piece_block x0 x1 x2 x3 x4 x5 k x
  · have hk : (y 0).val / 64 < k0_t1_loop.trips := by rw [trips_eq]; omega
    refine ⟨⟨Rect.unit (k0_off1 ⟨(y 0).val / 64, hk⟩) S64x128.size (k0_off1_inb _), Tile x0 x1 x2 x3 x4 x5 ⟨(y 0).val / 64, hk⟩⟩, ?_, ?_⟩
    · exact (hm _).mpr ⟨_, by show (y 0).val / 64 < 32; omega, rfl⟩
    · rw [Rect.mem_set_unit]
      intro a
      have o := off1_eq ⟨(y 0).val / 64, hk⟩
      match a with
      | ⟨0, _⟩ => show k0_off1 _ 0 ≤ (y 0).val ∧ (y 0).val < k0_off1 _ 0 + 64; rw [o.1]; show 64 * ((y 0).val / 64) ≤ _ ∧ _ < 64 * ((y 0).val / 64) + 64; omega
      | ⟨1, _⟩ => show k0_off1 _ 1 ≤ (y 1).val ∧ (y 1).val < k0_off1 _ 1 + 128; rw [o.2]; exact ⟨Nat.zero_le _, by have := (y 1).isLt; simpa using this⟩

end Body

end Cert.NaIdeal.Na
-- ==== Proof.Soft.lean ====
module

public import Idealize.ShloMosaic.Lib.Pipeline.ValueKit
public import Idealize.ShloMosaic.Lib.Pointwise

@[expose] public section

set_option maxRecDepth 16384

noncomputable section

namespace Cert.Soft

open Idealize.ShloMosaic

/-- A real factor that is not negative goes into a finite sum. -/
theorem sum_mul {n : ℕ} (f : Fin n → EReal) (c : EReal) (h0 : 0 ≤ c) (h1 : c ≠ ⊤) : (∑ x, f x) * c = ∑ x, f x * c := by
  have key : ∀ s : Finset (Fin n), (∑ x ∈ s, f x) * c = ∑ x ∈ s, f x * c := by
    intro s
    induction s using Finset.induction_on with
    | empty => simp
    | insert a s ha ih => rw [Finset.sum_insert ha, Finset.sum_insert ha, EReal.right_distrib_of_nonneg_of_ne_top h0 h1, ih]
  exact key _

/-- A number and the sum of two distribute the same way. -/
theorem add_mul (a b c : EReal) (h0 : 0 ≤ c) (h1 : c ≠ ⊤) : (a + b) * c = a * c + b * c :=
  EReal.right_distrib_of_nonneg_of_ne_top h0 h1 a b

theorem inv_nonneg (x : EReal) (h : 0 ≤ x) : 0 ≤ x⁻¹ := EReal.inv_nonneg_of_nonneg h

theorem inv_ne_top (x : EReal) : x⁻¹ ≠ ⊤ := by
  induction x with
  | bot => simp
  | top => simp
  | coe r => rw [← EReal.coe_inv]; exact EReal.coe_ne_top _

theorem exp_nonneg (x : EReal) : 0 ≤ Ideal.exp x := by
  induction x with
  | bot => exact le_refl _
  | top => exact le_top
  | coe r => exact EReal.coe_nonneg.2 (Real.exp_pos r).le

theorem exp_pos (x : EReal) (h : x ≠ ⊥) : 0 < Ideal.exp x := by
  induction x with
  | bot => exact absurd rfl h
  | top => exact EReal.zero_lt_top
  | coe r => exact EReal.coe_pos.2 (Real.exp_pos r)

/-- The greatest of the values of two rows. -/
def top2 {n m : ℕ} (s : Fin n → EReal) (t : Fin m → EReal) : EReal :=
  max (Finset.univ.fold max ⊥ s) (Finset.univ.fold max ⊥ t)

/-- The softmax weights of two rows of scores, applied to their values, divided at the end. -/
def att {n m : ℕ} (s : Fin n → EReal) (t : Fin m → EReal) (v : Fin n → EReal) (w : Fin m → EReal) : EReal :=
  Ideal.div ((∑ x, Ideal.exp (s x - top2 s t) * v x) + ∑ x, Ideal.exp (t x - top2 s t) * w x)
    ((∑ x, Ideal.exp (s x - top2 s t)) + ∑ x, Ideal.exp (t x - top2 s t))

theorem fold_ne_top {n : ℕ} (s : Fin n → EReal) (h : ∀ x, s x ≠ ⊤) : Finset.univ.fold max ⊥ s ≠ ⊤ := by
  have : Finset.univ.fold max ⊥ s < ⊤ := (Finset.fold_max_lt _).2 ⟨bot_lt_top, fun x _ => lt_top_iff_ne_top.2 (h x)⟩
  exact this.ne

theorem top2_ne_top {n m : ℕ} (s : Fin n → EReal) (t : Fin m → EReal) (h : ∀ x, s x ≠ ⊤) (h' : ∀ x, t x ≠ ⊤) : top2 s t ≠ ⊤ := by
  unfold top2
  rcases max_choice (Finset.univ.fold max ⊥ s) (Finset.univ.fold max ⊥ t) with e | e <;> rw [e]
  · exact fold_ne_top s h
  · exact fold_ne_top t h'

/-- Dividing each weight first gives the same, when the scores are below infinity and one is a number. -/
theorem att_eq {n m : ℕ} (s : Fin n → EReal) (t : Fin m → EReal) (v : Fin n → EReal) (w : Fin m → EReal)
    (hs : ∀ x, s x ≠ ⊤) (ht : ∀ x, t x ≠ ⊤) (i : Fin m) (hi : t i ≠ ⊥) :
    att s t v w
    = (∑ x, Ideal.div (Ideal.exp (s x - top2 s t)) ((∑ x, Ideal.exp (s x - top2 s t)) + ∑ x, Ideal.exp (t x - top2 s t)) * v x)
      + ∑ x, Ideal.div (Ideal.exp (t x - top2 s t)) ((∑ x, Ideal.exp (s x - top2 s t)) + ∑ x, Ideal.exp (t x - top2 s t)) * w x := by
  have hM := top2_ne_top s t hs ht
  unfold att
  generalize top2 s t = M at *
  have h1 : 0 ≤ ∑ x, Ideal.exp (s x - M) := Finset.sum_nonneg fun x _ => exp_nonneg _
  have h2 : 0 < ∑ x, Ideal.exp (t x - M) := by
    refine lt_of_lt_of_le (exp_pos (t i - M) ?_) (Finset.single_le_sum (f := fun x => Ideal.exp (t x - M)) (fun x _ => exp_nonneg _) (Finset.mem_univ i))
    rw [sub_eq_add_neg, Ne, EReal.add_eq_bot_iff, EReal.neg_eq_bot_iff]
    exact fun h => h.elim hi hM
  have hd : 0 < (∑ x, Ideal.exp (s x - M)) + ∑ x, Ideal.exp (t x - M) := lt_of_lt_of_le h2 (le_add_of_nonneg_left h1)
  generalize (∑ x, Ideal.exp (s x - M)) + ∑ x, Ideal.exp (t x - M) = D at *
  have hdiv : ∀ a, Ideal.div a D = a * D⁻¹ := fun a => by unfold Ideal.div; rw [if_neg hd.ne']
  have hc0 := inv_nonneg D hd.le
  have hc1 := inv_ne_top D
  simp only [hdiv]
  rw [add_mul _ _ _ hc0 hc1, sum_mul _ _ hc0 hc1, sum_mul _ _ hc0 hc1]
  refine congrArg₂ (· + ·) (Finset.sum_congr rfl fun x _ => ?_) (Finset.sum_congr rfl fun x _ => ?_) <;>
    exact mul_right_comm _ _ _

theorem ofBits_eighth : Ideal.ofBits .f32 1040187392#32 = (((1 : ℝ) / 8 : ℝ) : EReal) := by
  simp [Ideal.ofBits, Ideal.ieee, -EReal.coe_mul]; norm_num

theorem ofBits_bot : Ideal.ofBits .f32 4286578688#32 = ⊥ := by
  simp [Ideal.ofBits, Ideal.ieee]

/-- One eighth. -/
def eighth : EReal := (((1 : ℝ) / 8 : ℝ) : EReal)

theorem eighth_nonneg : 0 ≤ eighth := EReal.coe_nonneg.2 (by norm_num)
theorem eighth_ne_top : eighth ≠ ⊤ := EReal.coe_ne_top _

end Cert.Soft
-- ==== Proof.Pay.lean ====
module

public import proofs.«01_k».proof.Proof.Trip
public import proofs.«01_k».proof.Proof.Soft

@[expose] public section

set_option maxRecDepth 16384

noncomputable section

namespace Cert.NaIdeal.Na

open Cert.NaIdeal Cert.NaIdeal.Gen Idealize.ShloMosaic Idealize.ShloMosaic.TcCoe Idealize.SL.Sem

/-- Head `h`'s lanes of a pair. -/
def lane (h : Fin 2) (e : Fin 64) : Fin 128 := ⟨64 * h.val + e.val, by omega⟩

theorem sel_lo : ∀ l : Fin 128, IntOp.andi (IntOp.cmpi .sge (BitVec.ofNat 32 l.val) 0#32) (IntOp.cmpi .slt (BitVec.ofNat 32 l.val) 64#32)
    = if l.val < 64 then 1#1 else 0#1 := by decide +kernel

theorem sel_hi : ∀ l : Fin 128, IntOp.andi (IntOp.cmpi .sge (BitVec.ofNat 32 l.val) 64#32) (IntOp.cmpi .slt (BitVec.ofNat 32 l.val) 128#32)
    = if l.val < 64 then 0#1 else 1#1 := by decide +kernel

theorem scalar_one {α : Type} (a b : α) : Scalar.select 1#1 a b = a := rfl
theorem scalar_zero {α : Type} (a b : α) : Scalar.select 0#1 a b = b := rfl

/-- Query row `q` of head `h`, scaled, has zeros in the other head's lanes. -/
theorem pay7_apply (x : FVec Ideal S64x128 .f32) (h : Fin 2) (q : Fin 64) (l : Fin 128) :
    k0_pay7 (F := Ideal) lanes x (ix2 (lane h q) l) = if l.val / 64 = h.val then x (ix2 q l) * Soft.eighth else 0 := by
  pointwise [k0_pay7, k0_pay6, lanes, kernelRun0_A.sl.v22]
  rw [sel_lo, sel_hi, Soft.ofBits_eighth]
  change dite _ _ _ = _
  obtain ⟨l, hl⟩ := l
  obtain ⟨q, hq⟩ := q
  match h with
  | 0 =>
    rw [dif_pos (show (lane 0 ⟨q, hq⟩).val < 64 by show 64 * 0 + q < 64; omega)]
    have e : (⟨(lane 0 ⟨q, hq⟩).val, by show 64 * 0 + q < 64; omega⟩ : Fin 64) = ⟨q, hq⟩ := Fin.ext (by show 64 * 0 + q = q; omega)
    rw [e]
    by_cases hh : l < 64
    · rw [if_pos hh, if_pos (by show l / 64 = 0; omega)]; rfl
    · rw [if_neg hh, if_neg (by show ¬ l / 64 = 0; omega)]; rfl
  | 1 =>
    rw [dif_neg (show ¬ (lane 1 ⟨q, hq⟩).val < 64 by show ¬ 64 * 1 + q < 64; omega)]
    have e : (⟨(lane 1 ⟨q, hq⟩).val - 64, by show 64 * 1 + q - 64 < 64; omega⟩ : Fin 64) = ⟨q, hq⟩ := Fin.ext (by show 64 * 1 + q - 64 = q; omega)
    rw [e]
    by_cases hh : l < 64
    · rw [if_pos hh, if_neg (by show ¬ l / 64 = 1; omega)]; rfl
    · rw [if_neg hh, if_pos (by show l / 64 = 1; omega)]; rfl

/-- A product over all lanes is the product over the head's own, scaled. -/
theorem dot_apply (x : FVec Ideal S64x128 .f32) (k : Fin 128 → EReal) (h : Fin 2) (q : Fin 64) :
    (∑ l : Fin 128, (k0_pay7 (F := Ideal) lanes x (ix2 (lane h q) l) : EReal) * k l)
    = (∑ e : Fin 64, (x (ix2 q (lane h e)) : EReal) * k (lane h e)) * Soft.eighth := by
  rw [Soft.sum_mul _ _ Soft.eighth_nonneg Soft.eighth_ne_top]
  refine Eq.trans (Fin.sum_univ_two_halves 64 64 rfl _) ?_
  match h with
  | 0 =>
    refine Eq.trans (congrArg₂ (· + ·) (Finset.sum_congr rfl fun e _ => ?_) (Finset.sum_eq_zero fun e _ => ?_)) (add_zero _)
    · have he : lane 0 e = ⟨e.val, by omega⟩ := Fin.ext (by show 64 * 0 + e.val = e.val; omega)
      rw [he, pay7_apply, if_pos (by show e.val / 64 = 0; omega)]
      exact mul_right_comm _ _ _
    · refine Eq.trans (congrArg (· * _) (pay7_apply x 0 q _)) ?_
      rw [if_neg (by show ¬ (64 + e.val) / 64 = 0; omega), zero_mul]
  | 1 =>
    refine Eq.trans (congrArg₂ (· + ·) (Finset.sum_eq_zero fun e _ => ?_) (Finset.sum_congr rfl fun e _ => ?_)) (zero_add _)
    · refine Eq.trans (congrArg (· * _) (pay7_apply x 1 q _)) ?_
      rw [if_neg (by show ¬ e.val / 64 = 1; omega), zero_mul]
    · have he : lane 1 e = ⟨64 + e.val, by omega⟩ := Fin.ext (by show 64 * 1 + e.val = 64 + e.val; omega)
      rw [he, pay7_apply, if_pos (by show (64 + e.val) / 64 = 1; omega)]
      exact mul_right_comm _ _ _

theorem pay5_apply (v39 v41 v68 v88 : FVec Ideal S512x128 .bf16) (v61 : FVec Ideal S128x128 .bf16) (v63 : FVec Ideal S2x1x64x512 .f32)
   (q : Fin 64) (h : Fin 2) (e : Fin 64) :
    k0_pay5 (F := Ideal) v39 v41 (k0_pay6 lanes) v61 v63 v68 v88 (ix2 q (lane h e))
    = Soft.att (fun x : Fin 512 => (∑ l : Fin 128, (v61 (ix2 (lane h q) l) : EReal) * v39 (ix2 x l)) + v63 (ix4 h 0 q x))
        (fun x : Fin 512 => ∑ l : Fin 128, (v61 (ix2 (lane h q) l) : EReal) * v68 (ix2 x l))
        (fun x => v41 (ix2 x (lane h e))) (fun x => v88 (ix2 x (lane h e))) := by
  pointwise [k0_pay5, k0_pay6, lanes, kernelRun0_A.sl.v22, Soft.ofBits_bot, sel_hi]
  unfold Soft.att Soft.top2
  match h with
  | 0 =>
    refine Eq.trans (congrFun (congrFun (congrArg Scalar.select (if_pos (show (lane 0 e).val < 64 by show 64 * 0 + e.val < 64; omega))) _) _) ?_
    refine Eq.trans (scalar_zero _ _) ?_
    have h1 : q.val / 64 = 0 := by omega
    have h2 : q.val % 64 = q.val := by omega
    have h3 : lane 0 q = ⟨q.val, by omega⟩ := Fin.ext (by show 64 * 0 + q.val = q.val; omega)
    simp only [h1, h2, h3]
    rfl
  | 1 =>
    refine Eq.trans (congrFun (congrFun (congrArg Scalar.select (if_neg (show ¬ (lane 1 e).val < 64 by show ¬ 64 * 1 + e.val < 64; omega))) _) _) ?_
    refine Eq.trans (scalar_one _ _) ?_
    have h1 : (64 + q.val) / 64 = 1 := by omega
    have h2 : (64 + q.val) % 64 = q.val := by omega
    have h3 : lane 1 q = ⟨64 + q.val, by omega⟩ := Fin.ext (by show 64 * 1 + q.val = 64 + q.val; omega)
    simp only [h1, h2, h3]
    rfl

end Cert.NaIdeal.Na
-- ==== Proof.Blk.lean ====
module

public import proofs.«01_k».proof.Proof.Pay

@[expose] public section

set_option maxRecDepth 16384

noncomputable section

namespace Cert.NaIdeal.Na

open Cert.NaIdeal Cert.NaIdeal.Gen Idealize.ShloMosaic Idealize.ShloMosaic.TcCoe Idealize.SL.Sem

/-- The first key row of grid row `k`'s neighbourhood. -/
def start (k : Fin 32) : ℕ := min 24 (k.val - 4)

theorem start_le (k : Fin 32) : start k ≤ 24 := Nat.min_le_left _ _

/-- The bias table's case of grid row `k`. -/
theorem case_lt (k : Fin 32) : start k + 7 - k.val < 8 := by unfold start; omega

/-- Row `64 k + q` of a 2048-row block. -/
def row (k : Fin 32) (q : Fin 64) : Fin 2048 := ⟨64 * k.val + q.val, by omega⟩

/-- Row `x` of grid row `k`'s 512 neighbourhood keys. -/
def key (k : Fin 32) (x : Fin 512) : Fin 2048 := ⟨64 * start k + x.val, by have := start_le k; omega⟩

variable (x0 x1 x2 : FVec Ideal S2048x128 .f32) (x3 x4 : FVec Ideal S1x512x128 .f32) (x5 : FVec Ideal S2x8x64x512 .f32)

theorem pay1_apply (r : Fin 2048) (l : Fin 128) : k0_pay1 (F := Ideal) x1 (ix2 r l) = x1 (ix2 r l) := by
  pointwise [k0_pay1]

theorem pay2_apply (r : Fin 2048) (l : Fin 128) : k0_pay2 (F := Ideal) x1 (ix2 r l) = x1 (ix2 r l) := by
  pointwise [k0_pay2]

theorem pay3_apply (r : Fin 512) (l : Fin 128) : k0_pay3 (F := Ideal) x3 (ix2 r l) = x3 (ix3 0 r l) := by
  pointwise [k0_pay3]

theorem pay4_apply (r : Fin 512) (l : Fin 128) : k0_pay4 (F := Ideal) x3 (ix2 r l) = x3 (ix3 0 r l) := by
  pointwise [k0_pay4]

theorem emb_key (k : Fin k0_t1_loop.trips) (k' : Fin 32) (hk : k.val = k'.val) (x : Fin 512) (l : Fin 128) :
    (Rect.unit (s := S2048x128) (k0_off2 k) S512x128.size (k0_off2_inb k)).emb (ix2 x l : S512x128.Idx) = (ix2 (key k' x) l : S2048x128.Idx) := by
  have h := off2_eq k
  funext a
  apply Fin.ext
  match a with
  | ⟨0, _⟩ => show k0_off2 k 0 + 1 * x.val = 64 * start k' + x.val; rw [h.1, hk]; unfold start; omega
  | ⟨1, _⟩ => show k0_off2 k 1 + 1 * l.val = l.val; rw [h.2]; omega

theorem emb_row (k : Fin k0_t1_loop.trips) (k' : Fin 32) (hk : k.val = k'.val) (q : Fin 64) (l : Fin 128) :
    (Rect.unit (s := S2048x128) (k0_off1 k) S64x128.size (k0_off1_inb k)).emb (ix2 q l : S64x128.Idx) = (ix2 (row k' q) l : S2048x128.Idx) := by
  have h := off1_eq k
  funext a
  apply Fin.ext
  match a with
  | ⟨0, _⟩ => show k0_off1 k 0 + 1 * q.val = 64 * k'.val + q.val; rw [h.1, hk]; omega
  | ⟨1, _⟩ => show k0_off1 k 1 + 1 * l.val = l.val; rw [h.2]; omega

theorem emb_bias (k : Fin k0_t1_loop.trips) (k' : Fin 32) (hk : k.val = k'.val) (h : Fin 2) (q : Fin 64) (x : Fin 512) :
    (Rect.unit (s := S2x8x64x512) (k0_off3 k) S2x1x64x512.size (k0_off3_inb k)).emb (ix4 h 0 q x : S2x1x64x512.Idx)
      = (ix4 h ⟨start k' + 7 - k'.val, case_lt k'⟩ q x : S2x8x64x512.Idx) := by
  obtain ⟨h0, h1, h2, h3⟩ := off3_eq k
  funext a
  apply Fin.ext
  match a with
  | ⟨0, _⟩ => show k0_off3 k 0 + 1 * h.val = h.val; rw [h0]; omega
  | ⟨1, _⟩ => show k0_off3 k 1 + 1 * 0 = start k' + 7 - k'.val; rw [h1, hk]; rfl
  | ⟨2, _⟩ => show k0_off3 k 2 + 1 * q.val = q.val; rw [h2]; omega
  | ⟨3, _⟩ => show k0_off3 k 3 + 1 * x.val = x.val; rw [h3]; omega

/-- One entry of the output block: the attention of one query and one head. -/
theorem block_apply (k : Fin 32) (q : Fin 64) (h : Fin 2) (e : Fin 64) :
    Block (F := Ideal) x0 x1 x2 x3 x4 x5 (ix2 (row k q) (lane h e))
    = Soft.att
        (fun x : Fin 512 => (∑ d : Fin 64, (x0 (ix2 (row k q) (lane h d)) : EReal) * x1 (ix2 (key k x) (lane h d))) * Soft.eighth
          + x5 (ix4 h ⟨start k + 7 - k.val, case_lt k⟩ q x))
        (fun x : Fin 512 => (∑ d : Fin 64, (x0 (ix2 (row k q) (lane h d)) : EReal) * x3 (ix3 0 x (lane h d))) * Soft.eighth)
        (fun x => x2 (ix2 (key k x) (lane h e))) (fun x => x4 (ix3 0 x (lane h e))) := by
  have hk : (row k q).val / 64 = k.val := by show (64 * k.val + q.val) / 64 = k.val; omega
  have hq : (row k q).val % 64 = q.val := by show (64 * k.val + q.val) % 64 = q.val; omega
  have hb : (row k q).val / 64 < k0_t1_loop.trips := by rw [trips_eq]; omega
  have step : Block (F := Ideal) x0 x1 x2 x3 x4 x5 (ix2 (row k q) (lane h e))
      = Tile (F := Ideal) x0 x1 x2 x3 x4 x5 ⟨(row k q).val / 64, hb⟩ (ix2 q (lane h e)) := by
    refine congrArg (Tile (F := Ideal) x0 x1 x2 x3 x4 x5 ⟨(row k q).val / 64, hb⟩) ?_
    funext a
    apply Fin.ext
    match a with
    | ⟨0, _⟩ => exact hq
    | ⟨1, _⟩ => rfl
  rw [step]
  replace hk : (⟨(row k q).val / 64, hb⟩ : Fin k0_t1_loop.trips).val = k.val := hk
  clear step
  generalize (⟨(row k q).val / 64, hb⟩ : Fin k0_t1_loop.trips) = K at hk ⊢
  unfold Tile
  refine Eq.trans (pay5_apply _ _ _ _ _ _ q h e) ?_
  have hx0 : ∀ d, x0 ((Rect.unit (s := S2048x128) (k0_off1 K) S64x128.size (k0_off1_inb K)).emb (ix2 q d : S64x128.Idx)) = x0 (ix2 (row k q) d) :=
    fun d => congrArg x0 (emb_row K k hk q d)
  have hx1 : ∀ x d, (k0_pay1 (F := Ideal) x1) ((Rect.unit (s := S2048x128) (k0_off2 K) S512x128.size (k0_off2_inb K)).emb (ix2 x d : S512x128.Idx))
      = x1 (ix2 (key k x) d) := fun x d => (congrArg (k0_pay1 (F := Ideal) x1) (emb_key K k hk x d)).trans (pay1_apply x1 _ _)
  have hx2 : ∀ x d, (k0_pay2 (F := Ideal) x2) ((Rect.unit (s := S2048x128) (k0_off2 K) S512x128.size (k0_off2_inb K)).emb (ix2 x d : S512x128.Idx))
      = x2 (ix2 (key k x) d) := fun x d => (congrArg (k0_pay2 (F := Ideal) x2) (emb_key K k hk x d)).trans (pay2_apply x2 _ _)
  have hx5 : ∀ x, x5 ((Rect.unit (s := S2x8x64x512) (k0_off3 K) S2x1x64x512.size (k0_off3_inb K)).emb (ix4 h 0 q x : S2x1x64x512.Idx))
      = x5 (ix4 h ⟨start k + 7 - k.val, case_lt k⟩ q x) := fun x => congrArg x5 (emb_bias K k hk h q x)
  refine congr (congr (congr (congrArg Soft.att (funext fun x => ?_)) (funext fun x => ?_)) (funext fun x => ?_)) (funext fun x => ?_)
  · refine Ideal.add_congr ?_ (hx5 x)
    refine (dot_apply _ _ h q).trans (congrArg (· * Soft.eighth) (Finset.sum_congr rfl fun d _ => ?_))
    exact congrArg₂ (fun a b : EReal => a * b) (hx0 _) (hx1 _ _)
  · refine (dot_apply _ _ h q).trans (congrArg (· * Soft.eighth) (Finset.sum_congr rfl fun d _ => ?_))
    exact congrArg₂ (fun a b : EReal => a * b) (hx0 _) (pay3_apply x3 _ _)
  · exact hx2 _ _
  · exact pay4_apply x4 _ _

end Cert.NaIdeal.Na
-- ==== Proof.Arr.lean ====
module

public import proofs.«01_k».proof.Proof.Blk

@[expose] public section

set_option maxRecDepth 16384

noncomputable section

namespace Cert.NaIdeal.Na

open Cert.NaIdeal Cert.NaIdeal.Gen Idealize.ShloMosaic Idealize.ShloMosaic.TcCoe Idealize.SL.Sem

/-- Token row of latent sequence `b`, counted from the first latent row. -/
def tok (b : Fin 2) (r : Fin 2048) : Fin 4096 := ⟨2048 * b.val + r.val, by omega⟩

/-- Its row among all tokens. -/
def lat (b : Fin 2) (r : Fin 2048) : Fin 8192 := ⟨4096 + 2048 * b.val + r.val, by omega⟩

/-- Column `d` of head `hd` in part `s` (queries, keys, values) of the projected tokens. -/
def col (s : Fin 3) (hd : Fin 8) (d : Fin 64) : Fin 1536 := ⟨512 * s.val + 64 * hd.val + d.val, by omega⟩

/-- Column `d` of head `hd` in the result. -/
def out (hd : Fin 8) (d : Fin 64) : Fin 512 := ⟨64 * hd.val + d.val, by omega⟩

/-- One entry of the attention: query `q` of grid row `k` of sequence `b`, head `hd`, lane `e`. -/
def cell (X : FVec Ideal S8192x1536 .f32) (K W : FVec Ideal S2x512x512 .f32) (T : FVec Ideal S8x8x64x512 .f32)
    (b : Fin 2) (k : Fin 32) (q : Fin 64) (hd : Fin 8) (e : Fin 64) : EReal :=
  Soft.att
    (fun x : Fin 512 => (∑ d : Fin 64, (X (ix2 (lat b (row k q)) (col 0 hd d)) : EReal) * X (ix2 (lat b (key k x)) (col 1 hd d))) * Soft.eighth
      + T (ix4 hd ⟨start k + 7 - k.val, case_lt k⟩ q x))
    (fun x : Fin 512 => (∑ d : Fin 64, (X (ix2 (lat b (row k q)) (col 0 hd d)) : EReal) * K (ix3 b x (out hd d))) * Soft.eighth)
    (fun x => X (ix2 (lat b (key k x)) (col 2 hd e))) (fun x => W (ix3 b x (out hd e)))

/-- The whole result. -/
def whole (X : FVec Ideal S8192x1536 .f32) (K W : FVec Ideal S2x512x512 .f32) (T : FVec Ideal S8x8x64x512 .f32)
    (y : S4096x512.Idx) : EReal :=
  cell X K W T ⟨(y 0).val / 2048, by have : (y 0).val < 4096 := (y 0).isLt; omega⟩ ⟨(y 0).val % 2048 / 64, by omega⟩
    ⟨(y 0).val % 64, by omega⟩ ⟨(y 1).val / 64, by have : (y 1).val < 512 := (y 1).isLt; omega⟩ ⟨(y 1).val % 64, by omega⟩

theorem whole_apply (X : FVec Ideal S8192x1536 .f32) (K W : FVec Ideal S2x512x512 .f32) (T : FVec Ideal S8x8x64x512 .f32)
    (b : Fin 2) (k : Fin 32) (q : Fin 64) (hd : Fin 8) (e : Fin 64) (y : S4096x512.Idx)
    (h0 : (y 0).val = 2048 * b.val + 64 * k.val + q.val) (h1 : (y 1).val = 64 * hd.val + e.val) :
    whole X K W T y = cell X K W T b k q hd e := by
  unfold whole
  congr 1 <;> apply Fin.ext
  · show (y 0).val / 2048 = b.val; omega
  · show (y 0).val % 2048 / 64 = k.val; omega
  · show (y 0).val % 64 = q.val; omega
  · show (y 1).val / 64 = hd.val; omega
  · show (y 1).val % 64 = e.val; omega

variable (m : (ℓ : Loc nD τ sig) → Buf (Elt Ideal) ℓ)

theorem idx : ∀ t : Fin cfg0.N, win0_0.index t = ![2 + t.val / 4, t.val % 4] ∧ win0_1.index t = ![2 + t.val / 4, 4 + t.val % 4]
    ∧ win0_2.index t = ![2 + t.val / 4, 8 + t.val % 4] ∧ win0_3.index t = ![t.val / 4, 0, t.val % 4]
    ∧ win0_4.index t = ![t.val / 4, 0, t.val % 4] ∧ win0_5.index t = ![t.val % 4, 0, 0, 0]
    ∧ win0_6.index t = ![t.val / 4, t.val % 4] ∧ t.val < 8 :=
  (by decide +kernel : ∀ t : Fin grid0.N, _)

theorem div_lt (t : Fin cfg0.N) : t.val / 4 < 2 := by have := (idx t).2.2.2.2.2.2.2; omega

/-- The head a point's half `h` works on. -/
def head (t : Fin cfg0.N) (h : Fin 2) : Fin 8 := ⟨2 * (t.val % 4) + h.val, by omega⟩

theorem read0 (c : Dev nD) (t : Fin cfg0.N) (r : Fin 2048) (h : Fin 2) (d : Fin 64) :
    iblk m c 0 t (ix2 r (lane h d) : S2048x128.Idx) = V m c main_arg0 (ix2 (lat ⟨t.val / 4, div_lt t⟩ r) (col 0 (head t h) d) : S8192x1536.Idx) := by
  have e : (lane h d).val = 64 * h.val + d.val := rfl
  have e1 : (lat ⟨t.val / 4, div_lt t⟩ r).val = 4096 + 2048 * (t.val / 4) + r.val := rfl
  have e2 : (col 0 (head t h) d).val = 512 * 0 + 64 * (2 * (t.val % 4) + h.val) + d.val := rfl
  blk_ext [iblk, idx t, e, e1, e2]

theorem read1 (c : Dev nD) (t : Fin cfg0.N) (r : Fin 2048) (h : Fin 2) (d : Fin 64) :
    iblk m c 1 t (ix2 r (lane h d) : S2048x128.Idx) = V m c main_arg0 (ix2 (lat ⟨t.val / 4, div_lt t⟩ r) (col 1 (head t h) d) : S8192x1536.Idx) := by
  have e : (lane h d).val = 64 * h.val + d.val := rfl
  have e1 : (lat ⟨t.val / 4, div_lt t⟩ r).val = 4096 + 2048 * (t.val / 4) + r.val := rfl
  have e2 : (col 1 (head t h) d).val = 512 * 1 + 64 * (2 * (t.val % 4) + h.val) + d.val := rfl
  blk_ext [iblk, idx t, e, e1, e2]

theorem read2 (c : Dev nD) (t : Fin cfg0.N) (r : Fin 2048) (h : Fin 2) (d : Fin 64) :
    iblk m c 2 t (ix2 r (lane h d) : S2048x128.Idx) = V m c main_arg0 (ix2 (lat ⟨t.val / 4, div_lt t⟩ r) (col 2 (head t h) d) : S8192x1536.Idx) := by
  have e : (lane h d).val = 64 * h.val + d.val := rfl
  have e1 : (lat ⟨t.val / 4, div_lt t⟩ r).val = 4096 + 2048 * (t.val / 4) + r.val := rfl
  have e2 : (col 2 (head t h) d).val = 512 * 2 + 64 * (2 * (t.val % 4) + h.val) + d.val := rfl
  blk_ext [iblk, idx t, e, e1, e2]

theorem read3 (c : Dev nD) (t : Fin cfg0.N) (x : Fin 512) (h : Fin 2) (d : Fin 64) :
    iblk m c 3 t (ix3 0 x (lane h d) : S1x512x128.Idx) = V m c main_v0 (ix3 ⟨t.val / 4, div_lt t⟩ x (out (head t h) d) : S2x512x512.Idx) := by
  have e : (lane h d).val = 64 * h.val + d.val := rfl
  have e2 : (out (head t h) d).val = 64 * (2 * (t.val % 4) + h.val) + d.val := rfl
  blk_ext [iblk, idx t, e, e2]

theorem read4 (c : Dev nD) (t : Fin cfg0.N) (x : Fin 512) (h : Fin 2) (d : Fin 64) :
    iblk m c 4 t (ix3 0 x (lane h d) : S1x512x128.Idx) = V m c main_v1 (ix3 ⟨t.val / 4, div_lt t⟩ x (out (head t h) d) : S2x512x512.Idx) := by
  have e : (lane h d).val = 64 * h.val + d.val := rfl
  have e2 : (out (head t h) d).val = 64 * (2 * (t.val % 4) + h.val) + d.val := rfl
  blk_ext [iblk, idx t, e, e2]

theorem read5 (c : Dev nD) (t : Fin cfg0.N) (h : Fin 2) (g : Fin 8) (q : Fin 64) (x : Fin 512) :
    iblk m c 5 t (ix4 h g q x : S2x8x64x512.Idx) = V m c main_v71 (ix4 (head t h) g q x : S8x8x64x512.Idx) := by
  have e2 : (head t h).val = 2 * (t.val % 4) + h.val := rfl
  blk_ext [iblk, idx t, e2]

theorem arr (c : Dev nD) : (dats m 0 c).arrAt 6 cfg0.N
    = whole (V m c main_arg0) (V m c main_v0) (V m c main_v1) (V m c main_v71) := by
  refine (dats m 0 c).arrAt_eq_of_covers 6 _ (by decide +kernel) fun t hf y => ?_
  blk_simp
  rw [after0_6]
  unfold outsAt0
  rw [out_eq]
  have y0 : (y 0).val < 2048 := (y 0).isLt
  have y1 : (y 1).val < 128 := (y 1).isLt
  obtain ⟨k, q, h, e, rfl⟩ : ∃ (k : Fin 32) (q : Fin 64) (h : Fin 2) (e : Fin 64), y = (ix2 (row k q) (lane h e) : S2048x128.Idx) := by
    refine ⟨⟨(y 0).val / 64, by omega⟩, ⟨(y 0).val % 64, by omega⟩, ⟨(y 1).val / 64, by omega⟩, ⟨(y 1).val % 64, by omega⟩, ?_⟩
    funext a
    apply Fin.ext
    match a with
    | ⟨0, _⟩ => show (y 0).val = 64 * ((y 0).val / 64) + (y 0).val % 64; omega
    | ⟨1, _⟩ => show (y 1).val = 64 * ((y 1).val / 64) + (y 1).val % 64; omega
  refine (block_apply _ _ _ _ _ _ k q h e).trans (Eq.trans ?_ (whole_apply _ _ _ _ ⟨t.val / 4, div_lt t⟩ k q (head t h) e _ ?_ ?_).symm)
  · unfold cell
    refine congr (congr (congr (congrArg Soft.att (funext fun x => ?_)) (funext fun x => ?_)) (funext fun x => ?_)) (funext fun x => ?_)
    · refine Ideal.add_congr (congrArg (· * Soft.eighth) (Finset.sum_congr rfl fun d _ => ?_)) (read5 m c t h _ q x)
      exact congrArg₂ (fun a b : EReal => a * b) (read0 m c t _ h d) (read1 m c t _ h d)
    · refine congrArg (· * Soft.eighth) (Finset.sum_congr rfl fun d _ => ?_)
      exact congrArg₂ (fun a b : EReal => a * b) (read0 m c t _ h d) (read3 m c t _ h d)
    · exact read2 m c t _ h e
    · exact read4 m c t _ h e
  · show win0_6.index t 0 * 2048 + 1 * (64 * k.val + q.val) = 2048 * (t.val / 4) + 64 * k.val + q.val
    rw [(idx t).2.2.2.2.2.2.1]
    show t.val / 4 * 2048 + 1 * (64 * k.val + q.val) = 2048 * (t.val / 4) + 64 * k.val + q.val
    omega
  · show win0_6.index t 1 * 128 + 1 * (64 * h.val + e.val) = 64 * (2 * (t.val % 4) + h.val) + e.val
    rw [(idx t).2.2.2.2.2.2.1]
    show t.val % 4 * 128 + 1 * (64 * h.val + e.val) = 64 * (2 * (t.val % 4) + h.val) + e.val
    omega

end Cert.NaIdeal.Na
-- ==== Proof.Tile.lean ====
module

public import proofs.«01_k».proof.Proof.Arr

@[expose] public section

set_option maxRecDepth 16384

noncomputable section

namespace Cert.NaIdeal.Na

open Cert.NaIdeal Cert.NaIdeal.Gen Idealize.ShloMosaic Idealize.ShloMosaic.TcCoe Idealize.SL.Sem

variable (m : (ℓ : Loc nD τ sig) → Buf (Elt Ideal) ℓ)

def starts : IVec S64 32 :=
  minsi (broadcastInDim S64 ![] bcast_S_S64 (constantI S_ 32 48#32))
    (maxsi (broadcastInDim S64 ![] bcast_S_S64 (constantI S_ 32 0#32))
      (subi (iotaInDim S64 32 0) (broadcastInDim S64 ![] bcast_S_S64 (constantI S_ 32 8#32))))

def mask : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 starts)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 starts)
        (broadcastInDim S64x1 ![] bcast_S_S64x1 (constantI S_ 32 16#32)))))

def shifts : IVec S64x64 32 :=
  subi (addi (minsi (broadcastInDim S64x64 ![] bcast_S_S64x64 (constantI S_ 32 15#32))
        (maxsi (broadcastInDim S64x64 ![] bcast_S_S64x64 (constantI S_ 32 4294967281#32))
          (subi (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0))))))
      (broadcastInDim S64x64 ![] bcast_S_S64x64 (constantI S_ 32 16#32)))
    (broadcastInDim S64x64 ![] bcast_S_S64x64 (constantI S_ 32 1#32))

/-- The bias table as the host computes it: case row, query column, key column. -/
def full (rpb : FVec Ideal S8x15x31 .f32) : FVec Ideal S8x15x64x64 .f32 :=
  select (broadcastInDim S8x15x64x64 ![0, 1, 2, 3] bcast_S1x1x64x64_S8x15x64x64_0_1_2_3 (broadcastInDim S1x1x64x64 ![2, 3] bcast_S64x64_S1x1x64x64_2_3 mask))
    (Host.dotGeneral dot_S8x15x31_S64x64x31_S8x15x64x64_2_2_01_01_n_n (some ContractPrecision.fp32) rpb
      (uitofp FTy.f32 (cmpi CmpIPredicate.eq
        (broadcastInDim S64x64x31 ![0, 1, 2] bcast_S64x64x1_S64x64x31_0_1_2 (broadcastInDim S64x64x1 ![0, 1] bcast_S64x64_S64x64x1_0_1 shifts))
        (broadcastInDim S64x64x31 ![0, 1, 2] bcast_S1x1x31_S64x64x31_0_1_2 (broadcastInDim S1x1x31 ![2] bcast_S31_S1x1x31_2 (iotaInDim S31 32 0))))))
    (broadcastInDim S8x15x64x64 ![] bcast_S_S8x15x64x64 (constant S_ FTy.f32 4286578688#32))

/-- The contents before the tiles are cut. -/
def Mid (c : Dev nD) : Valuation τ sig (Elt Ideal) :=
  StableHlo.after (List.flatten [hostOps0, hostOps0_1, hostOps0_2, hostOps0_3, hostOps0_4, hostOps0_5]) (fun b => m (c, b))

set_option maxHeartbeats 4000000 in
theorem mid_eq (c : Dev nD) : (Mid m c main_v38 : FVec Ideal S8x15x64x64 .f32) = full (m (c, main_arg3)) := by
  unfold Mid
  simp only [hostOps0, hostOps0_1, hostOps0_2, hostOps0_3, hostOps0_4, hostOps0_5, List.flatten_cons, List.flatten_nil, List.append_nil, List.cons_append, List.nil_append]
  run_tidy
  rfl

end Cert.NaIdeal.Na
-- ==== Proof.Cut.lean ====
module

public import proofs.«01_k».proof.Proof.Tile

@[expose] public section

set_option maxRecDepth 16384

noncomputable section

namespace Cert.NaIdeal.Na

open Cert.NaIdeal Cert.NaIdeal.Gen Idealize.ShloMosaic Idealize.ShloMosaic.TcCoe Idealize.SL.Sem

variable (m : (ℓ : Loc nD τ sig) → Buf (Elt Ideal) ℓ)

/-- The operations that cut the tiles, before they are joined. -/
def pieces : List (HloOp τ sig (Elt Ideal)) := hostOps0_6.dropLast

theorem pieces_eq : (hostOps0_6 : List (HloOp τ sig (Elt Ideal))) = pieces ++ [hostOps0_6.getLast (by simp)] := rfl

/-- Tile 0: eight case rows from row 0 on. -/
def part0 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 0, 0, 0] T slices_S8x15x64x64_S8x8x64x64_0_0_0_0) transposes_S8x8x64x64_S8x64x8x64_0_2_1_3)
    shapeCasts_S8x64x8x64_S8x64x512)

theorem part0_eq (M : Valuation τ sig (Elt Ideal)) : StableHlo.after pieces M main_v63 = part0 (M main_v38) := by
  unfold pieces hostOps0_6
  simp only [List.dropLast]
  after_results
  rfl

theorem part0_apply (T : FVec Ideal S8x15x64x64 .f32) (h : Fin 8) (q : Fin 64) (x : Fin 512) :
    part0 T (ix4 h 0 q x) = T (ix4 h ⟨0 + x.val / 64, by omega⟩ q ⟨x.val % 64, by omega⟩) := by
  pointwise [part0]

/-- Tile 1: eight case rows from row 1 on. -/
def part1 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 1, 0, 0] T slices_S8x15x64x64_S8x8x64x64_0_1_0_0) transposes_S8x8x64x64_S8x64x8x64_0_2_1_3)
    shapeCasts_S8x64x8x64_S8x64x512)

theorem part1_eq (M : Valuation τ sig (Elt Ideal)) : StableHlo.after pieces M main_v64 = part1 (M main_v38) := by
  unfold pieces hostOps0_6
  simp only [List.dropLast]
  after_results
  rfl

theorem part1_apply (T : FVec Ideal S8x15x64x64 .f32) (h : Fin 8) (q : Fin 64) (x : Fin 512) :
    part1 T (ix4 h 0 q x) = T (ix4 h ⟨1 + x.val / 64, by omega⟩ q ⟨x.val % 64, by omega⟩) := by
  pointwise [part1]

/-- Tile 2: eight case rows from row 2 on. -/
def part2 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 2, 0, 0] T slices_S8x15x64x64_S8x8x64x64_0_2_0_0) transposes_S8x8x64x64_S8x64x8x64_0_2_1_3)
    shapeCasts_S8x64x8x64_S8x64x512)

theorem part2_eq (M : Valuation τ sig (Elt Ideal)) : StableHlo.after pieces M main_v65 = part2 (M main_v38) := by
  unfold pieces hostOps0_6
  simp only [List.dropLast]
  after_results
  rfl

theorem part2_apply (T : FVec Ideal S8x15x64x64 .f32) (h : Fin 8) (q : Fin 64) (x : Fin 512) :
    part2 T (ix4 h 0 q x) = T (ix4 h ⟨2 + x.val / 64, by omega⟩ q ⟨x.val % 64, by omega⟩) := by
  pointwise [part2]

/-- Tile 3: eight case rows from row 3 on. -/
def part3 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 3, 0, 0] T slices_S8x15x64x64_S8x8x64x64_0_3_0_0) transposes_S8x8x64x64_S8x64x8x64_0_2_1_3)
    shapeCasts_S8x64x8x64_S8x64x512)

theorem part3_eq (M : Valuation τ sig (Elt Ideal)) : StableHlo.after pieces M main_v66 = part3 (M main_v38) := by
  unfold pieces hostOps0_6
  simp only [List.dropLast]
  after_results
  rfl

theorem part3_apply (T : FVec Ideal S8x15x64x64 .f32) (h : Fin 8) (q : Fin 64) (x : Fin 512) :
    part3 T (ix4 h 0 q x) = T (ix4 h ⟨3 + x.val / 64, by omega⟩ q ⟨x.val % 64, by omega⟩) := by
  pointwise [part3]

/-- Tile 4: eight case rows from row 4 on. -/
def part4 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 4, 0, 0] T slices_S8x15x64x64_S8x8x64x64_0_4_0_0) transposes_S8x8x64x64_S8x64x8x64_0_2_1_3)
    shapeCasts_S8x64x8x64_S8x64x512)

theorem part4_eq (M : Valuation τ sig (Elt Ideal)) : StableHlo.after pieces M main_v67 = part4 (M main_v38) := by
  unfold pieces hostOps0_6
  simp only [List.dropLast]
  after_results
  rfl

theorem part4_apply (T : FVec Ideal S8x15x64x64 .f32) (h : Fin 8) (q : Fin 64) (x : Fin 512) :
    part4 T (ix4 h 0 q x) = T (ix4 h ⟨4 + x.val / 64, by omega⟩ q ⟨x.val % 64, by omega⟩) := by
  pointwise [part4]

/-- Tile 5: eight case rows from row 5 on. -/
def part5 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 5, 0, 0] T slices_S8x15x64x64_S8x8x64x64_0_5_0_0) transposes_S8x8x64x64_S8x64x8x64_0_2_1_3)
    shapeCasts_S8x64x8x64_S8x64x512)

theorem part5_eq (M : Valuation τ sig (Elt Ideal)) : StableHlo.after pieces M main_v68 = part5 (M main_v38) := by
  unfold pieces hostOps0_6
  simp only [List.dropLast]
  after_results
  rfl

theorem part5_apply (T : FVec Ideal S8x15x64x64 .f32) (h : Fin 8) (q : Fin 64) (x : Fin 512) :
    part5 T (ix4 h 0 q x) = T (ix4 h ⟨5 + x.val / 64, by omega⟩ q ⟨x.val % 64, by omega⟩) := by
  pointwise [part5]

/-- Tile 6: eight case rows from row 6 on. -/
def part6 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 6, 0, 0] T slices_S8x15x64x64_S8x8x64x64_0_6_0_0) transposes_S8x8x64x64_S8x64x8x64_0_2_1_3)
    shapeCasts_S8x64x8x64_S8x64x512)

theorem part6_eq (M : Valuation τ sig (Elt Ideal)) : StableHlo.after pieces M main_v69 = part6 (M main_v38) := by
  unfold pieces hostOps0_6
  simp only [List.dropLast]
  after_results
  rfl

theorem part6_apply (T : FVec Ideal S8x15x64x64 .f32) (h : Fin 8) (q : Fin 64) (x : Fin 512) :
    part6 T (ix4 h 0 q x) = T (ix4 h ⟨6 + x.val / 64, by omega⟩ q ⟨x.val % 64, by omega⟩) := by
  pointwise [part6]

/-- Tile 7: eight case rows from row 7 on. -/
def part7 (T : FVec Ideal S8x15x64x64 .f32) : FVec Ideal S8x1x64x512 .f32 :=
  broadcastInDim S8x1x64x512 ![0, 2, 3] bcast_S8x64x512_S8x1x64x512_0_2_3 (shapeCast S8x64x512 (transpose S8x64x8x64 [0, 2, 1, 3]
    (extractStridedSlice S8x8x64x64 ![0, 7, 0, 0] T slices_S8x15x64x64_S8x8x64x64_0_7_0_0) transposes_S8x8x64x64_S8x64x8x64_0_2_1_3)
    shapeCasts_S8x64x8x64_S8x64x512)

theorem part7_eq (M : Valuation τ sig (Elt Ideal)) : StableHlo.after pieces M main_v70 = part7 (M main_v38) := by
  unfold pieces hostOps0_6
  simp only [List.dropLast]
  after_results
  rfl

theorem part7_apply (T : FVec Ideal S8x15x64x64 .f32) (h : Fin 8) (q : Fin 64) (x : Fin 512) :
    part7 T (ix4 h 0 q x) = T (ix4 h ⟨7 + x.val / 64, by omega⟩ q ⟨x.val % 64, by omega⟩) := by
  pointwise [part7]

theorem tile_eq (M : Valuation τ sig (Elt Ideal)) :
    StableHlo.after hostOps0_6 M main_v71 = concatenate S8x8x64x512 1 [⟨S8x1x64x512, part0 (M main_v38)⟩, ⟨S8x1x64x512, part1 (M main_v38)⟩, ⟨S8x1x64x512, part2 (M main_v38)⟩, ⟨S8x1x64x512, part3 (M main_v38)⟩, ⟨S8x1x64x512, part4 (M main_v38)⟩, ⟨S8x1x64x512, part5 (M main_v38)⟩, ⟨S8x1x64x512, part6 (M main_v38)⟩, ⟨S8x1x64x512, part7 (M main_v38)⟩] concatenates_S8x1x64x512_S8x1x64x512_S8x1x64x512_S8x1x64x512_S8x1x64x512_S8x1x64x512_S8x1x64x512_S8x1x64x512_S8x8x64x512_d1 := by
  rw [pieces_eq, StableHlo.after_append]
  rw [← part0_eq, ← part1_eq, ← part2_eq, ← part3_eq, ← part4_eq, ← part5_eq, ← part6_eq, ← part7_eq]
  generalize StableHlo.after pieces M = M'
  simp only [List.getLast]
  rw [StableHlo.after_cons, StableHlo.after_nil, StableHlo.nary_result]
  rfl

end Cert.NaIdeal.Na
-- ==== Proof.Bias.lean ====
module

public import proofs.«01_k».proof.Proof.Cut

@[expose] public section

set_option maxRecDepth 16384

noncomputable section

namespace Cert.NaIdeal.Na

open Cert.NaIdeal Cert.NaIdeal.Gen Idealize.ShloMosaic Idealize.ShloMosaic.TcCoe Idealize.SL.Sem

variable (m : (ℓ : Loc nD τ sig) → Buf (Elt Ideal) ℓ)

theorem tile_apply (c : Dev nD) (h : Fin 8) (g : Fin 8) (q : Fin 64) (x : Fin 512) :
    (V m c main_v71 : FVec Ideal S8x8x64x512 .f32) (ix4 h g q x)
    = full (m (c, main_arg3)) (ix4 h ⟨g.val + x.val / 64, by omega⟩ q ⟨x.val % 64, by omega⟩) := by
  have e : (List.flatten [hostOps0, hostOps0_1, hostOps0_2, hostOps0_3, hostOps0_4, hostOps0_5, hostOps0_6] : List (HloOp τ sig (Elt Ideal)))
      = List.flatten [hostOps0, hostOps0_1, hostOps0_2, hostOps0_3, hostOps0_4, hostOps0_5] ++ hostOps0_6 := rfl
  have e2 : V m c main_v71 = StableHlo.after hostOps0_6 (Mid m c) main_v71 := by
    unfold V Mid
    rw [e, StableHlo.after_append]
  rw [e2, tile_eq]
  have e3 := mid_eq m c
  generalize (Mid m c main_v38 : FVec Ideal S8x15x64x64 .f32) = T at *
  subst e3
  generalize full (m (c, main_arg3)) = T
  match g with
  | 0 => pointwise []; exact (part0_apply T h q x).trans (congrArg T (by congr 2; omega))
  | 1 => pointwise []; exact part1_apply T h q x
  | 2 => pointwise []; exact part2_apply T h q x
  | 3 => pointwise []; exact part3_apply T h q x
  | 4 => pointwise []; exact part4_apply T h q x
  | 5 => pointwise []; exact part5_apply T h q x
  | 6 => pointwise []; exact part6_apply T h q x
  | 7 => pointwise []; exact part7_apply T h q x

/-- The column of the relative position table for query column `q` and key column `k`. -/
def shift (q k : Fin 64) : Fin 31 := ⟨min 30 (k.val + 15 - q.val), by omega⟩

/-- Whether key column `k` is in query column `q`'s window. -/
def inside (q k : Fin 64) : Prop := min 48 (q.val - 8) ≤ k.val ∧ k.val < min 48 (q.val - 8) + 16

instance (q k : Fin 64) : Decidable (inside q k) := by unfold inside; infer_instance

theorem mask_apply : ∀ q k : Fin 64, mask (ix2 q k) = if inside q k then 1#1 else 0#1 := by
  intro q k
  unfold mask starts
  pointwise []
  revert q k
  decide +kernel

theorem shifts_apply : ∀ q k : Fin 64, shifts (ix2 q k) = BitVec.ofNat 32 (shift q k).val := by
  intro q k
  unfold shifts
  pointwise []
  revert q k
  decide +kernel

theorem eq_word : ∀ a b : Fin 31, IntOp.cmpi .eq (BitVec.ofNat 32 a.val) (BitVec.ofNat 32 b.val) = if b = a then 1#1 else 0#1 := by decide +kernel

theorem uitofp_one : (FloatOps.uitofp (F := Ideal) .f32 1#1 : EReal) = 1 := by
  show ((((1#1 : BitVec 1).toNat : ℝ)) : EReal) = 1
  simp

theorem uitofp_zero : (FloatOps.uitofp (F := Ideal) .f32 0#1 : EReal) = 0 := by
  show ((((0#1 : BitVec 1).toNat : ℝ)) : EReal) = 0
  simp

theorem full_apply (rpb : FVec Ideal S8x15x31 .f32) (h : Fin 8) (r : Fin 15) (q k : Fin 64) :
    full rpb (ix4 h r q k) = if inside q k then (rpb (ix3 h r (shift q k)) : EReal) else ⊥ := by
  unfold full
  pointwise [shifts_apply, mask_apply]
  by_cases hm : inside q k
  · rw [if_pos hm, if_pos hm]
    refine (scalar_one _ _).trans ?_
    refine (Finset.sum_eq_single (shift q k) (fun b _ hb => ?_) (fun hb => absurd (Finset.mem_univ _) hb)).trans ?_
    · rw [eq_word, if_neg hb, uitofp_zero, mul_zero]
    · rw [eq_word, if_pos rfl, uitofp_one, mul_one]
  · rw [if_neg hm, if_neg hm]
    exact (scalar_zero _ _).trans Soft.ofBits_bot

end Cert.NaIdeal.Na
-- ==== Proof.Kern.lean ====
module

public import proofs.«01_k».proof.Proof.Bias

@[expose] public section

set_option maxRecDepth 16384

noncomputable section

namespace Cert.NaIdeal.Na

open Cert.NaIdeal Cert.NaIdeal.Gen Idealize.ShloMosaic Idealize.ShloMosaic.TcCoe Idealize.SL.Sem

variable (m : (ℓ : Loc nD τ sig) → Buf (Elt Ideal) ℓ)

set_option maxHeartbeats 4000000 in
theorem past0 (c : Dev nD) (b : Fin 2) (x : Fin 512) (hd : Fin 8) (d : Fin 64) :
    (V m c main_v0 : FVec Ideal S2x512x512 .f32) (ix3 b x (out hd d)) = (m (c, main_arg1) : FVec Ideal S2x512x8x64 .f32) (ix4 b x hd d) := by
  have e : V m c main_v0 = shapeCast S2x512x512 (m (c, main_arg1) : FVec Ideal S2x512x8x64 .f32) shapeCasts_S2x512x8x64_S2x512x512 := by
    simp only [V, hostOps0, hostOps0_1, hostOps0_2, hostOps0_3, hostOps0_4, hostOps0_5, hostOps0_6, List.flatten_cons, List.flatten_nil, List.append_nil, List.cons_append, List.nil_append]
    run_tidy
    rfl
  rw [e]
  pointwise []
  have h1 : (out hd d).val / 64 = hd.val := by show (64 * hd.val + d.val) / 64 = hd.val; omega
  have h2 : (out hd d).val % 64 = d.val := by show (64 * hd.val + d.val) % 64 = d.val; omega
  simp only [h1, h2]

set_option maxHeartbeats 4000000 in
theorem past1 (c : Dev nD) (b : Fin 2) (x : Fin 512) (hd : Fin 8) (d : Fin 64) :
    (V m c main_v1 : FVec Ideal S2x512x512 .f32) (ix3 b x (out hd d)) = (m (c, main_arg2) : FVec Ideal S2x512x8x64 .f32) (ix4 b x hd d) := by
  have e : V m c main_v1 = shapeCast S2x512x512 (m (c, main_arg2) : FVec Ideal S2x512x8x64 .f32) shapeCasts_S2x512x8x64_S2x512x512 := by
    simp only [V, hostOps0, hostOps0_1, hostOps0_2, hostOps0_3, hostOps0_4, hostOps0_5, hostOps0_6, List.flatten_cons, List.flatten_nil, List.append_nil, List.cons_append, List.nil_append]
    run_tidy
    rfl
  rw [e]
  pointwise []
  have h1 : (out hd d).val / 64 = hd.val := by show (64 * hd.val + d.val) / 64 = hd.val; omega
  have h2 : (out hd d).val % 64 = d.val := by show (64 * hd.val + d.val) % 64 = d.val; omega
  simp only [h1, h2]

/-- The bias of key `x` of the neighbourhood for query column `q` of grid row `k`: the relative position's entry, and minus
    infinity where the key's column is outside the query's window. -/
def bias (rpb : FVec Ideal S8x15x31 .f32) (hd : Fin 8) (k : Fin 32) (q : Fin 64) (x : Fin 512) : EReal :=
  if inside q ⟨x.val % 64, by omega⟩ then
    rpb (ix3 hd ⟨start k + 7 - k.val + x.val / 64, by have := case_lt k; omega⟩ (shift q ⟨x.val % 64, by omega⟩))
  else ⊥

/-- One entry of the attention, from the arguments. -/
def entry (X : FVec Ideal S8192x1536 .f32) (K W : FVec Ideal S2x512x8x64 .f32) (rpb : FVec Ideal S8x15x31 .f32)
    (b : Fin 2) (k : Fin 32) (q : Fin 64) (hd : Fin 8) (e : Fin 64) : EReal :=
  Soft.att
    (fun x : Fin 512 => (∑ d : Fin 64, (X (ix2 (lat b (row k q)) (col 0 hd d)) : EReal) * X (ix2 (lat b (key k x)) (col 1 hd d))) * Soft.eighth
      + bias rpb hd k q x)
    (fun x : Fin 512 => (∑ d : Fin 64, (X (ix2 (lat b (row k q)) (col 0 hd d)) : EReal) * K (ix4 b x hd d)) * Soft.eighth)
    (fun x => X (ix2 (lat b (key k x)) (col 2 hd e))) (fun x => W (ix4 b x hd e))

/-- What the kernel leaves in its result array. -/
theorem arr_apply (c : Dev nD) (b : Fin 2) (k : Fin 32) (q : Fin 64) (hd : Fin 8) (e : Fin 64) :
    ((dats m 0 c).arrAt 6 cfg0.N : FVec Ideal S4096x512 .bf16) (ix2 (tok b (row k q)) (out hd e))
    = entry (m (c, main_arg0)) (m (c, main_arg1)) (m (c, main_arg2)) (m (c, main_arg3)) b k q hd e := by
  rw [arr]
  refine (whole_apply _ _ _ _ b k q hd e _ ?_ ?_).trans ?_
  · show 2048 * b.val + (64 * k.val + q.val) = _; omega
  · rfl
  unfold cell entry
  refine congr (congr (congr (congrArg Soft.att (funext fun x => ?_)) (funext fun x => ?_)) (funext fun x => ?_)) (funext fun x => ?_)
  · rw [V_main_arg0]
    refine Ideal.add_congr rfl ?_
    refine (tile_apply m c hd _ q x).trans ?_
    exact full_apply _ _ _ _ _
  · rw [V_main_arg0]
    exact congrArg (· * Soft.eighth) (Finset.sum_congr rfl fun d _ => congrArg₂ (fun a b : EReal => a * b) rfl (past0 m c b x hd d))
  · rw [V_main_arg0]
  · exact past1 m c b x hd e

end Cert.NaIdeal.Na
-- ==== Proof.RefA.lean ====
module

public import proofs.«01_k».proof.Proof.Gen.NaRefIdeal.Run
public import Idealize.ShloMosaic.Lib.Pointwise
public import Idealize.ShloMosaic.Lib.ValueIdxRank6
public import Idealize.ShloMosaic.Lib.TwoAxisContraction

@[expose] public section

set_option maxRecDepth 16384

noncomputable section

namespace Cert.NaRefIdeal.Na

open Cert.NaRefIdeal Cert.NaRefIdeal.Gen Cert.NaRefIdeal.Value Idealize.ShloMosaic Idealize.ShloMosaic.TcCoe Idealize.SL.Sem

/-- Rows of the neighbourhood, gathered, at an index. -/
theorem rows_apply (x : FVec Ideal S2x32x64x8x64 .f32) (idx : IVec S32x8x1 32) (b : Fin 2) (k : Fin 32) (w : Fin 8) (q : Fin 64) (hd : Fin 8) (d : Fin 64) :
    Host.gather gather_S2x32x64x8x64_S32x8x1_S2x32x8x64x8x64_0345_1_n_n_1_2_2164864 x idx (ix6 b k w q hd d)
      = x (ix5 b ⟨min (idx (ix3 k w 0)).toInt.toNat 31, by omega⟩ q hd d) := by
  unfold Host.gather
  congr 1
  funext a
  refine Fin.ext ?_
  match a with
  | ⟨0, _⟩ => show 0 + 0 + b.val = b.val; omega
  | ⟨1, _⟩ =>
    have hsi : gather_S2x32x64x8x64_S32x8x1_S2x32x8x64x8x64_0345_1_n_n_1_2_2164864.siIdx (ix6 b k w q hd d) ⟨0, by decide⟩ = ix3 k w 0 := by
      funext e
      refine Fin.ext ?_
      match e with
      | ⟨0, _⟩ => rfl
      | ⟨1, _⟩ => rfl
      | ⟨2, _⟩ => rfl
    show min (idx (gather_S2x32x64x8x64_S32x8x1_S2x32x8x64x8x64_0345_1_n_n_1_2_2164864.siIdx (ix6 b k w q hd d) ⟨0, by decide⟩)).toInt.toNat 31 + 0 + 0 = _
    rw [hsi]
    rfl
  | ⟨2, _⟩ => show 0 + 0 + q.val = q.val; omega
  | ⟨3, _⟩ => show 0 + 0 + hd.val = hd.val; omega
  | ⟨4, _⟩ => show 0 + 0 + d.val = d.val; omega

/-- The bias table's rows, gathered, at an index. -/
theorem rpb_apply (x : FVec Ideal S8x15x31 .f32) (idx : IVec S32x8x1 32) (hd : Fin 8) (k : Fin 32) (w : Fin 8) (l : Fin 31) :
    Host.gather gather_S8x15x31_S32x8x1_S8x32x8x31_03_1_n_n_1_2_8131 x idx (ix4 hd k w l)
      = x (ix3 hd ⟨min (idx (ix3 k w 0)).toInt.toNat 14, by omega⟩ l) := by
  unfold Host.gather
  congr 1
  funext a
  refine Fin.ext ?_
  match a with
  | ⟨0, _⟩ => show 0 + 0 + hd.val = hd.val; omega
  | ⟨1, _⟩ =>
    have hsi : gather_S8x15x31_S32x8x1_S8x32x8x31_03_1_n_n_1_2_8131.siIdx (ix4 hd k w l) ⟨0, by decide⟩ = ix3 k w 0 := by
      funext e
      refine Fin.ext ?_
      match e with
      | ⟨0, _⟩ => rfl
      | ⟨1, _⟩ => rfl
      | ⟨2, _⟩ => rfl
    show min (idx (gather_S8x15x31_S32x8x1_S8x32x8x31_03_1_n_n_1_2_8131.siIdx (ix4 hd k w l) ⟨0, by decide⟩)).toInt.toNat 14 + 0 + 0 = _
    rw [hsi]
    rfl
  | ⟨2, _⟩ => show 0 + 0 + l.val = l.val; omega

/-- Its columns, taken, at an index. -/
theorem cols_apply (x : FVec Ideal S8x32x8x31 .f32) (idx : IVec S64x64x1 32) (hd : Fin 8) (k : Fin 32) (w : Fin 8) (q c : Fin 64) :
    Host.gather gather_S8x32x8x31_S64x64x1_S8x32x8x64x64_012_3_n_n_3_2_83281 x idx (ix5 hd k w q c)
      = x (ix4 hd k w ⟨min (idx (ix3 q c 0)).toInt.toNat 30, by omega⟩) := by
  unfold Host.gather
  congr 1
  funext a
  refine Fin.ext ?_
  match a with
  | ⟨0, _⟩ => show 0 + 0 + hd.val = hd.val; omega
  | ⟨1, _⟩ => show 0 + 0 + k.val = k.val; omega
  | ⟨2, _⟩ => show 0 + 0 + w.val = w.val; omega
  | ⟨3, _⟩ =>
    have hsi : gather_S8x32x8x31_S64x64x1_S8x32x8x64x64_012_3_n_n_3_2_83281.siIdx (ix5 hd k w q c) ⟨0, by decide⟩ = ix3 q c 0 := by
      funext e
      refine Fin.ext ?_
      match e with
      | ⟨0, _⟩ => rfl
      | ⟨1, _⟩ => rfl
      | ⟨2, _⟩ => rfl
    show min (idx (gather_S8x32x8x31_S64x64x1_S8x32x8x64x64_012_3_n_n_3_2_83281.siIdx (ix5 hd k w q c) ⟨0, by decide⟩)).toInt.toNat 30 + 0 + 0 = _
    rw [hsi]
    rfl

/-- The first of a query row's eight key rows. -/
def start (k : Fin 32) : Nat := min 24 (k.val - 4)
theorem start_le (k : Fin 32) : start k ≤ 24 := Nat.min_le_left _ _
theorem near_row (k : Fin 32) : k.val ≤ start k + 7 ∧ start k ≤ k.val := by unfold start; omega

/-- A row's word, wrapped when it is negative. -/
theorem key_word : ∀ (k : Fin 32) (w : Fin 8),
    (let r := IntOp.addi (IntOp.minsi 24#32 (IntOp.maxsi 0#32 (IntOp.subi (BitVec.ofNat 32 k.val) 4#32))) (BitVec.ofNat 32 w.val)
     Scalar.select (IntOp.cmpi .slt r 0#32) (IntOp.addi r 32#32) r) = BitVec.ofNat 32 (min 24 (k.val - 4) + w.val) := by decide +kernel

/-- The relative row's word. -/
theorem row_word : ∀ (k : Fin 32) (w : Fin 8),
    (let r := IntOp.subi (IntOp.addi (IntOp.subi (IntOp.addi (IntOp.minsi 24#32 (IntOp.maxsi 0#32 (IntOp.subi (BitVec.ofNat 32 k.val) 4#32))) (BitVec.ofNat 32 w.val)) (BitVec.ofNat 32 k.val)) 8#32) 1#32
     Scalar.select (IntOp.cmpi .slt r 0#32) (IntOp.addi r 15#32) r) = BitVec.ofNat 32 (min 24 (k.val - 4) + 7 - k.val + w.val) := by decide +kernel

/-- The relative column's word, and that it is in range. -/
theorem col_word : ∀ q c : Fin 64,
    (let r := IntOp.subi (IntOp.addi (IntOp.minsi 15#32 (IntOp.maxsi 4294967281#32 (IntOp.subi (BitVec.ofNat 32 c.val) (BitVec.ofNat 32 q.val)))) 16#32) 1#32
     Scalar.select (IntOp.cmpi .slt r 0#32) (IntOp.addi r 31#32) r) = BitVec.ofNat 32 (min 30 (c.val + 15 - q.val)) := by decide +kernel

/-- The window's word. -/
theorem win_word : ∀ q c : Fin 64,
    (let s := IntOp.minsi 48#32 (IntOp.maxsi 0#32 (IntOp.subi (BitVec.ofNat 32 q.val) 8#32))
     IntOp.andi (IntOp.cmpi .sge (BitVec.ofNat 32 c.val) s) (IntOp.cmpi .slt (BitVec.ofNat 32 c.val) (IntOp.addi s 16#32)))
      = if min 48 (q.val - 8) ≤ c.val ∧ c.val < min 48 (q.val - 8) + 16 then 1#1 else 0#1 := by decide +kernel

theorem toNat_word {n N : Nat} (h : n ≤ N) (hN : N < 1000) : min (BitVec.ofNat 32 n).toInt.toNat N = n := by
  have : (BitVec.ofNat 32 n).toInt = n := by
    rw [BitVec.toInt_eq_toNat_of_lt (by rw [BitVec.toNat_ofNat]; omega), BitVec.toNat_ofNat]; omega
  rw [this]
  omega

variable (V : Valuation τ sig (Elt Ideal))

theorem key_rows (k : Fin 32) (w : Fin 8) :
    (broadcastInDim S32x8x1 ![0, 1] bcast_S32x8_S32x8x1_0_1 (select (cmpi .slt (res_main_v17 V) (broadcastInDim S32x8 ![] bcast_S_S32x8 (constantI S_ 32 0#32))) (addi (res_main_v17 V) (broadcastInDim S32x8 ![] bcast_S_S32x8 (constantI S_ 32 32#32))) (res_main_v17 V)) : IVec S32x8x1 32) (ix3 k w 0)
      = BitVec.ofNat 32 (start k + w.val) := by
  refine Eq.trans ?_ (key_word k w)
  pointwise [res_main_v17, res_main_v8]
  rfl

theorem take_cols (q c : Fin 64) : (res_main_call3_v5 V : IVec S64x64x1 32) (ix3 q c 0) = BitVec.ofNat 32 (min 30 (c.val + 15 - q.val)) := by
  refine Eq.trans ?_ (col_word q c)
  pointwise [res_main_call3_v5, res_main_v51, res_main_v18]
  rfl

end Cert.NaRefIdeal.Na
-- ==== Proof.RefB.lean ====
module

public import proofs.«01_k».proof.Proof.RefA
public import proofs.«01_k».proof.Proof.Soft
public import Idealize.ShloMosaic.Lib.ReduceAll

@[expose] public section

set_option maxRecDepth 16384

noncomputable section

namespace Cert.NaRefIdeal.Na

open Cert.NaRefIdeal Cert.NaRefIdeal.Gen Cert.NaRefIdeal.Value Idealize.ShloMosaic Idealize.ShloMosaic.TcCoe Idealize.SL.Sem

variable (V : Valuation τ sig (Elt Ideal))

/-- The key rows of each query row. -/
def keyIdx : IVec S32x8x1 32 :=
  broadcastInDim S32x8x1 ![0, 1] bcast_S32x8_S32x8x1_0_1 (select (cmpi .slt (res_main_v17 V) (broadcastInDim S32x8 ![] bcast_S_S32x8 (constantI S_ 32 0#32))) (addi (res_main_v17 V) (broadcastInDim S32x8 ![] bcast_S_S32x8 (constantI S_ 32 32#32))) (res_main_v17 V))

/-- The relative rows of each query row. -/
def rowIdx : IVec S32x8x1 32 :=
  broadcastInDim S32x8x1 ![0, 1] bcast_S32x8_S32x8x1_0_1 (select (cmpi .slt (res_main_v41 V) (broadcastInDim S32x8 ![] bcast_S_S32x8 (constantI S_ 32 0#32))) (addi (res_main_v41 V) (broadcastInDim S32x8 ![] bcast_S_S32x8 (constantI S_ 32 15#32))) (res_main_v41 V))

/-- The keys, by row, column and head. -/
def keyH : FVec Ideal S2x32x64x8x64 .f32 :=
  shapeCast _ (shapeCast _ (extractStridedSlice S2x2048x512 ![0, 0, 512] (res_main_v1 V) slices_S2x2048x1536_S2x2048x512_0_0_512) shapeCasts_S2x2048x512_S2x2048x8x64) shapeCasts_S2x2048x8x64_S2x32x64x8x64

/-- The values, by row, column and head. -/
def valH : FVec Ideal S2x32x64x8x64 .f32 :=
  shapeCast _ (shapeCast _ (extractStridedSlice S2x2048x512 ![0, 0, 1024] (res_main_v1 V) slices_S2x2048x1536_S2x2048x512_0_0_1024) shapeCasts_S2x2048x512_S2x2048x8x64) shapeCasts_S2x2048x8x64_S2x32x64x8x64

/-- The keys of each query row's neighbourhood. -/
def keysG : FVec Ideal S2x32x8x64x8x64 .f32 :=
  Host.gather gather_S2x32x64x8x64_S32x8x1_S2x32x8x64x8x64_0345_1_n_n_1_2_2164864 (keyH V) (keyIdx V)

/-- The values of each query row's neighbourhood. -/
def valsG : FVec Ideal S2x32x8x64x8x64 .f32 :=
  Host.gather gather_S2x32x64x8x64_S32x8x1_S2x32x8x64x8x64_0345_1_n_n_1_2_2164864 (valH V) (keyIdx V)

/-- The bias table's rows. -/
def rpbR : FVec Ideal S8x32x8x31 .f32 :=
  Host.gather gather_S8x15x31_S32x8x1_S8x32x8x31_03_1_n_n_1_2_8131 (V (Proc.devRef .tc main_arg3)) (rowIdx V)

/-- Whether the relative column is in range. -/
def inR : IVec S64x64 1 :=
  Host.reduce IntOp.andi (andi (cmpi .sge (res_main_call3_v5 V) (broadcastInDim S64x64x1 ![] bcast_S_S64x64x1 (constantI S_ 32 0#32))) (cmpi .sle (res_main_call3_v5 V) (broadcastInDim S64x64x1 ![0, 1, 2] bcast_S1x1x1_S64x64x1_0_1_2 (broadcastInDim S1x1x1 ![2] bcast_S1_S1x1x1_2 (constantI S1 32 30#32))))) (constantI S_ 1 1#1) reducesTo_S64x64x1_S64x64_d2 h_S_

/-- The bias of each query and key. -/
def biasT : FVec Ideal S8x32x64x8x64 .f32 :=
  transpose S8x32x64x8x64 [0, 1, 3, 2, 4] (select (broadcastInDim S8x32x8x64x64 ![3, 4] bcast_S64x64_S8x32x8x64x64_3_4 (inR V)) (Host.gather gather_S8x32x8x31_S64x64x1_S8x32x8x64x64_012_3_n_n_3_2_83281 (rpbR V) (res_main_call3_v5 V)) (broadcastInDim S8x32x8x64x64 ![] bcast_S_S8x32x8x64x64 (constant S_ .f32 0x7FC00000#32))) transposes_S8x32x8x64x64_S8x32x64x8x64_0_1_3_2_4

/-- Whether a key's column is in the query's window. -/
def win : IVec S64x64 1 :=
  andi (cmpi .sge (broadcastInDim S64x64 ![0, 1] bcast_S1x64_S64x64_0_1 (broadcastInDim S1x64 ![1] bcast_S64_S1x64_1 (res_main_v18 V))) (broadcastInDim S64x64 ![0, 1] bcast_S64x1_S64x64_0_1 (broadcastInDim S64x1 ![0] bcast_S64_S64x1_0 (res_main_v21 V)))) (cmpi .slt (broadcastInDim S64x64 ![0, 1] bcast_S1x64_S64x64_0_1 (broadcastInDim S1x64 ![1] bcast_S64_S1x64_1 (res_main_v18 V))) (broadcastInDim S64x64 ![0, 1] bcast_S64x1_S64x64_0_1 (addi (broadcastInDim S64x1 ![0] bcast_S64_S64x1_0 (res_main_v21 V)) (broadcastInDim S64x1 ![] bcast_S_S64x1 (constantI S_ 32 16#32)))))

/-- The scores of the neighbourhood. -/
def near : FVec Ideal S2x8x32x64x8x64 .f32 :=
  select (broadcastInDim S2x8x32x64x8x64 ![0, 1, 2, 3, 4, 5] bcast_S1x1x1x64x1x64_S2x8x32x64x8x64_0_1_2_3_4_5 (broadcastInDim S1x1x1x64x1x64 ![3, 5] bcast_S64x64_S1x1x1x64x1x64_3_5 (win V))) (addf (mulf (Host.dotGeneral (φ₁ := .f32) (φ₂ := .f32) dot_S2x32x64x8x64_S2x32x8x64x8x64_S2x8x32x64x8x64_4_5_2_23_031_041 none (res_main_v61 V : FVec Ideal S2x32x64x8x64 .f32) (keysG V)) (broadcastInDim S2x8x32x64x8x64 ![] bcast_S_S2x8x32x64x8x64 (constant S_ .f32 0x3E000000#32))) (broadcastInDim S2x8x32x64x8x64 ![0, 1, 2, 3, 4, 5] bcast_S1x8x32x64x8x64_S2x8x32x64x8x64_0_1_2_3_4_5 (broadcastInDim S1x8x32x64x8x64 ![1, 2, 3, 4, 5] bcast_S8x32x64x8x64_S1x8x32x64x8x64_1_2_3_4_5 (biasT V)))) (broadcastInDim S2x8x32x64x8x64 ![] bcast_S_S2x8x32x64x8x64 (id (constant S_ .f32 0xFF800000#32)))

/-- The scores of the cache. -/
def past : FVec Ideal S2x8x32x64x512 .f32 :=
  mulf (Host.dotGeneral (φ₁ := .f32) (φ₂ := .f32) dot_S2x32x64x8x64_S2x512x8x64_S2x8x32x64x512_4_3_12_1_03_02 none (res_main_v61 V : FVec Ideal S2x32x64x8x64 .f32) (V (Proc.devRef .tc main_arg1) : FVec Ideal S2x512x8x64 .f32)) (broadcastInDim S2x8x32x64x512 ![] bcast_S_S2x8x32x64x512 (constant S_ .f32 0x3E000000#32))

theorem v90_eq : res_main_v90 V = fn_main_v90 (shapeCast S2x8x32x64x512 (near V) shapeCasts_S2x8x32x64x8x64_S2x8x32x64x512) (past V) := rfl

/-- Row `b`, `r` of the queries, keys and values. -/
def lat (b : Fin 2) (r : Fin 2048) : Fin 8192 := ⟨4096 + (b.val * 2048 + r.val), by omega⟩
def row (k : Fin 32) (q : Fin 64) : Fin 2048 := ⟨k.val * 64 + q.val, by omega⟩
def col (s : Fin 3) (hd : Fin 8) (d : Fin 64) : Fin 1536 := ⟨512 * s.val + (hd.val * 64 + d.val), by omega⟩

/-- The projections. -/
def X : FVec Ideal S8192x1536 .f32 := V (Proc.devRef .tc main_arg0)

theorem v1_apply (b : Fin 2) (r : Fin 2048) (c : Fin 1536) : (res_main_v1 V : FVec Ideal S2x2048x1536 .f32) (ix3 b r c) = X V (ix2 (lat b r) c) := by
  pointwise [res_main_v1]
  rfl

theorem v61_apply (b : Fin 2) (k : Fin 32) (q : Fin 64) (hd : Fin 8) (d : Fin 64) :
    (res_main_v61 V : FVec Ideal S2x32x64x8x64 .f32) (ix5 b k q hd d) = X V (ix2 (lat b (row k q)) (col 0 hd d)) := by
  refine Eq.trans ?_ (v1_apply V b (row k q) (col 0 hd d))
  pointwise [res_main_v61]
  exact congrArg (fun i => res_main_v1 V (ix3 b (row k q) i)) (Fin.ext (by show hd.val * 64 + d.val = 512 * 0 + (hd.val * 64 + d.val); omega))

theorem keyH_apply (b : Fin 2) (k : Fin 32) (q : Fin 64) (hd : Fin 8) (d : Fin 64) :
    keyH V (ix5 b k q hd d) = X V (ix2 (lat b (row k q)) (col 1 hd d)) := by
  refine Eq.trans ?_ (v1_apply V b (row k q) (col 1 hd d))
  pointwise [keyH]
  rfl

theorem valH_apply (b : Fin 2) (k : Fin 32) (q : Fin 64) (hd : Fin 8) (d : Fin 64) :
    valH V (ix5 b k q hd d) = X V (ix2 (lat b (row k q)) (col 2 hd d)) := by
  refine Eq.trans ?_ (v1_apply V b (row k q) (col 2 hd d))
  pointwise [valH]
  rfl

theorem keyIdx_apply (k : Fin 32) (w : Fin 8) : keyIdx V (ix3 k w 0) = BitVec.ofNat 32 (start k + w.val) := key_rows V k w

theorem rowIdx_apply (k : Fin 32) (w : Fin 8) : rowIdx V (ix3 k w 0) = BitVec.ofNat 32 (start k + 7 - k.val + w.val) := by
  refine Eq.trans ?_ (row_word k w)
  pointwise [rowIdx, res_main_v41, res_main_v17, res_main_v8]
  rfl

theorem win_apply (q c : Fin 64) : win V (ix2 q c) = if min 48 (q.val - 8) ≤ c.val ∧ c.val < min 48 (q.val - 8) + 16 then 1#1 else 0#1 := by
  refine Eq.trans ?_ (win_word q c)
  pointwise [win, res_main_v18, res_main_v21]
  rfl

theorem range_word : ∀ q c : Fin 64,
    IntOp.andi (IntOp.cmpi .sge (BitVec.ofNat 32 (min 30 (c.val + 15 - q.val))) 0#32) (IntOp.cmpi .sle (BitVec.ofNat 32 (min 30 (c.val + 15 - q.val))) 30#32) = 1#1 := by
  decide +kernel

theorem inR_apply (q c : Fin 64) : inR V (ix2 q c) = 1#1 := by
  unfold inR
  refine Host.reduce_andi_one _ _ _ _ _ rfl fun i => ?_
  idx_vars i
  obtain rfl : i2 = 0 := Subsingleton.elim _ _
  refine Eq.trans ?_ (range_word i0 i1)
  pointwise [take_cols]

/-- Row `w` of the eight rows near row `k`. -/
def key (k : Fin 32) (w : Fin 8) (c : Fin 64) : Fin 2048 := row ⟨start k + w.val, by have := start_le k; omega⟩ c

theorem keysG_apply (b : Fin 2) (k : Fin 32) (w : Fin 8) (c : Fin 64) (hd : Fin 8) (d : Fin 64) :
    keysG V (ix6 b k w c hd d) = X V (ix2 (lat b (key k w c)) (col 1 hd d)) := by
  unfold keysG
  rw [rows_apply, keyH_apply]
  refine congrArg (fun i => X V (ix2 (lat b (row i c)) (col 1 hd d))) (Fin.ext ?_)
  show min (keyIdx V (ix3 k w 0)).toInt.toNat 31 = start k + w.val
  rw [keyIdx_apply]
  exact toNat_word (by have := start_le k; omega) (by omega)

theorem valsG_apply (b : Fin 2) (k : Fin 32) (w : Fin 8) (c : Fin 64) (hd : Fin 8) (d : Fin 64) :
    valsG V (ix6 b k w c hd d) = X V (ix2 (lat b (key k w c)) (col 2 hd d)) := by
  unfold valsG
  rw [rows_apply, valH_apply]
  refine congrArg (fun i => X V (ix2 (lat b (row i c)) (col 2 hd d))) (Fin.ext ?_)
  show min (keyIdx V (ix3 k w 0)).toInt.toNat 31 = start k + w.val
  rw [keyIdx_apply]
  exact toNat_word (by have := start_le k; omega) (by omega)

/-- The relative row and column. -/
def relRow (k : Fin 32) (w : Fin 8) : Fin 15 := ⟨start k + 7 - k.val + w.val, by have := near_row k; omega⟩
def relCol (q c : Fin 64) : Fin 31 := ⟨min 30 (c.val + 15 - q.val), by omega⟩

theorem biasT_apply (hd : Fin 8) (k : Fin 32) (q : Fin 64) (w : Fin 8) (c : Fin 64) :
    biasT V (ix5 hd k q w c) = (V (Proc.devRef .tc main_arg3) : FVec Ideal S8x15x31 .f32) (ix3 hd (relRow k w) (relCol q c)) := by
  unfold biasT
  pointwise [inR_apply, cols_apply, rpbR, rpb_apply, rowIdx_apply, take_cols]
  refine congrArg₂ (fun i j => (V (Proc.devRef .tc main_arg3) : FVec Ideal S8x15x31 .f32) (ix3 hd i j)) (Fin.ext ?_) (Fin.ext ?_)
  · exact toNat_word (by have := near_row k; omega) (by omega)
  · exact toNat_word (by omega) (by omega)

/-- Whether column `c` is in the window of column `q`. -/
def inside (q c : Fin 64) : Prop := min 48 (q.val - 8) ≤ c.val ∧ c.val < min 48 (q.val - 8) + 16
instance (q c : Fin 64) : Decidable (inside q c) := by unfold inside; infer_instance

theorem near_apply (b : Fin 2) (hd : Fin 8) (k : Fin 32) (q : Fin 64) (w : Fin 8) (c : Fin 64) :
    near V (ix6 b hd k q w c) = if inside q c then
        ((∑ d : Fin 64, (X V (ix2 (lat b (row k q)) (col 0 hd d)) : EReal) * X V (ix2 (lat b (key k w c)) (col 1 hd d))) * Soft.eighth
          + (V (Proc.devRef .tc main_arg3) : FVec Ideal S8x15x31 .f32) (ix3 hd (relRow k w) (relCol q c)) : EReal)
      else ⊥ := by
  unfold near
  pointwise [win_apply, biasT_apply, keysG_apply, v61_apply, Soft.ofBits_eighth, Soft.ofBits_bot]
  by_cases h : inside q c
  · rw [if_pos h, if_pos (show min 48 (q.val - 8) ≤ c.val ∧ c.val < min 48 (q.val - 8) + 16 from h)]; rfl
  · rw [if_neg h, if_neg (show ¬ (min 48 (q.val - 8) ≤ c.val ∧ c.val < min 48 (q.val - 8) + 16) from h)]
    exact Soft.ofBits_bot

theorem past_apply (b : Fin 2) (hd : Fin 8) (k : Fin 32) (q : Fin 64) (x : Fin 512) :
    past V (ix5 b hd k q x) = ((∑ d : Fin 64, (X V (ix2 (lat b (row k q)) (col 0 hd d)) : EReal) *
        (V (Proc.devRef .tc main_arg1) : FVec Ideal S2x512x8x64 .f32) (ix4 b x hd d)) * Soft.eighth : EReal) := by
  unfold past
  pointwise [v61_apply, Soft.ofBits_eighth]
  rfl

end Cert.NaRefIdeal.Na
-- ==== Proof.RefC.lean ====
module

public import proofs.«01_k».proof.Proof.RefB

@[expose] public section

set_option maxRecDepth 16384

noncomputable section

namespace Cert.NaRefIdeal.Na

open Cert.NaRefIdeal Cert.NaRefIdeal.Gen Cert.NaRefIdeal.Value Idealize.ShloMosaic Idealize.ShloMosaic.TcCoe Idealize.SL.Sem

variable (V : Valuation τ sig (Elt Ideal))

/-- The scores of the neighbourhood and of the cache. -/
def sN (b : Fin 2) (hd : Fin 8) (k : Fin 32) (q : Fin 64) (x : Fin 512) : EReal := near V (ix6 b hd k q ⟨x.val / 64, by omega⟩ ⟨x.val % 64, by omega⟩)
def sP (b : Fin 2) (hd : Fin 8) (k : Fin 32) (q : Fin 64) (x : Fin 512) : EReal := past V (ix5 b hd k q x)

def lo (x : Fin 512) : Fin 1024 := ⟨x.val, by omega⟩
def hi (x : Fin 512) : Fin 1024 := ⟨512 + x.val, by omega⟩

/-- All scores of one query. -/
def S : FVec Ideal S2x8x32x64x1024 .f32 := res_main_v90 V

theorem v90_lo (b : Fin 2) (hd : Fin 8) (k : Fin 32) (q : Fin 64) (x : Fin 512) : S V (ix5 b hd k q (lo x)) = sN V b hd k q x := by
  unfold S
  rw [v90_eq]
  pointwise [fn_main_v90]
  exact dif_pos x.isLt

theorem v90_hi (b : Fin 2) (hd : Fin 8) (k : Fin 32) (q : Fin 64) (x : Fin 512) : S V (ix5 b hd k q (hi x)) = sP V b hd k q x := by
  unfold S
  rw [v90_eq]
  pointwise [fn_main_v90]
  rw [dif_neg (show ¬ (hi x).val < 512 by show ¬ 512 + x.val < 512; omega)]
  exact congrArg (fun i => past V (ix5 b hd k q i)) (Fin.ext (by show 512 + x.val - 512 = x.val; omega))

theorem fold_drop {α : Type} (op : α → α → α) [Std.Commutative op] [Std.Associative op] (z : α) (f : S2x8x32x64x1024.Idx → α) (b : Fin 2) (hd : Fin 8) (k : Fin 32) (q : Fin 64)
    [DecidablePred fun i : S2x8x32x64x1024.Idx => reducesTo_S2x8x32x64x1024_S2x8x32x64_d4.drop i = ix4 b hd k q] :
    Finset.fold op z f (Finset.univ.filter fun i => reducesTo_S2x8x32x64x1024_S2x8x32x64_d4.drop i = ix4 b hd k q)
      = Finset.univ.fold op z fun x : Fin 1024 => f (ix5 b hd k q x) := by
  have e : (Finset.univ.filter fun i => reducesTo_S2x8x32x64x1024_S2x8x32x64_d4.drop i = ix4 b hd k q)
      = Finset.univ.image fun x : Fin 1024 => (ix5 b hd k q x : S2x8x32x64x1024.Idx) := by
    ext i
    simp only [Finset.mem_filter, Finset.mem_univ, true_and, Finset.mem_image]
    constructor
    · intro h
      refine ⟨i 4, ?_⟩
      have h0 : i 0 = b := congrFun h 0
      have h1 : i 1 = hd := congrFun h 1
      have h2 : i 2 = k := congrFun h 2
      have h3 : i 3 = q := congrFun h 3
      funext a
      match a with
      | ⟨0, _⟩ => exact h0.symm
      | ⟨1, _⟩ => exact h1.symm
      | ⟨2, _⟩ => exact h2.symm
      | ⟨3, _⟩ => exact h3.symm
      | ⟨4, _⟩ => rfl
    · rintro ⟨x, rfl⟩
      funext a
      match a with
      | ⟨0, _⟩ => rfl
      | ⟨1, _⟩ => rfl
      | ⟨2, _⟩ => rfl
      | ⟨3, _⟩ => rfl
  rw [e, Finset.fold_image fun x _ y _ h => congrFun h 4]
  rfl

theorem fold_halves (g : Fin 1024 → EReal) :
    Finset.univ.fold max ⊥ g = max (Finset.univ.fold max ⊥ fun x => g (lo x)) (Finset.univ.fold max ⊥ fun x => g (hi x)) := by
  show Finset.univ.sup g = max (Finset.univ.sup fun x => g (lo x)) (Finset.univ.sup fun x => g (hi x))
  refine le_antisymm (Finset.sup_le fun x _ => ?_) (max_le (Finset.sup_le fun x _ => Finset.le_sup (f := g) (Finset.mem_univ _)) (Finset.sup_le fun x _ => Finset.le_sup (f := g) (Finset.mem_univ _)))
  by_cases h : x.val < 512
  · exact le_max_of_le_left (Finset.le_sup (f := fun x => g (lo x)) (Finset.mem_univ (⟨x.val, h⟩ : Fin 512)))
  · have e : x = hi ⟨x.val - 512, by omega⟩ := Fin.ext (by show x.val = 512 + (x.val - 512); omega)
    rw [e]
    exact le_max_of_le_right (Finset.le_sup (f := fun x => g (hi x)) (Finset.mem_univ _))

theorem sum_halves (g : Fin 1024 → EReal) : ∑ x, g x = (∑ x, g (lo x)) + ∑ x, g (hi x) :=
  Fin.sum_univ_two_halves 512 512 rfl g

/-- The largest score of each query. -/
def M : FVec Ideal S2x8x32x64 .f32 :=
  maximumf (broadcastInDim S2x8x32x64 ![] bcast_S_S2x8x32x64 (constant S_ .f32 0xFF800000#32)) (Host.reduce FloatOps.maximumf (S V) (constant S_ .f32 0xFF800000#32) reducesTo_S2x8x32x64x1024_S2x8x32x64_d4 h_S_)

theorem top_apply (x : FVec Ideal S2x8x32x64x1024 .f32) (init : FVec Ideal S_ .f32) (b : Fin 2) (hd : Fin 8) (k : Fin 32) (q : Fin 64) :
    Host.reduce FloatOps.maximumf x init reducesTo_S2x8x32x64x1024_S2x8x32x64_d4 h_S_ (ix4 b hd k q)
      = Finset.univ.fold max (init (Shape.Idx.first h_S_) : EReal) fun y : Fin 1024 => (x (ix5 b hd k q y) : EReal) :=
  (Host.reduce_eq_fold FloatOps.maximumf x init _ _ _).trans (fold_drop FloatOps.maximumf _ x b hd k q)

theorem bot_first : (constant S_ .f32 0xFF800000#32 : FVec Ideal S_ .f32) (Shape.Idx.first h_S_) = (⊥ : EReal) := Soft.ofBits_bot
theorem bot_wide (y : S2x8x32x64.Idx) : (broadcastInDim S2x8x32x64 ![] bcast_S_S2x8x32x64 (constant S_ .f32 0xFF800000#32 : FVec Ideal S_ .f32) : FVec Ideal S2x8x32x64 .f32) y = (⊥ : EReal) := Soft.ofBits_bot

theorem top_eq (b : Fin 2) (hd : Fin 8) (k : Fin 32) (q : Fin 64) :
    (Finset.univ.fold max ⊥ fun y : Fin 1024 => (S V (ix5 b hd k q y) : EReal)) = Soft.top2 (sN V b hd k q) (sP V b hd k q) := by
  rw [fold_halves]
  simp only [v90_lo, v90_hi]
  exact Eq.refl (max (Finset.univ.fold max ⊥ (sN V b hd k q)) (Finset.univ.fold max ⊥ (sP V b hd k q)))

theorem M_apply (b : Fin 2) (hd : Fin 8) (k : Fin 32) (q : Fin 64) : M V (ix4 b hd k q) = Soft.top2 (sN V b hd k q) (sP V b hd k q) := by
  unfold M
  rw [ValueIdx.maximumf_apply, top_apply, bot_first, bot_wide, max_eq_right bot_le, top_eq]

end Cert.NaRefIdeal.Na
-- ==== Proof.RefD.lean ====
module

public import proofs.«01_k».proof.Proof.RefC

@[expose] public section

set_option maxRecDepth 16384

noncomputable section

namespace Cert.NaRefIdeal.Na

open Cert.NaRefIdeal Cert.NaRefIdeal.Gen Cert.NaRefIdeal.Value Idealize.ShloMosaic Idealize.ShloMosaic.TcCoe Idealize.SL.Sem

variable (V : Valuation τ sig (Elt Ideal))

/-- The weights, before and after the division. -/
def E : FVec Ideal S2x8x32x64x1024 .f32 := res_main_v97 V
def Wt : FVec Ideal S2x8x32x64x1024 .f32 := res_main_v101 V

theorem E_eq : E V = Host.exp (subf (S V) (broadcastInDim S2x8x32x64x1024 ![0, 1, 2, 3, 4] bcast_S2x8x32x64x1_S2x8x32x64x1024_0_1_2_3_4 (broadcastInDim S2x8x32x64x1 ![0, 1, 2, 3] bcast_S2x8x32x64_S2x8x32x64x1_0_1_2_3 (M V)))) := rfl

theorem E_apply (b : Fin 2) (hd : Fin 8) (k : Fin 32) (q : Fin 64) (x : Fin 1024) :
    E V (ix5 b hd k q x) = Ideal.exp (S V (ix5 b hd k q x) - Soft.top2 (sN V b hd k q) (sP V b hd k q) : EReal) := by
  rw [E_eq]
  pointwise [M_apply]

theorem Wt_apply (b : Fin 2) (hd : Fin 8) (k : Fin 32) (q : Fin 64) (x : Fin 1024) :
    Wt V (ix5 b hd k q x) = Ideal.div (E V (ix5 b hd k q x)) (∑ x : Fin 1024, (E V (ix5 b hd k q x) : EReal)) := by
  pointwise [Wt, res_main_v101]
  rfl

/-- The result. -/
def res : FVec Ideal S4096x512 .bf16 :=
  truncf .bf16 (shapeCast _ (shapeCast _ (addf (transpose S2x32x64x8x64 [0, 1, 4, 2, 3] (Host.dotGeneral (φ₁ := .f32) (φ₂ := .f32) dot_S2x32x8x64x8x64_S2x8x32x64x8x64_S2x32x8x64x64_23_45_5_3_014_021 none (valsG V : FVec Ideal S2x32x8x64x8x64 .f32) (shapeCast _ (extractStridedSlice S2x8x32x64x512 ![0, 0, 0, 0, 0] (Wt V) slices_S2x8x32x64x1024_S2x8x32x64x512_0_0_0_0_0) shapeCasts_S2x8x32x64x512_S2x8x32x64x8x64)) transposes_S2x32x8x64x64_S2x32x64x8x64_0_1_4_2_3) (transpose S2x32x64x8x64 [0, 3, 4, 1, 2] (Host.dotGeneral (φ₁ := .f32) (φ₂ := .f32) dot_S2x512x8x64_S2x8x32x64x512_S2x8x64x32x64_1_4_3_23_02_01 none (V (Proc.devRef .tc main_arg2) : FVec Ideal S2x512x8x64 .f32) (extractStridedSlice S2x8x32x64x512 ![0, 0, 0, 0, 512] (Wt V) slices_S2x8x32x64x1024_S2x8x32x64x512_0_0_0_0_512)) transposes_S2x8x64x32x64_S2x32x64x8x64_0_3_4_1_2)) shapeCasts_S2x32x64x8x64_S2x2048x512) shapeCasts_S2x2048x512_S4096x512) bitsLt_bf16_f32

theorem sum_tiles (f : Fin 512 → EReal) : ∑ x, f x = ∑ a : Fin 8, ∑ c : Fin 64, f ⟨a.val * 64 + c.val, by omega⟩ := by
  rw [← Equiv.sum_comp (finProdFinEquiv (m := 8) (n := 64)) f, Fintype.sum_prod_type]
  refine Finset.sum_congr rfl fun a _ => Finset.sum_congr rfl fun c _ => congrArg f (Fin.ext ?_)
  show c.val + 64 * a.val = a.val * 64 + c.val
  omega

/-- The divisor of one query. -/
def den (b : Fin 2) (hd : Fin 8) (k : Fin 32) (q : Fin 64) : EReal :=
  (∑ x, Ideal.exp (sN V b hd k q x - Soft.top2 (sN V b hd k q) (sP V b hd k q))) + ∑ x, Ideal.exp (sP V b hd k q x - Soft.top2 (sN V b hd k q) (sP V b hd k q))

theorem Wt_lo (b : Fin 2) (hd : Fin 8) (k : Fin 32) (q : Fin 64) (x : Fin 512) :
    Wt V (ix5 b hd k q (lo x)) = Ideal.div (Ideal.exp (sN V b hd k q x - Soft.top2 (sN V b hd k q) (sP V b hd k q))) (den V b hd k q) := by
  rw [Wt_apply, sum_halves]
  simp only [E_apply, v90_lo, v90_hi]
  rfl

theorem Wt_hi (b : Fin 2) (hd : Fin 8) (k : Fin 32) (q : Fin 64) (x : Fin 512) :
    Wt V (ix5 b hd k q (hi x)) = Ideal.div (Ideal.exp (sP V b hd k q x - Soft.top2 (sN V b hd k q) (sP V b hd k q))) (den V b hd k q) := by
  rw [Wt_apply, sum_halves]
  simp only [E_apply, v90_lo, v90_hi]
  rfl

/-- The cache's values. -/
def W : FVec Ideal S2x512x8x64 .f32 := V (Proc.devRef .tc main_arg2)

/-- The values. -/
def vN (b : Fin 2) (hd : Fin 8) (k : Fin 32) (e : Fin 64) (x : Fin 512) : EReal :=
  X V (ix2 (lat b (key k ⟨x.val / 64, by omega⟩ ⟨x.val % 64, by omega⟩)) (col 2 hd e))
def vP (b : Fin 2) (hd : Fin 8) (e : Fin 64) (x : Fin 512) : EReal := W V (ix4 b x hd e)

def tok (b : Fin 2) (r : Fin 2048) : Fin 4096 := ⟨b.val * 2048 + r.val, by omega⟩
def out (hd : Fin 8) (e : Fin 64) : Fin 512 := ⟨hd.val * 64 + e.val, by omega⟩

theorem res_sum (b : Fin 2) (k : Fin 32) (q : Fin 64) (hd : Fin 8) (e : Fin 64) :
    res V (ix2 (tok b (row k q)) (out hd e))
      = ((∑ a : Fin 8, ∑ c : Fin 64, (valsG V (ix6 b k a c hd e) : EReal) * Wt V (ix5 b hd k q ⟨a.val * 64 + c.val, by omega⟩))
        + ∑ x : Fin 512, (W V (ix4 b x hd e) : EReal) * Wt V (ix5 b hd k q ⟨512 + x.val, by omega⟩) : EReal) := by
  have h : res V (ix2 ⟨b.val * 2048 + (k.val * 64 + q.val), by omega⟩ ⟨hd.val * 64 + e.val, by omega⟩)
      = ((∑ a : Fin 8, ∑ c : Fin 64, (valsG V (ix6 b k a c hd e) : EReal) * Wt V (ix5 b hd k q ⟨a.val * 64 + c.val, by omega⟩))
        + ∑ x : Fin 512, (W V (ix4 b x hd e) : EReal) * Wt V (ix5 b hd k q ⟨512 + x.val, by omega⟩) : EReal) := by
    pointwise [res]
    rfl
  exact h

theorem res_apply (b : Fin 2) (k : Fin 32) (q : Fin 64) (hd : Fin 8) (e : Fin 64) :
    res V (ix2 (tok b (row k q)) (out hd e))
      = ((∑ x, Ideal.div (Ideal.exp (sN V b hd k q x - Soft.top2 (sN V b hd k q) (sP V b hd k q))) (den V b hd k q) * vN V b hd k e x)
        + ∑ x, Ideal.div (Ideal.exp (sP V b hd k q x - Soft.top2 (sN V b hd k q) (sP V b hd k q))) (den V b hd k q) * vP V b hd e x : EReal) := by
  rw [res_sum]
  refine congrArg₂ (fun x y : EReal => x + y) (Eq.trans (Finset.sum_congr rfl fun a _ => Finset.sum_congr rfl fun c _ => ?_) (sum_tiles _).symm) (Finset.sum_congr rfl fun x _ => ?_)
  · rw [mul_comm, valsG_apply]
    refine congrArg₂ (fun x y : EReal => x * y) (Wt_lo V b hd k q ⟨a.val * 64 + c.val, by omega⟩) ?_
    have h1 : (a.val * 64 + c.val) / 64 = a.val := by omega
    have h2 : (a.val * 64 + c.val) % 64 = c.val := by omega
    exact congrArg₂ (fun a c => (X V (ix2 (lat b (key k a c)) (col 2 hd e)) : EReal)) (Fin.ext h1.symm) (Fin.ext h2.symm)
  · rw [mul_comm]
    exact congrArg₂ (fun x y : EReal => x * y) (Wt_hi V b hd k q x) rfl

/-- A number that is neither infinity. -/
def Real' (x : EReal) : Prop := ∃ r : ℝ, x = (r : EReal)

theorem Real'.mul {x y : EReal} (hx : Real' x) (hy : Real' y) : Real' (x * y) := by
  obtain ⟨r, rfl⟩ := hx
  obtain ⟨s, rfl⟩ := hy
  exact ⟨r * s, (EReal.coe_mul r s).symm⟩

theorem Real'.add {x y : EReal} (hx : Real' x) (hy : Real' y) : Real' (x + y) := by
  obtain ⟨r, rfl⟩ := hx
  obtain ⟨s, rfl⟩ := hy
  exact ⟨r + s, (EReal.coe_add r s).symm⟩

theorem Real'.sum {n : ℕ} (f : Fin n → EReal) (h : ∀ i, Real' (f i)) : Real' (∑ i, f i) :=
  Finset.sum_induction f Real' (fun _ _ => Real'.add) ⟨0, rfl⟩ fun i _ => h i

theorem Real'.ne_top {x : EReal} (h : Real' x) : x ≠ ⊤ := by obtain ⟨r, rfl⟩ := h; exact EReal.coe_ne_top r
theorem Real'.ne_bot {x : EReal} (h : Real' x) : x ≠ ⊥ := by obtain ⟨r, rfl⟩ := h; exact EReal.coe_ne_bot r

/-- The softmax divided at the end. -/
theorem res_att (hX : ∀ i, Real' (X V i)) (hK : ∀ i, Real' ((V (Proc.devRef .tc main_arg1) : FVec Ideal S2x512x8x64 .f32) i))
    (hB : ∀ i, Real' ((V (Proc.devRef .tc main_arg3) : FVec Ideal S8x15x31 .f32) i))
    (b : Fin 2) (k : Fin 32) (q : Fin 64) (hd : Fin 8) (e : Fin 64) :
    res V (ix2 (tok b (row k q)) (out hd e)) = Soft.att (sN V b hd k q) (sP V b hd k q) (vN V b hd k e) (vP V b hd e) := by
  have hP : ∀ x, Real' (sP V b hd k q x) := fun x => by
    unfold sP
    rw [past_apply]
    exact Real'.mul (Real'.sum _ fun d => Real'.mul (hX _) (hK _)) ⟨1 / 8, rfl⟩
  refine (res_apply V b k q hd e).trans (Soft.att_eq _ _ _ _ (fun x => ?_) (fun x => (hP x).ne_top) 0 (hP 0).ne_bot).symm
  unfold sN
  rw [near_apply]
  split
  · exact (Real'.add (Real'.mul (Real'.sum _ fun d => Real'.mul (hX _) (hX _)) ⟨1 / 8, rfl⟩) (hB _)).ne_top
  · exact bot_ne_top

end Cert.NaRefIdeal.Na
-- ==== Proof.EqA.lean ====
module

public import proofs.«01_k».proof.Proof.Kern
public import proofs.«01_k».proof.Proof.RefD

@[expose] public section

set_option maxRecDepth 16384

noncomputable section

namespace Cert.Equal

open Idealize.ShloMosaic Idealize.ShloMosaic.TcCoe Idealize.SL.Sem

variable (m : (ℓ : Loc NaIdeal.nD NaIdeal.τ NaIdeal.sig) → Buf (Elt Ideal) ℓ)

theorem at2 {n k : Nat} (X : FVec Ideal ⟨2, ![n, k]⟩ .f32) {i i' : Fin n} {j j' : Fin k} (hi : i.val = i'.val) (hj : j.val = j'.val) :
    X (ix2 i j) = X (ix2 i' j') := by
  rw [Fin.ext hi, Fin.ext hj]

theorem lat_eq (b : Fin 2) (r r' : Fin 2048) (h : r.val = r'.val) : (NaRefIdeal.Na.lat b r).val = (NaIdeal.Na.lat b r').val := by
  show 4096 + (b.val * 2048 + r.val) = 4096 + 2048 * b.val + r'.val
  omega

theorem row_eq (k : Fin 32) (q : Fin 64) : (NaRefIdeal.Na.row k q).val = (NaIdeal.Na.row k q).val := by
  show k.val * 64 + q.val = 64 * k.val + q.val
  omega

theorem key_eq (k : Fin 32) (x : Fin 512) :
    (NaRefIdeal.Na.key k ⟨x.val / 64, by omega⟩ ⟨x.val % 64, by omega⟩).val = (NaIdeal.Na.key k x).val := by
  show (min 24 (k.val - 4) + x.val / 64) * 64 + x.val % 64 = 64 * min 24 (k.val - 4) + x.val
  omega

theorem col_eq (s : Fin 3) (hd : Fin 8) (d : Fin 64) : (NaRefIdeal.Na.col s hd d).val = (NaIdeal.Na.col s hd d).val := by
  show 512 * s.val + (hd.val * 64 + d.val) = 512 * s.val + 64 * hd.val + d.val
  omega

theorem dot_eq (A : FVec Ideal NaIdeal.S8192x1536 .f32) (b : Fin 2) (k : Fin 32) (q : Fin 64) (hd : Fin 8) (x : Fin 512) :
    (∑ d : Fin 64, (A (ix2 (NaRefIdeal.Na.lat b (NaRefIdeal.Na.row k q)) (NaRefIdeal.Na.col 0 hd d)) : EReal)
        * A (ix2 (NaRefIdeal.Na.lat b (NaRefIdeal.Na.key k ⟨x.val / 64, by omega⟩ ⟨x.val % 64, by omega⟩)) (NaRefIdeal.Na.col 1 hd d)))
      = ∑ d : Fin 64, (A (ix2 (NaIdeal.Na.lat b (NaIdeal.Na.row k q)) (NaIdeal.Na.col 0 hd d)) : EReal)
        * A (ix2 (NaIdeal.Na.lat b (NaIdeal.Na.key k x)) (NaIdeal.Na.col 1 hd d)) :=
  Finset.sum_congr rfl fun d _ => congrArg₂ (fun a b : EReal => a * b) (at2 _ (lat_eq b _ _ (row_eq k q)) (col_eq 0 hd d)) (at2 _ (lat_eq b _ _ (key_eq k x)) (col_eq 1 hd d))

/-- The neighbourhood's scores agree. -/
theorem near_eq (V : Valuation NaRefIdeal.τ NaRefIdeal.sig (Elt Ideal)) (A : FVec Ideal NaIdeal.S8192x1536 .f32) (B : FVec Ideal NaIdeal.S8x15x31 .f32)
    (h0 : NaRefIdeal.Na.X V = A) (h3 : V (Proc.devRef .tc NaRefIdeal.main_arg3) = B) (b : Fin 2) (k : Fin 32) (q : Fin 64) (hd : Fin 8) (x : Fin 512) :
    NaRefIdeal.Na.sN V b hd k q x
      = (∑ d : Fin 64, (A (ix2 (NaIdeal.Na.lat b (NaIdeal.Na.row k q)) (NaIdeal.Na.col 0 hd d)) : EReal)
        * A (ix2 (NaIdeal.Na.lat b (NaIdeal.Na.key k x)) (NaIdeal.Na.col 1 hd d))) * Soft.eighth + NaIdeal.Na.bias B hd k q x := by
  unfold NaRefIdeal.Na.sN
  rw [NaRefIdeal.Na.near_apply, h0, h3, dot_eq]
  by_cases h : NaIdeal.Na.inside q ⟨x.val % 64, by omega⟩
  · rw [if_pos (show NaRefIdeal.Na.inside q ⟨x.val % 64, by omega⟩ from h)]
    refine congrArg₂ (fun a b : EReal => a + b) rfl ?_
    unfold NaIdeal.Na.bias
    rw [if_pos h]
    rfl
  · have e : NaIdeal.Na.bias B hd k q x = ⊥ := by unfold NaIdeal.Na.bias; rw [if_neg h]
    rw [if_neg (show ¬ NaRefIdeal.Na.inside q ⟨x.val % 64, by omega⟩ from h), e, EReal.add_bot]

/-- The cache's scores agree. -/
theorem past_eq (V : Valuation NaRefIdeal.τ NaRefIdeal.sig (Elt Ideal)) (A : FVec Ideal NaIdeal.S8192x1536 .f32) (K : FVec Ideal NaIdeal.S2x512x8x64 .f32)
    (h0 : NaRefIdeal.Na.X V = A) (h1 : V (Proc.devRef .tc NaRefIdeal.main_arg1) = K) (b : Fin 2) (k : Fin 32) (q : Fin 64) (hd : Fin 8) (x : Fin 512) :
    NaRefIdeal.Na.sP V b hd k q x
      = (∑ d : Fin 64, (A (ix2 (NaIdeal.Na.lat b (NaIdeal.Na.row k q)) (NaIdeal.Na.col 0 hd d)) : EReal) * K (ix4 b x hd d)) * Soft.eighth := by
  unfold NaRefIdeal.Na.sP
  rw [NaRefIdeal.Na.past_apply, h0, h1]
  refine congrArg (fun a : EReal => a * Soft.eighth) (Finset.sum_congr rfl fun d _ => ?_)
  rw [at2 A (lat_eq b _ _ (row_eq k q)) (col_eq 0 hd d)]

/-- The neighbourhood's values agree. -/
theorem vals_eq (V : Valuation NaRefIdeal.τ NaRefIdeal.sig (Elt Ideal)) (A : FVec Ideal NaIdeal.S8192x1536 .f32)
    (h0 : NaRefIdeal.Na.X V = A) (b : Fin 2) (k : Fin 32) (hd : Fin 8) (e : Fin 64) (x : Fin 512) :
    NaRefIdeal.Na.vN V b hd k e x = A (ix2 (NaIdeal.Na.lat b (NaIdeal.Na.key k x)) (NaIdeal.Na.col 2 hd e)) := by
  unfold NaRefIdeal.Na.vN
  rw [h0]
  exact at2 A (lat_eq b _ _ (key_eq k x)) (col_eq 2 hd e)

/-- One entry of the reference is the kernel's. -/
theorem ref_entry (V : Valuation NaRefIdeal.τ NaRefIdeal.sig (Elt Ideal)) (A : FVec Ideal NaIdeal.S8192x1536 .f32) (K W : FVec Ideal NaIdeal.S2x512x8x64 .f32) (B : FVec Ideal NaIdeal.S8x15x31 .f32)
    (h0 : NaRefIdeal.Na.X V = A) (h1 : V (Proc.devRef .tc NaRefIdeal.main_arg1) = K) (h2 : NaRefIdeal.Na.W V = W) (h3 : V (Proc.devRef .tc NaRefIdeal.main_arg3) = B)
    (r0 : ∀ i, ∃ r : ℝ, (A i : EReal) = (r : EReal)) (r1 : ∀ i, ∃ r : ℝ, (K i : EReal) = (r : EReal)) (r3 : ∀ i, ∃ r : ℝ, (B i : EReal) = (r : EReal))
    (b : Fin 2) (k : Fin 32) (q : Fin 64) (hd : Fin 8) (e : Fin 64) :
    NaRefIdeal.Na.res V (ix2 (NaRefIdeal.Na.tok b (NaRefIdeal.Na.row k q)) (NaRefIdeal.Na.out hd e)) = NaIdeal.Na.entry A K W B b k q hd e := by
  rw [NaRefIdeal.Na.res_att V (fun i => by rw [h0]; exact r0 i) (fun i => by rw [h1]; exact r1 i) (fun i => by rw [h3]; exact r3 i) b k q hd e]
  unfold NaIdeal.Na.entry
  rw [show NaRefIdeal.Na.sN V b hd k q = _ from funext fun x => near_eq V A B h0 h3 b k q hd x,
    show NaRefIdeal.Na.sP V b hd k q = _ from funext fun x => past_eq V A K h0 h1 b k q hd x,
    show NaRefIdeal.Na.vN V b hd k e = _ from funext fun x => vals_eq V A h0 b k hd e x,
    show NaRefIdeal.Na.vP V b hd e = fun x => W (ix4 b x hd e) from funext fun x => congrFun h2 _]

/-- One entry of the two programs' results. -/
theorem entry_eq (c : Dev NaIdeal.nD) (V : Valuation NaRefIdeal.τ NaRefIdeal.sig (Elt Ideal))
    (h0 : V (Proc.devRef .tc NaRefIdeal.main_arg0) = m (c, NaIdeal.main_arg0)) (h1 : V (Proc.devRef .tc NaRefIdeal.main_arg1) = m (c, NaIdeal.main_arg1))
    (h2 : V (Proc.devRef .tc NaRefIdeal.main_arg2) = m (c, NaIdeal.main_arg2)) (h3 : V (Proc.devRef .tc NaRefIdeal.main_arg3) = m (c, NaIdeal.main_arg3))
    (r0 : ∀ i, ∃ r : ℝ, ((m (c, NaIdeal.main_arg0) : FVec Ideal NaIdeal.S8192x1536 .f32) i : EReal) = (r : EReal))
    (r1 : ∀ i, ∃ r : ℝ, ((m (c, NaIdeal.main_arg1) : FVec Ideal NaIdeal.S2x512x8x64 .f32) i : EReal) = (r : EReal))
    (r3 : ∀ i, ∃ r : ℝ, ((m (c, NaIdeal.main_arg3) : FVec Ideal NaIdeal.S8x15x31 .f32) i : EReal) = (r : EReal))
    (b : Fin 2) (k : Fin 32) (q : Fin 64) (hd : Fin 8) (e : Fin 64) :
    NaRefIdeal.Na.res V (ix2 (NaRefIdeal.Na.tok b (NaRefIdeal.Na.row k q)) (NaRefIdeal.Na.out hd e))
      = ((NaIdeal.Gen.dats m 0 c).arrAt 6 NaIdeal.cfg0.N : FVec Ideal NaIdeal.S4096x512 .bf16) (ix2 (NaIdeal.Na.tok b (NaIdeal.Na.row k q)) (NaIdeal.Na.out hd e)) :=
  (ref_entry V _ _ _ _ h0 h1 h2 h3 r0 r1 r3 b k q hd e).trans (NaIdeal.Na.arr_apply m c b k q hd e).symm

end Cert.Equal
-- ==== Proof.Equal.lean ====
module

public import proofs.«01_k».proof.Proof.EqA

@[expose] public section

set_option maxRecDepth 16384

noncomputable section

namespace Cert.Equal

open Idealize.ShloMosaic Idealize.ShloMosaic.TcCoe Idealize.SL.Sem

variable (m : (ℓ : Loc NaIdeal.nD NaIdeal.τ NaIdeal.sig) → Buf (Elt Ideal) ℓ)

/-- The two programs' results agree. -/
theorem equal (c : Dev NaIdeal.nD) (V : Valuation NaRefIdeal.τ NaRefIdeal.sig (Elt Ideal))
    (h0 : V (Proc.devRef .tc NaRefIdeal.main_arg0) = m (c, NaIdeal.main_arg0)) (h1 : V (Proc.devRef .tc NaRefIdeal.main_arg1) = m (c, NaIdeal.main_arg1))
    (h2 : V (Proc.devRef .tc NaRefIdeal.main_arg2) = m (c, NaIdeal.main_arg2)) (h3 : V (Proc.devRef .tc NaRefIdeal.main_arg3) = m (c, NaIdeal.main_arg3))
    (r0 : ∀ i, ∃ r : ℝ, ((m (c, NaIdeal.main_arg0) : FVec Ideal NaIdeal.S8192x1536 .f32) i : EReal) = (r : EReal))
    (r1 : ∀ i, ∃ r : ℝ, ((m (c, NaIdeal.main_arg1) : FVec Ideal NaIdeal.S2x512x8x64 .f32) i : EReal) = (r : EReal))
    (r3 : ∀ i, ∃ r : ℝ, ((m (c, NaIdeal.main_arg3) : FVec Ideal NaIdeal.S8x15x31 .f32) i : EReal) = (r : EReal)) :
    NaRefIdeal.Na.res V = ((NaIdeal.Gen.dats m 0 c).arrAt 6 NaIdeal.cfg0.N : FVec Ideal NaIdeal.S4096x512 .bf16) := by
  funext y
  obtain ⟨t, l, rfl⟩ : ∃ (t : Fin 4096) (l : Fin 512), y = ix2 t l := ⟨y 0, y 1, by idx_vars y⟩
  have ht := t.isLt
  have hl := l.isLt
  let b : Fin 2 := ⟨t.val / 2048, by omega⟩
  let k : Fin 32 := ⟨t.val % 2048 / 64, by omega⟩
  let q : Fin 64 := ⟨t.val % 64, by omega⟩
  let hd : Fin 8 := ⟨l.val / 64, by omega⟩
  let e : Fin 64 := ⟨l.val % 64, by omega⟩
  have e1 : t = NaRefIdeal.Na.tok b (NaRefIdeal.Na.row k q) := Fin.ext (by
    show t.val = t.val / 2048 * 2048 + (t.val % 2048 / 64 * 64 + t.val % 64); omega)
  have e2 : t = NaIdeal.Na.tok b (NaIdeal.Na.row k q) := Fin.ext (by
    show t.val = 2048 * (t.val / 2048) + (64 * (t.val % 2048 / 64) + t.val % 64); omega)
  have f1 : l = NaRefIdeal.Na.out hd e := Fin.ext (by show l.val = l.val / 64 * 64 + l.val % 64; omega)
  have f2 : l = NaIdeal.Na.out hd e := Fin.ext (by show l.val = 64 * (l.val / 64) + l.val % 64; omega)
  refine Eq.trans ((congrArg₂ (fun i j => NaRefIdeal.Na.res V (ix2 i j)) e1 f1).trans ?_)
    (congrArg₂ (fun i j => ((NaIdeal.Gen.dats m 0 c).arrAt 6 NaIdeal.cfg0.N : FVec Ideal NaIdeal.S4096x512 .bf16) (ix2 i j)) e2 f2).symm
  exact entry_eq m c V h0 h1 h2 h3 r0 r1 r3 b k q hd e

end Cert.Equal
-- ==== Proof.UpA.lean ====
module

public import proofs.«01_k».proof.Proof.Gen.UpIdeal.Value
public import Idealize.ShloMosaic.Lib.Pointwise
public import Idealize.ShloMosaic.Lib.Pipeline.ValueKit
public import Idealize.ShloMosaic.Lib.Pipeline.ReadBack
public import Idealize.ShloMosaic.Lib.Pipeline.ValueKit.Tiles

@[expose] public section

set_option maxRecDepth 16384

noncomputable section

namespace Cert.UpIdeal.Mm

open Cert.UpIdeal Cert.UpIdeal.Gen Idealize.ShloMosaic Idealize.ShloMosaic.TcCoe Idealize.ShloMosaic.Tactic Idealize.SL.Sem

/-- A block of 128 columns of the weights. -/
abbrev ldW (x : Vec Ideal S1x2048x512 .f32) (off : Fin 3 → ℕ) (inb : ∀ a, off a + S1x2048x128.size a ≤ S1x2048x512.size a) : Vec Ideal S1x2048x128 .f32 :=
  View.ld (Val := Elt Ideal) (S := S1x2048x512) (e' := .f32) x (Rect.unit (s := S1x2048x512) off S1x2048x128.size inb)

/-- A block of 256 columns of the carried weights. -/
abbrev ldS (x : Vec Ideal S2048x1024 .bf16) (off : Fin 2 → ℕ) (inb : ∀ a, off a + S2048x256.size a ≤ S2048x1024.size a) : Vec Ideal S2048x256 .bf16 :=
  View.ld (Val := Elt Ideal) (S := S2048x1024) (e' := .bf16) x (Rect.unit (s := S2048x1024) off S2048x256.size inb)

/-- A block of 128 columns of the taps. -/
abbrev ldT (x : Vec Ideal S3x512 .f32) (off : Fin 2 → ℕ) (inb : ∀ a, off a + S3x128.size a ≤ S3x512.size a) : Vec Ideal S3x128 .f32 :=
  View.ld (Val := Elt Ideal) (S := S3x512) (e' := .f32) x (Rect.unit (s := S3x512) off S3x128.size inb)

/-- One tile of 128 columns: the product with the tile's two groups of columns, the convolution along the rows, and the gate. -/
def Tile (f l : IVec S1024x1 1) (X : FVec Ideal S1056x2048 .bf16) (w : FVec Ideal S2048x256 .bf16) (ta tb : FVec Ideal S3x128 .f32) : FVec Ideal S1024x128 .bf16 :=
  k0_pay24 (k0_pay19 X w) (k0_pay20 ta tb) (k0_pay21 X f w) (k0_pay22 X w) (FloatOps.ofBits .f32 0#32) (k0_pay23 l)

/-- What a run's first point stores into the carried weights. -/
def fillPieces (x3 x4 : FVec Ideal S1x2048x512 .f32) : List (View.Piece (Elt Ideal) S2048x1024 .bf16) :=
  [⟨Rect.unit (s := S2048x1024) ![0, 896] S2048x128.size inb_S2048x1024_S2048x128_0_896,
      k0_pay9 (F := Ideal) (ldW x4 ![0, 0, 384] inb_S1x2048x512_S1x2048x128_0_0_384)⟩,
    ⟨Rect.unit (s := S2048x1024) ![0, 768] S2048x128.size inb_S2048x1024_S2048x128_0_768,
      k0_pay8 (F := Ideal) (ldW x3 ![0, 0, 384] inb_S1x2048x512_S1x2048x128_0_0_384)⟩,
    ⟨Rect.unit (s := S2048x1024) ![0, 640] S2048x128.size inb_S2048x1024_S2048x128_0_640,
      k0_pay7 (F := Ideal) (ldW x4 ![0, 0, 256] inb_S1x2048x512_S1x2048x128_0_0_256)⟩,
    ⟨Rect.unit (s := S2048x1024) ![0, 512] S2048x128.size inb_S2048x1024_S2048x128_0_512,
      k0_pay6 (F := Ideal) (ldW x3 ![0, 0, 256] inb_S1x2048x512_S1x2048x128_0_0_256)⟩,
    ⟨Rect.unit (s := S2048x1024) ![0, 384] S2048x128.size inb_S2048x1024_S2048x128_0_384,
      k0_pay5 (F := Ideal) (ldW x4 ![0, 0, 128] inb_S1x2048x512_S1x2048x128_0_0_128)⟩,
    ⟨Rect.unit (s := S2048x1024) ![0, 256] S2048x128.size inb_S2048x1024_S2048x128_0_256,
      k0_pay4 (F := Ideal) (ldW x3 ![0, 0, 128] inb_S1x2048x512_S1x2048x128_0_0_128)⟩,
    ⟨Rect.unit (s := S2048x1024) ![0, 128] S2048x128.size inb_S2048x1024_S2048x128_0_128,
      k0_pay3 (F := Ideal) (ldW x4 ![0, 0, 0] inb_S1x2048x512_S1x2048x128_0_0_0)⟩,
    ⟨Rect.unit (s := S2048x1024) ![0, 0] S2048x128.size inb_S2048x1024_S2048x128_0_0,
      k0_pay2 (F := Ideal) (ldW x3 ![0, 0, 0] inb_S1x2048x512_S1x2048x128_0_0_0)⟩]

/-- What a point stores into the result's block. -/
def outPieces (f l : IVec S1024x1 1) (X : FVec Ideal S1056x2048 .bf16) (xs : FVec Ideal S2048x1024 .bf16) (x5 x6 : FVec Ideal S3x512 .f32) :
    List (View.Piece (Elt Ideal) S1024x512 .bf16) :=
  [⟨Rect.unit (s := S1024x512) ![0, 384] S1024x128.size inb_S1024x512_S1024x128_0_384,
      Tile f l X (ldS xs ![0, 768] inb_S2048x1024_S2048x256_0_768)
        (ldT x5 ![0, 384] inb_S3x512_S3x128_0_384) (ldT x6 ![0, 384] inb_S3x512_S3x128_0_384)⟩,
    ⟨Rect.unit (s := S1024x512) ![0, 256] S1024x128.size inb_S1024x512_S1024x128_0_256,
      Tile f l X (ldS xs ![0, 512] inb_S2048x1024_S2048x256_0_512)
        (ldT x5 ![0, 256] inb_S3x512_S3x128_0_256) (ldT x6 ![0, 256] inb_S3x512_S3x128_0_256)⟩,
    ⟨Rect.unit (s := S1024x512) ![0, 128] S1024x128.size inb_S1024x512_S1024x128_0_128,
      Tile f l X (ldS xs ![0, 256] inb_S2048x1024_S2048x256_0_256)
        (ldT x5 ![0, 128] inb_S3x512_S3x128_0_128) (ldT x6 ![0, 128] inb_S3x512_S3x128_0_128)⟩,
    ⟨Rect.unit (s := S1024x512) ![0, 0] S1024x128.size inb_S1024x512_S1024x128_0_0,
      Tile f l X (ldS xs ![0, 0] inb_S2048x1024_S2048x256_0_0)
        (ldT x5 ![0, 0] inb_S3x512_S3x128_0_0) (ldT x6 ![0, 0] inb_S3x512_S3x128_0_0)⟩]

section
variable (c : Dev nD) (i : grid0.Coords) (arg2 : Memref sig .tc .vmem S1024x2048 .bf16) (harg2 : arg2.IsWhole)
  (arg3 : Memref sig .tc .vmem S16x2048 .bf16) (harg3 : arg3.IsWhole) (arg4 : Memref sig .tc .vmem S16x2048 .bf16) (harg4 : arg4.IsWhole)
  (arg5 : Memref sig .tc .vmem S1x2048x512 .f32) (harg5 : arg5.IsWhole) (arg6 : Memref sig .tc .vmem S1x2048x512 .f32) (harg6 : arg6.IsWhole)
  (arg7 : Memref sig .tc .vmem S3x512 .f32) (harg7 : arg7.IsWhole) (arg8 : Memref sig .tc .vmem S3x512 .f32) (harg8 : arg8.IsWhole)
  (arg9 : Memref sig .tc .vmem S1024x512 .bf16) (harg9 : arg9.IsWhole) (arg10 : Memref sig .tc .vmem S2048x1024 .bf16) (harg10 : arg10.IsWhole)
  (x0 : Vec Ideal S1024x2048 .bf16) (x1 x2 : Vec Ideal S16x2048 .bf16) (x3 x4 : Vec Ideal S1x2048x512 .f32) (x5 x6 : Vec Ideal S3x512 .f32)
  (xs : Vec Ideal S2048x1024 .bf16)

theorem fill_eq (h : cond0_0 i) : sout0_A_0 (F := Ideal) c i arg2 harg2 arg3 harg3 arg4 harg4 arg5 harg5 arg6 harg6 arg7 harg7 arg8 harg8
    arg9 harg9 arg10 harg10 h x0 x1 x2 x3 x4 x5 x6 = View.canon (fillPieces x3 x4) := by
  unfold fillPieces
  frame_out
  all_goals rfl

theorem later_eq (h : ¬cond0_0 i) : out0_B_7 (F := Ideal) c i arg2 harg2 arg3 harg3 arg4 harg4 arg5 harg5 arg6 harg6 arg7 harg7 arg8 harg8
    arg9 harg9 arg10 harg10 h x0 x1 x2 x3 x4 x5 x6 xs
    = View.canon (outPieces (k0_pay12 i) (k0_pay13 i) (k0_pay10 (F := Ideal) x1 x0 x2) xs x5 x6) := by
  unfold outPieces Tile
  frame_out
  all_goals rfl

theorem first_eq (h : cond0_0 i) : out0_A_7 (F := Ideal) c i arg2 harg2 arg3 harg3 arg4 harg4 arg5 harg5 arg6 harg6 arg7 harg7 arg8 harg8
    arg9 harg9 arg10 harg10 h x0 x1 x2 x3 x4 x5 x6
    = View.canon (outPieces (k0_pay12 i) (k0_pay13 i) (k0_pay10 (F := Ideal) x1 x0 x2) (View.canon (fillPieces x3 x4)) x5 x6) := by
  unfold outPieces Tile
  frame_out
  simp only [View.readCov_eq_canon']
  all_goals rfl
end

end Cert.UpIdeal.Mm
-- ==== Proof.UpK.lean ====
module

public import proofs.«01_k».proof.Proof.UpA

@[expose] public section

set_option maxRecDepth 16384

noncomputable section

namespace Cert.UpIdeal.Mm

open Cert.UpIdeal Cert.UpIdeal.Gen Idealize.ShloMosaic Idealize.ShloMosaic.TcCoe Idealize.ShloMosaic.Tactic Idealize.SL.Sem

/-- One entry of the product of the rows with a tile's weights. -/
def prod (X : FVec Ideal S1056x2048 .bf16) (w : FVec Ideal S2048x256 .bf16) (r : Fin 1056) (n : Fin 256) : EReal :=
  ∑ k : Fin 2048, (X (ix2 r k) : EReal) * w (ix2 k n)

theorem pay19_apply (X : FVec Ideal S1056x2048 .bf16) (w : FVec Ideal S2048x256 .bf16) (r : Fin 1056) (n : Fin 256) :
    k0_pay19 (F := Ideal) X w (ix2 r n) = prod X w r n := by
  pointwise [k0_pay19, prod]
  all_goals rfl

/-- One entry of the convolution: the row before (none at a sequence's first row), the row itself, the row after (none at the last). -/
def conv (f l : Prop) [Decidable f] [Decidable l] (b o a t0 t1 t2 : EReal) : EReal := (if f then 0 else b * t0) + o * t1 + (if l then 0 else a * t2)

def silu (z : EReal) : EReal := z * Idealize.ShloMosaic.Ideal.logistic z

theorem tile_apply (f l : IVec S1024x1 1) (X : FVec Ideal S1056x2048 .bf16) (w : FVec Ideal S2048x256 .bf16) (ta tb : FVec Ideal S3x128 .f32) (p : Fin 1024) (e : Fin 128) :
    Tile f l X w ta tb (ix2 p e)
      = silu (conv (f (ix2 p 0) = 1) (l (ix2 p 0) = 1) (prod X w ⟨p.val + 15, by omega⟩ ⟨e.val, by omega⟩) (prod X w ⟨p.val + 16, by omega⟩ ⟨e.val, by omega⟩) (prod X w ⟨p.val + 17, by omega⟩ ⟨e.val, by omega⟩)
          (ta (ix2 0 e)) (ta (ix2 1 e)) (ta (ix2 2 e)))
        * conv (f (ix2 p 0) = 1) (l (ix2 p 0) = 1) (prod X w ⟨p.val + 15, by omega⟩ ⟨128 + e.val, by omega⟩) (prod X w ⟨p.val + 16, by omega⟩ ⟨128 + e.val, by omega⟩) (prod X w ⟨p.val + 17, by omega⟩ ⟨128 + e.val, by omega⟩)
          (tb (ix2 0 e)) (tb (ix2 1 e)) (tb (ix2 2 e)) := by
  unfold Tile k0_pay21 k0_pay22
  generalize hA : k0_pay19 (F := Ideal) X w = A
  have hP : ∀ r n, prod X w r n = A (ix2 r n) := fun r n => by rw [← hA, pay19_apply]
  simp only [hP]
  unfold conv silu
  pointwise [k0_pay24, k0_pay20, k0_pay23]
  simp only [show (16 + p.val + 1056 - 1) % 1056 = p.val + 15 by omega, show (16 + p.val + 1056 - 1055) % 1056 = p.val + 17 by omega,
    Scalar.select]
  simp only [show 16 + p.val = p.val + 16 by omega]
  all_goals rfl

/-- The carried weights: the two halves' columns, 128 by 128 in turn. -/
def carry (x3 x4 : FVec Ideal S1x2048x512 .f32) (k : Fin 2048) (n : Fin 1024) : EReal :=
  if n.val % 256 < 128 then x3 (ix3 0 k ⟨128 * (n.val / 256) + n.val % 128, by omega⟩) else x4 (ix3 0 k ⟨128 * (n.val / 256) + n.val % 128, by omega⟩)

theorem pay2_apply (v : FVec Ideal S1x2048x128 .f32) (k : Fin 2048) (n : Fin 128) : k0_pay2 (F := Ideal) v (ix2 k n) = v (ix3 0 k n) := by
  pointwise [k0_pay2]

theorem ldW_apply (x : FVec Ideal S1x2048x512 .f32) (o : ℕ) (inb) (k : Fin 2048) (n : Fin 128) (q : Fin 512) (hq : q.val = o + n.val) :
    ldW x ![0, 0, o] inb (ix3 0 k n) = x (ix3 0 k q) :=
  congrArg x (funext fun a => Fin.ext (by
    match a with
    | ⟨0, _⟩ => rfl
    | ⟨1, _⟩ => show 0 + 1 * k.val = k.val; omega
    | ⟨2, _⟩ => show o + 1 * n.val = q.val; omega))

theorem ldS_apply (x : FVec Ideal S2048x1024 .bf16) (o : ℕ) (inb) (k : Fin 2048) (n : Fin 256) (q : Fin 1024) (hq : q.val = o + n.val) :
    ldS x ![0, o] inb (ix2 k n) = x (ix2 k q) :=
  congrArg x (funext fun a => Fin.ext (by
    match a with
    | ⟨0, _⟩ => show 0 + 1 * k.val = k.val; omega
    | ⟨1, _⟩ => show o + 1 * n.val = q.val; omega))

theorem ldT_apply (x : FVec Ideal S3x512 .f32) (o : ℕ) (inb) (k : Fin 3) (n : Fin 128) (q : Fin 512) (hq : q.val = o + n.val) :
    ldT x ![0, o] inb (ix2 k n) = x (ix2 k q) :=
  congrArg x (funext fun a => Fin.ext (by
    match a with
    | ⟨0, _⟩ => show 0 + 1 * k.val = k.val; omega
    | ⟨1, _⟩ => show o + 1 * n.val = q.val; omega))

theorem fill_A (x3 x4 : FVec Ideal S1x2048x512 .f32) (o : ℕ) (inb) (z : S2048x128.Idx) (k : Fin 2048) (n : Fin 1024) (hk : k.val = (z 0).val)
    (hn : n.val = 2 * o + (z 1).val) (ho : o % 128 = 0) : k0_pay2 (F := Ideal) (ldW x3 ![0, 0, o] inb) z = carry x3 x4 k n := by
  obtain ⟨a, b, rfl⟩ : ∃ (a : Fin 2048) (b : Fin 128), z = ix2 a b := ⟨z 0, z 1, by idx_vars z⟩
  obtain rfl : k = a := Fin.ext hk
  have hn' : n.val = 2 * o + b.val := hn
  rw [carry, if_pos (by omega), pay2_apply]
  exact ldW_apply _ _ _ _ _ _ (by show 128 * (n.val / 256) + n.val % 128 = _; omega)

theorem fill_B (x3 x4 : FVec Ideal S1x2048x512 .f32) (o : ℕ) (inb) (z : S2048x128.Idx) (k : Fin 2048) (n : Fin 1024) (hk : k.val = (z 0).val)
    (hn : n.val = 2 * o + 128 + (z 1).val) (ho : o % 128 = 0) : k0_pay2 (F := Ideal) (ldW x4 ![0, 0, o] inb) z = carry x3 x4 k n := by
  obtain ⟨a, b, rfl⟩ : ∃ (a : Fin 2048) (b : Fin 128), z = ix2 a b := ⟨z 0, z 1, by idx_vars z⟩
  obtain rfl : k = a := Fin.ext hk
  have hn' : n.val = 2 * o + 128 + b.val := hn
  rw [carry, if_neg (by omega), pay2_apply]
  exact ldW_apply _ _ _ _ _ _ (by show 128 * (n.val / 256) + n.val % 128 = _; omega)

theorem fill_apply (x3 x4 : FVec Ideal S1x2048x512 .f32) (y : S2048x1024.Idx) : View.canon (fillPieces x3 x4) y = carry x3 x4 (y 0) (y 1) := by
  unfold fillPieces
  canon_tiles x h
  · exact fill_B x3 x4 384 _ x _ _ h0 h1 rfl
  · exact fill_A x3 x4 384 _ x _ _ h0 h1 rfl
  · exact fill_B x3 x4 256 _ x _ _ h0 h1 rfl
  · exact fill_A x3 x4 256 _ x _ _ h0 h1 rfl
  · exact fill_B x3 x4 128 _ x _ _ h0 h1 rfl
  · exact fill_A x3 x4 128 _ x _ _ h0 h1 rfl
  · exact fill_B x3 x4 0 _ x _ _ h0 h1 rfl
  · exact fill_A x3 x4 0 _ x _ _ h0 (h1.trans (Nat.zero_add _).symm) rfl

/-- One entry of the product of the rows with the carried weights. -/
def prodC (X : FVec Ideal S1056x2048 .bf16) (xs : FVec Ideal S2048x1024 .bf16) (r : Fin 1056) (n : Fin 1024) : EReal :=
  ∑ k : Fin 2048, (X (ix2 r k) : EReal) * xs (ix2 k n)

/-- The convolution's entry at a column of the carried weights, with the taps of a column. -/
def convC (f l : IVec S1024x1 1) (X : FVec Ideal S1056x2048 .bf16) (xs : FVec Ideal S2048x1024 .bf16) (x : FVec Ideal S3x512 .f32) (p : Fin 1024) (n : Fin 1024) (q : Fin 512) : EReal :=
  conv (f (ix2 p 0) = 1) (l (ix2 p 0) = 1) (prodC X xs ⟨p.val + 15, by omega⟩ n) (prodC X xs ⟨p.val + 16, by omega⟩ n) (prodC X xs ⟨p.val + 17, by omega⟩ n)
    (x (ix2 0 q)) (x (ix2 1 q)) (x (ix2 2 q))

def colA (q : Fin 512) : Fin 1024 := ⟨256 * (q.val / 128) + q.val % 128, by omega⟩
def colB (q : Fin 512) : Fin 1024 := ⟨256 * (q.val / 128) + 128 + q.val % 128, by omega⟩

/-- One entry of what a point stores. -/
def point (f l : IVec S1024x1 1) (X : FVec Ideal S1056x2048 .bf16) (xs : FVec Ideal S2048x1024 .bf16) (x5 x6 : FVec Ideal S3x512 .f32) (p : Fin 1024) (q : Fin 512) : EReal :=
  silu (convC f l X xs x5 p (colA q) q) * convC f l X xs x6 p (colB q) q

theorem prod_cols (X : FVec Ideal S1056x2048 .bf16) (xs : FVec Ideal S2048x1024 .bf16) (o : ℕ) (inb) (r : Fin 1056) (n : Fin 256) (u : Fin 1024) (h : u.val = o + n.val) :
    prod X (ldS xs ![0, o] inb) r n = prodC X xs r u :=
  Finset.sum_congr rfl fun k _ => congrArg (fun b : EReal => (X (ix2 r k) : EReal) * b) (ldS_apply xs o inb k n u h)

theorem tile_point (f l : IVec S1024x1 1) (X : FVec Ideal S1056x2048 .bf16) (xs : FVec Ideal S2048x1024 .bf16) (x5 x6 : FVec Ideal S3x512 .f32) (o o' : ℕ) (inb inb5 inb6)
    (z : S1024x128.Idx) (p : Fin 1024) (q : Fin 512) (hp : p.val = (z 0).val) (hq : q.val = o + (z 1).val) (ho : o % 128 = 0) (ho' : o' = 2 * o) :
    Tile f l X (ldS xs ![0, o'] inb) (ldT x5 ![0, o] inb5) (ldT x6 ![0, o] inb6) z = point f l X xs x5 x6 p q := by
  obtain ⟨a, b, rfl⟩ : ∃ (a : Fin 1024) (b : Fin 128), z = ix2 a b := ⟨z 0, z 1, by idx_vars z⟩
  obtain rfl : p = a := Fin.ext hp
  have hq' : q.val = o + b.val := hq
  have hA : (colA q).val = o' + b.val := by show 256 * (q.val / 128) + q.val % 128 = _; omega
  have hB : (colB q).val = o' + (128 + b.val) := by show 256 * (q.val / 128) + 128 + q.val % 128 = _; omega
  rw [tile_apply]
  unfold point convC
  rw [prod_cols X xs o' inb _ ⟨b.val, _⟩ (colA q) hA, prod_cols X xs o' inb _ ⟨b.val, _⟩ (colA q) hA, prod_cols X xs o' inb _ ⟨b.val, _⟩ (colA q) hA,
    prod_cols X xs o' inb _ ⟨128 + b.val, _⟩ (colB q) hB, prod_cols X xs o' inb _ ⟨128 + b.val, _⟩ (colB q) hB, prod_cols X xs o' inb _ ⟨128 + b.val, _⟩ (colB q) hB,
    ldT_apply x5 o inb5 0 b q hq', ldT_apply x5 o inb5 1 b q hq', ldT_apply x5 o inb5 2 b q hq',
    ldT_apply x6 o inb6 0 b q hq', ldT_apply x6 o inb6 1 b q hq', ldT_apply x6 o inb6 2 b q hq']

theorem out_apply (f l : IVec S1024x1 1) (X : FVec Ideal S1056x2048 .bf16) (xs : FVec Ideal S2048x1024 .bf16) (x5 x6 : FVec Ideal S3x512 .f32) (y : S1024x512.Idx) :
    View.canon (outPieces f l X xs x5 x6) y = point f l X xs x5 x6 (y 0) (y 1) := by
  unfold outPieces
  canon_tiles x h
  · exact tile_point f l X xs x5 x6 384 768 _ _ _ x _ _ h0 h1 rfl rfl
  · exact tile_point f l X xs x5 x6 256 512 _ _ _ x _ _ h0 h1 rfl rfl
  · exact tile_point f l X xs x5 x6 128 256 _ _ _ x _ _ h0 h1 rfl rfl
  · exact tile_point f l X xs x5 x6 0 0 _ _ _ x _ _ h0 (h1.trans (Nat.zero_add _).symm) rfl rfl

/-- The length of a row's sequence: the first half of the rows are sequences of 256, the others of 2048. -/
def len (i : ℕ) : ℕ := if i < 4 then 256 else 2048

theorem first_table : ∀ (i : Fin 8) (p : Fin 1024), IntOp.cmpi CmpIPredicate.eq
    (IntOp.andi (IntOp.addi (Scalar.muli (BitVec.ofNat 32 i.val) 1024#32) (BitVec.ofNat 32 p.val))
      (Scalar.subi (Scalar.select (Scalar.cmpi CmpIPredicate.slt (Scalar.muli (BitVec.ofNat 32 i.val) 1024#32) 4096#32) 256#32 2048#32) 1#32)) 0#32
    = if (1024 * i.val + p.val) % len i.val = 0 then 1 else 0 := by decide +kernel

theorem last_table : ∀ (i : Fin 8) (p : Fin 1024), IntOp.cmpi CmpIPredicate.eq
    (IntOp.andi (IntOp.addi (Scalar.muli (BitVec.ofNat 32 i.val) 1024#32) (BitVec.ofNat 32 p.val))
      (Scalar.subi (Scalar.select (Scalar.cmpi CmpIPredicate.slt (Scalar.muli (BitVec.ofNat 32 i.val) 1024#32) 4096#32) 256#32 2048#32) 1#32))
    (Scalar.subi (Scalar.select (Scalar.cmpi CmpIPredicate.slt (Scalar.muli (BitVec.ofNat 32 i.val) 1024#32) 4096#32) 256#32 2048#32) 1#32)
    = if (1024 * i.val + p.val) % len i.val + 1 = len i.val then 1 else 0 := by decide +kernel

theorem first_apply (i : grid0.Coords) (p : Fin 1024) : k0_pay12 i (ix2 p 0) = if (1024 * (i 1).val + p.val) % len (i 1).val = 0 then 1 else 0 := by
  pointwise [k0_pay12, k0_pay11]
  exact first_table (i 1) p

theorem last_apply (i : grid0.Coords) (p : Fin 1024) : k0_pay13 i (ix2 p 0) = if (1024 * (i 1).val + p.val) % len (i 1).val + 1 = len (i 1).val then 1 else 0 := by
  pointwise [k0_pay13, k0_pay11]
  exact last_table (i 1) p

end Cert.UpIdeal.Mm
-- ==== Proof.UpL.lean ====
module

public import proofs.«01_k».proof.Proof.UpK

@[expose] public section

set_option maxRecDepth 16384

noncomputable section

namespace Cert.UpIdeal.Mm

open Cert.UpIdeal Cert.UpIdeal.Gen Idealize.ShloMosaic Idealize.ShloMosaic.TcCoe Idealize.ShloMosaic.Tactic Idealize.SL.Sem

section
variable (x1 x2 : FVec Ideal S16x2048 .bf16) (x0 : FVec Ideal S1024x2048 .bf16) (p : Fin 1024) (k : Fin 2048)

theorem rows_mid : k0_pay10 (F := Ideal) x1 x0 x2 (ix2 ⟨p.val + 16, by omega⟩ k) = x0 (ix2 p k) := by
  pointwise [k0_pay10]
  rw [dif_neg (by omega), dif_pos (by omega)]
  exact congrArg (fun r => x0 (ix2 r k)) (Fin.ext (by show p.val + 16 - 16 = p.val; omega))

theorem rows_before (h : p.val ≠ 0) : k0_pay10 (F := Ideal) x1 x0 x2 (ix2 ⟨p.val + 15, by omega⟩ k) = x0 (ix2 ⟨p.val - 1, by omega⟩ k) := by
  pointwise [k0_pay10]
  rw [dif_neg (by omega), dif_pos (by omega)]
  exact congrArg (fun r => x0 (ix2 r k)) (Fin.ext (by show p.val + 15 - 16 = p.val - 1; omega))

theorem rows_first (h : p.val = 0) : k0_pay10 (F := Ideal) x1 x0 x2 (ix2 ⟨p.val + 15, by omega⟩ k) = x1 (ix2 15 k) := by
  pointwise [k0_pay10]
  rw [dif_pos (by omega)]
  exact congrArg (fun r => x1 (ix2 r k)) (Fin.ext (by show p.val + 15 = 15; omega))

theorem rows_after (h : p.val ≠ 1023) : k0_pay10 (F := Ideal) x1 x0 x2 (ix2 ⟨p.val + 17, by omega⟩ k) = x0 (ix2 ⟨p.val + 1, by omega⟩ k) := by
  pointwise [k0_pay10]
  rw [dif_neg (by omega), dif_pos (by omega)]
  exact congrArg (fun r => x0 (ix2 r k)) (Fin.ext (by show p.val + 17 - 16 = p.val + 1; omega))

theorem rows_last (h : p.val = 1023) : k0_pay10 (F := Ideal) x1 x0 x2 (ix2 ⟨p.val + 17, by omega⟩ k) = x2 (ix2 0 k) := by
  pointwise [k0_pay10]
  rw [dif_neg (by omega), dif_neg (by omega)]
  exact congrArg (fun r => x2 (ix2 r k)) (Fin.ext (by show p.val + 17 - 16 - 1024 = 0; omega))
end

variable (m : (ℓ : Loc nD τ sig) → Buf (Elt Ideal) ℓ)

theorem idx : ∀ t : Fin cfg0.N, win0_0.index t = ![t.val % 8, 0] ∧ win0_1.index t = ![64 * (t.val % 8) - 1, 0]
    ∧ win0_2.index t = ![min (64 * (t.val % 8 + 1)) 511, 0] ∧ win0_3.index t = ![0, 0, t.val / 8] ∧ win0_4.index t = ![0, 0, t.val / 8 + 11]
    ∧ win0_5.index t = ![0, t.val / 8] ∧ win0_6.index t = ![0, t.val / 8 + 11] ∧ win0_7.index t = ![t.val % 8, t.val / 8] ∧ t.val < 88
    ∧ (grid0.coords t 1).val = t.val % 8 :=
  (by decide +kernel : ∀ t : Fin grid0.N, _)

def rowOf (t : Fin cfg0.N) (p : Fin 1024) : Fin 8192 := ⟨1024 * (t.val % 8) + p.val, by omega⟩
def colOf (t : Fin cfg0.N) (q : Fin 512) : Fin 5632 := ⟨512 * (t.val / 8) + q.val, by have := (idx t).2.2.2.2.2.2.2.2.1; omega⟩

/-- A column among the first half's, and among the second half's. -/
def left (n : Fin 5632) : Fin 11264 := ⟨n.val, by omega⟩
def right (n : Fin 5632) : Fin 11264 := ⟨5632 + n.val, by omega⟩

def before (r : Fin 8192) : Fin 8192 := ⟨r.val - 1, by omega⟩
def after (r : Fin 8192) : Fin 8192 := ⟨(r.val + 1) % 8192, by omega⟩

theorem read0 (c : Dev nD) (t : Fin cfg0.N) (p : Fin 1024) (k : Fin 2048) :
    iblk m c 0 t (ix2 p k : S1024x2048.Idx) = V m c main_arg0 (ix2 (rowOf t p) k : S8192x2048.Idx) := by
  have e : (rowOf t p).val = 1024 * (t.val % 8) + p.val := rfl
  blk_ext [iblk, idx t, e]

theorem read1 (c : Dev nD) (t : Fin cfg0.N) (r : Fin 8192) (k : Fin 2048) (e : r.val = (64 * (t.val % 8) - 1) * 16 + 15) :
    iblk m c 1 t (ix2 15 k : S16x2048.Idx) = V m c main_arg0 (ix2 r k : S8192x2048.Idx) := by
  blk_ext [iblk, idx t, e]

theorem read2 (c : Dev nD) (t : Fin cfg0.N) (r : Fin 8192) (k : Fin 2048) (e : r.val = min (64 * (t.val % 8 + 1)) 511 * 16) :
    iblk m c 2 t (ix2 0 k : S16x2048.Idx) = V m c main_arg0 (ix2 r k : S8192x2048.Idx) := by
  blk_ext [iblk, idx t, e]

theorem read3 (c : Dev nD) (t : Fin cfg0.N) (k : Fin 2048) (q : Fin 512) :
    iblk m c 3 t (ix3 0 k q : S1x2048x512.Idx) = V m c main_arg1 (ix3 0 k (left (colOf t q)) : S2x2048x11264.Idx) := by
  have e : (left (colOf t q)).val = 512 * (t.val / 8) + q.val := rfl
  blk_ext [iblk, idx t, e]

theorem read4 (c : Dev nD) (t : Fin cfg0.N) (k : Fin 2048) (q : Fin 512) :
    iblk m c 4 t (ix3 0 k q : S1x2048x512.Idx) = V m c main_arg1 (ix3 0 k (right (colOf t q)) : S2x2048x11264.Idx) := by
  have e : (right (colOf t q)).val = 5632 + (512 * (t.val / 8) + q.val) := rfl
  blk_ext [iblk, idx t, e]

theorem read5 (c : Dev nD) (t : Fin cfg0.N) (d : Fin 3) (q : Fin 512) :
    iblk m c 5 t (ix2 d q : S3x512.Idx) = V m c main_v1 (ix2 d (left (colOf t q)) : S3x11264.Idx) := by
  have e : (left (colOf t q)).val = 512 * (t.val / 8) + q.val := rfl
  blk_ext [iblk, idx t, e]

theorem read6 (c : Dev nD) (t : Fin cfg0.N) (d : Fin 3) (q : Fin 512) :
    iblk m c 6 t (ix2 d q : S3x512.Idx) = V m c main_v1 (ix2 d (right (colOf t q)) : S3x11264.Idx) := by
  have e : (right (colOf t q)).val = 5632 + (512 * (t.val / 8) + q.val) := rfl
  blk_ext [iblk, idx t, e]

end Cert.UpIdeal.Mm
-- ==== Proof.UpV.lean ====
module

public import proofs.«01_k».proof.Proof.UpL

@[expose] public section

set_option maxRecDepth 16384

noncomputable section

namespace Cert.UpIdeal.Mm

open Cert.UpIdeal Cert.UpIdeal.Gen Idealize.ShloMosaic Idealize.ShloMosaic.TcCoe Idealize.ShloMosaic.Tactic Idealize.SL.Sem

/-- One entry of the product of the rows with the weights. -/
def mul (h : FVec Ideal S8192x2048 .bf16) (w : FVec Ideal S2x2048x11264 .f32) (r : Fin 8192) (n : Fin 11264) : EReal :=
  ∑ k : Fin 2048, (h (ix2 r k) : EReal) * w (ix3 0 k n)

/-- The length of the sequences a row is among. -/
def length (r : Fin 8192) : ℕ := if r.val < 4096 then 256 else 2048

/-- One entry of the convolved product, with the taps `f`. -/
def mixed (h : FVec Ideal S8192x2048 .bf16) (w : FVec Ideal S2x2048x11264 .f32) (f : Fin 3 → Fin 11264 → EReal) (r : Fin 8192) (n : Fin 11264) : EReal :=
  conv (r.val % length r = 0) (r.val % length r + 1 = length r) (mul h w (before r) n) (mul h w r n) (mul h w (after r) n) (f 0 n) (f 1 n) (f 2 n)

/-- One entry of the result. -/
def value (h : FVec Ideal S8192x2048 .bf16) (w : FVec Ideal S2x2048x11264 .f32) (f : Fin 3 → Fin 11264 → EReal) (r : Fin 8192) (n : Fin 5632) : EReal :=
  silu (mixed h w f r (left n)) * mixed h w f r (right n)

theorem conv_congr {f f' l l' : Prop} [Decidable f] [Decidable f'] [Decidable l] [Decidable l'] {b b' o o' a a' t0 t0' t1 t1' t2 t2' : EReal}
    (hf : f ↔ f') (hl : l ↔ l') (hb : ¬f' → b = b') (ho : o = o') (ha : ¬l' → a = a') (h0 : t0 = t0') (h1 : t1 = t1') (h2 : t2 = t2') :
    conv f l b o a t0 t1 t2 = conv f' l' b' o' a' t0' t1' t2' := by
  subst ho h0 h1 h2
  unfold conv
  congr 1
  · congr 1
    by_cases h : f'
    · rw [if_pos h, if_pos (hf.mpr h)]
    · rw [if_neg h, if_neg (fun u => h (hf.mp u)), hb h]
  · by_cases h : l'
    · rw [if_pos h, if_pos (hl.mpr h)]
    · rw [if_neg h, if_neg (fun u => h (hl.mp u)), ha h]

/-- The column of the weights that a column of the carried ones is. -/
def wide (t : Fin cfg0.N) (n : Fin 1024) : Fin 11264 :=
  ⟨(if n.val % 256 < 128 then 0 else 5632) + (512 * (t.val / 8) + (128 * (n.val / 256) + n.val % 128)), by
    have := (idx t).2.2.2.2.2.2.2.2.1
    split_ifs <;> omega⟩

theorem wide_colA (t : Fin cfg0.N) (q : Fin 512) : wide t (colA q) = left (colOf t q) := Fin.ext (by
  show (if (256 * (q.val / 128) + q.val % 128) % 256 < 128 then 0 else 5632) + (512 * (t.val / 8) + (128 * ((256 * (q.val / 128) + q.val % 128) / 256) + (256 * (q.val / 128) + q.val % 128) % 128))
    = 512 * (t.val / 8) + q.val
  rw [if_pos (by omega)]; omega)

theorem wide_colB (t : Fin cfg0.N) (q : Fin 512) : wide t (colB q) = right (colOf t q) := Fin.ext (by
  show (if (256 * (q.val / 128) + 128 + q.val % 128) % 256 < 128 then 0 else 5632) + (512 * (t.val / 8) + (128 * ((256 * (q.val / 128) + 128 + q.val % 128) / 256) + (256 * (q.val / 128) + 128 + q.val % 128) % 128))
    = 5632 + (512 * (t.val / 8) + q.val)
  rw [if_neg (by omega)]; omega)

variable (m : (ℓ : Loc nD τ sig) → Buf (Elt Ideal) ℓ)

/-- What the first point of a run carries, entry by entry. -/
theorem filled (c : Dev nD) (t : Fin cfg0.N) (k : Fin 2048) (n : Fin 1024) :
    View.canon (fillPieces (iblk m c 3 t) (iblk m c 4 t)) (ix2 k n : S2048x1024.Idx) = V m c main_arg1 (ix3 0 k (wide t n) : S2x2048x11264.Idx) := by
  refine (fill_apply _ _ _).trans ?_
  show carry (iblk m c 3 t) (iblk m c 4 t) k n = _
  unfold carry
  split_ifs with h
  · refine (read3 m c t k _).trans (congrArg (fun u => V m c main_arg1 (ix3 0 k u : S2x2048x11264.Idx)) (Fin.ext ?_))
    show 512 * (t.val / 8) + (128 * (n.val / 256) + n.val % 128) = (if n.val % 256 < 128 then 0 else 5632) + (512 * (t.val / 8) + (128 * (n.val / 256) + n.val % 128))
    rw [if_pos h]; omega
  · refine (read4 m c t k _).trans (congrArg (fun u => V m c main_arg1 (ix3 0 k u : S2x2048x11264.Idx)) (Fin.ext ?_))
    show 5632 + (512 * (t.val / 8) + (128 * (n.val / 256) + n.val % 128)) = (if n.val % 256 < 128 then 0 else 5632) + (512 * (t.val / 8) + (128 * (n.val / 256) + n.val % 128))
    rw [if_neg h]

/-- The carried weights after a point, entry by entry: the run's own columns of the weights. -/
theorem carried (c : Dev nD) : ∀ (j : ℕ) (n : ℕ) (hn : n < cfg0.N), n % 8 = j → ∀ (k : Fin 2048) (u : Fin 1024),
    (outsAt0 m c n hn).2 (ix2 k u : S2048x1024.Idx) = V m c main_arg1 (ix3 0 k (wide ⟨n, hn⟩ u) : S2x2048x11264.Idx)
  | 0, n, hn, h, k, u => by
    have e := outsAt0_A m c ⟨n, hn⟩ h
    dsimp only at e
    rw [e]
    dsimp only
    rw [fill_eq]
    exact filled m c ⟨n, hn⟩ k u
  | j + 1, n, hn, h, k, u => by
    have e := outsAt0_B m c ⟨n, hn⟩ (show ¬n % 8 = 0 by omega)
    dsimp only at e
    rw [e]
    dsimp only [sout0_B_0]
    refine (carried c j (n - 1) _ (by omega) k u).trans ?_
    refine congrArg (fun v => V m c main_arg1 (ix3 0 k v : S2x2048x11264.Idx)) (Fin.ext ?_)
    show _ + (512 * ((n - 1) / 8) + _) = _ + (512 * (n / 8) + _)
    rw [show (n - 1) / 8 = n / 8 by omega]

/-- The rows a point works on, over its three blocks. -/
def rows (c : Dev nD) (t : Fin cfg0.N) : FVec Ideal S1056x2048 .bf16 := k0_pay10 (F := Ideal) (iblk m c 1 t) (iblk m c 0 t) (iblk m c 2 t)

theorem row_mid (c : Dev nD) (t : Fin cfg0.N) (p : Fin 1024) (k : Fin 2048) :
    rows m c t (ix2 ⟨p.val + 16, by omega⟩ k) = V m c main_arg0 (ix2 (rowOf t p) k : S8192x2048.Idx) :=
  (rows_mid (iblk m c 1 t) (iblk m c 2 t) (iblk m c 0 t) p k).trans (read0 m c t p k)

theorem row_before (c : Dev nD) (t : Fin cfg0.N) (p : Fin 1024) (k : Fin 2048) (h : (rowOf t p).val ≠ 0) :
    rows m c t (ix2 ⟨p.val + 15, by omega⟩ k) = V m c main_arg0 (ix2 (before (rowOf t p)) k : S8192x2048.Idx) := by
  have h' : 1024 * (t.val % 8) + p.val ≠ 0 := h
  by_cases hp : p.val = 0
  · refine (rows_first (iblk m c 1 t) (iblk m c 2 t) (iblk m c 0 t) p k hp).trans (read1 m c t _ k ?_)
    show 1024 * (t.val % 8) + p.val - 1 = _
    omega
  · refine (rows_before (iblk m c 1 t) (iblk m c 2 t) (iblk m c 0 t) p k hp).trans ((read0 m c t _ k).trans ?_)
    refine congrArg (fun r => V m c main_arg0 (ix2 r k : S8192x2048.Idx)) (Fin.ext ?_)
    show 1024 * (t.val % 8) + (p.val - 1) = 1024 * (t.val % 8) + p.val - 1
    omega

theorem row_after (c : Dev nD) (t : Fin cfg0.N) (p : Fin 1024) (k : Fin 2048) (h : (rowOf t p).val ≠ 8191) :
    rows m c t (ix2 ⟨p.val + 17, by omega⟩ k) = V m c main_arg0 (ix2 (after (rowOf t p)) k : S8192x2048.Idx) := by
  have h' : 1024 * (t.val % 8) + p.val ≠ 8191 := h
  by_cases hp : p.val = 1023
  · refine (rows_last (iblk m c 1 t) (iblk m c 2 t) (iblk m c 0 t) p k hp).trans (read2 m c t _ k ?_)
    show (1024 * (t.val % 8) + p.val + 1) % 8192 = _
    omega
  · refine (rows_after (iblk m c 1 t) (iblk m c 2 t) (iblk m c 0 t) p k hp).trans ((read0 m c t _ k).trans ?_)
    refine congrArg (fun r => V m c main_arg0 (ix2 r k : S8192x2048.Idx)) (Fin.ext ?_)
    show 1024 * (t.val % 8) + (p.val + 1) = (1024 * (t.val % 8) + p.val + 1) % 8192
    omega

/-- A point's product with its carried weights, at a row of the whole. -/
theorem prod_eq (c : Dev nD) (t : Fin cfg0.N) (xs : FVec Ideal S2048x1024 .bf16)
    (hx : ∀ (k : Fin 2048) (u : Fin 1024), xs (ix2 k u) = V m c main_arg1 (ix3 0 k (wide t u) : S2x2048x11264.Idx))
    (r' : Fin 1056) (r : Fin 8192) (n : Fin 1024) (n' : Fin 11264) (hn : wide t n = n')
    (hr : ∀ k, rows m c t (ix2 r' k) = V m c main_arg0 (ix2 r k : S8192x2048.Idx)) :
    prodC (rows m c t) xs r' n = mul (V m c main_arg0) (V m c main_arg1) r n' := by
  subst hn
  exact Finset.sum_congr rfl fun k _ => congrArg₂ (fun a b : EReal => a * b) (hr k) (hx k n)

theorem len_eq (t : Fin cfg0.N) (p : Fin 1024) : len (grid0.coords t 1).val = length (rowOf t p) := by
  rw [(idx t).2.2.2.2.2.2.2.2.2]
  unfold len length
  show (if t.val % 8 < 4 then 256 else 2048) = if 1024 * (t.val % 8) + p.val < 4096 then 256 else 2048
  congr 1
  exact propext ⟨fun h => by omega, fun h => by omega⟩

theorem first_iff (t : Fin cfg0.N) (p : Fin 1024) : k0_pay12 (grid0.coords t) (ix2 p 0) = 1 ↔ (rowOf t p).val % length (rowOf t p) = 0 := by
  rw [first_apply, len_eq t p, (idx t).2.2.2.2.2.2.2.2.2]
  show (if (rowOf t p).val % length (rowOf t p) = 0 then (1 : BitVec 1) else 0) = 1 ↔ _
  split_ifs with h <;> simp [h]

theorem last_iff (t : Fin cfg0.N) (p : Fin 1024) : k0_pay13 (grid0.coords t) (ix2 p 0) = 1 ↔ (rowOf t p).val % length (rowOf t p) + 1 = length (rowOf t p) := by
  rw [last_apply, len_eq t p, (idx t).2.2.2.2.2.2.2.2.2]
  show (if (rowOf t p).val % length (rowOf t p) + 1 = length (rowOf t p) then (1 : BitVec 1) else 0) = 1 ↔ _
  split_ifs with h <;> simp [h]

theorem first_ne {r : Fin 8192} (h : ¬r.val % length r = 0) : r.val ≠ 0 := fun e => h (by rw [e]; exact Nat.zero_mod _)

theorem last_ne {r : Fin 8192} (h : ¬r.val % length r + 1 = length r) : r.val ≠ 8191 := fun e => h (by
  unfold length
  rw [e]
  rfl)

/-- A point's convolution, at a row and a column of the whole. -/
theorem conv_eq (c : Dev nD) (t : Fin cfg0.N) (xs : FVec Ideal S2048x1024 .bf16)
    (hx : ∀ (k : Fin 2048) (u : Fin 1024), xs (ix2 k u) = V m c main_arg1 (ix3 0 k (wide t u) : S2x2048x11264.Idx))
    (x : FVec Ideal S3x512 .f32) (p : Fin 1024) (n : Fin 1024) (q : Fin 512) (n' : Fin 11264) (hn : wide t n = n')
    (f : Fin 3 → Fin 11264 → EReal) (hf : ∀ d : Fin 3, x (ix2 d q) = f d n') :
    convC (k0_pay12 (grid0.coords t)) (k0_pay13 (grid0.coords t)) (rows m c t) xs x p n q = mixed (V m c main_arg0) (V m c main_arg1) f (rowOf t p) n' :=
  conv_congr (first_iff t p) (last_iff t p)
    (fun h => prod_eq m c t xs hx _ _ n n' hn fun k => row_before m c t p k (first_ne h))
    (prod_eq m c t xs hx _ _ n n' hn fun k => row_mid m c t p k)
    (fun h => prod_eq m c t xs hx _ _ n n' hn fun k => row_after m c t p k (last_ne h))
    (hf 0) (hf 1) (hf 2)

def taps (c : Dev nD) (d : Fin 3) (n : Fin 11264) : EReal := (V m c main_v1 : FVec Ideal S3x11264 .f32) (ix2 d n)

/-- What a point stores, over its carried weights. -/
theorem stored (c : Dev nD) (t : Fin cfg0.N) (xs : FVec Ideal S2048x1024 .bf16)
    (hx : ∀ (k : Fin 2048) (u : Fin 1024), xs (ix2 k u) = V m c main_arg1 (ix3 0 k (wide t u) : S2x2048x11264.Idx)) (p : Fin 1024) (q : Fin 512) :
    View.canon (outPieces (k0_pay12 (grid0.coords t)) (k0_pay13 (grid0.coords t)) (rows m c t) xs (iblk m c 5 t) (iblk m c 6 t)) (ix2 p q : S1024x512.Idx)
      = value (V m c main_arg0) (V m c main_arg1) (taps m c) (rowOf t p) (colOf t q) := by
  refine (out_apply _ _ _ _ _ _ _).trans ?_
  exact congrArg₂ (fun a b : EReal => silu a * b)
    (conv_eq m c t xs hx (iblk m c 5 t) p (colA q) q _ (wide_colA t q) (taps m c) fun d => read5 m c t d q)
    (conv_eq m c t xs hx (iblk m c 6 t) p (colB q) q _ (wide_colB t q) (taps m c) fun d => read6 m c t d q)

/-- What a point leaves in the result's block, entry by entry. -/
theorem block (c : Dev nD) (t : Fin cfg0.N) (p : Fin 1024) (q : Fin 512) :
    (outsAt0 m c t.val t.isLt).1 (ix2 p q : S1024x512.Idx) = value (V m c main_arg0) (V m c main_arg1) (taps m c) (rowOf t p) (colOf t q) := by
  by_cases h : t.val % 8 = 0
  · rw [outsAt0_A m c t h]
    dsimp only
    rw [first_eq]
    exact stored m c t _ (filled m c t) p q
  · rw [outsAt0_B m c t h]
    dsimp only
    rw [later_eq]
    refine stored m c t _ (fun k u => (carried m c ((t.val - 1) % 8) (t.val - 1) _ rfl k u).trans ?_) p q
    refine congrArg (fun v => V m c main_arg1 (ix3 0 k v : S2x2048x11264.Idx)) (Fin.ext ?_)
    show _ + (512 * ((t.val - 1) / 8) + _) = _ + (512 * (t.val / 8) + _)
    rw [show (t.val - 1) / 8 = t.val / 8 by omega]

def whole (h : FVec Ideal S8192x2048 .bf16) (w : FVec Ideal S2x2048x11264 .f32) (f : Fin 3 → Fin 11264 → EReal) (y : S8192x5632.Idx) : EReal := value h w f (y 0) (y 1)

/-- What the kernel leaves in its result array. -/
theorem arr (c : Dev nD) : (dats m 0 c).arrAt 7 cfg0.N = whole (V m c main_arg0) (V m c main_arg1) (taps m c) := by
  refine (dats m 0 c).arrAt_eq_of_covers 7 _ (by decide +kernel) fun t hf y => ?_
  blk_simp
  rw [after0_7]
  obtain ⟨p, q, rfl⟩ : ∃ (p : Fin 1024) (q : Fin 512), y = (ix2 p q : S1024x512.Idx) := ⟨y 0, y 1, by idx_vars y⟩
  refine (block m c t p q).trans ?_
  have h0 : (((win0_7.blk t).view.emb (ix2 p q : S1024x512.Idx) : S8192x5632.Idx) 0) = rowOf t p := Fin.ext (by
    show win0_7.index t 0 * 1024 + 1 * p.val = 1024 * (t.val % 8) + p.val
    rw [(idx t).2.2.2.2.2.2.2.1]
    show t.val % 8 * 1024 + 1 * p.val = _; omega)
  have h1 : (((win0_7.blk t).view.emb (ix2 p q : S1024x512.Idx) : S8192x5632.Idx) 1) = colOf t q := Fin.ext (by
    show win0_7.index t 1 * 512 + 1 * q.val = 512 * (t.val / 8) + q.val
    rw [(idx t).2.2.2.2.2.2.2.1]
    show t.val / 8 * 512 + 1 * q.val = _; omega)
  unfold whole
  rw [h0, h1]

/-- The taps, over the layer's own argument. -/
theorem taps_apply (c : Dev nD) (d : Fin 3) (n : Fin 11264) : taps m c d n = (m (c, main_arg2) : FVec Ideal S2x3x11264 .f32) (ix3 0 d n) := by
  have e : (V m c main_v1 : FVec Ideal S3x11264 .f32)
      = shapeCast _ (extractStridedSlice S1x3x11264 ![0, 0, 0] (m (c, main_arg2) : FVec Ideal S2x3x11264 .f32) slices_S2x3x11264_S1x3x11264_0_0_0) shapeCasts_S1x3x11264_S3x11264 := by
    simp only [V, hostOps0]
    run_tidy
    rfl
  unfold taps
  rw [e]
  pointwise []

theorem arr_apply (c : Dev nD) (r : Fin 8192) (n : Fin 5632) :
    ((dats m 0 c).arrAt 7 cfg0.N : FVec Ideal S8192x5632 .bf16) (ix2 r n)
      = value (m (c, main_arg0)) (m (c, main_arg1)) (fun d n => (m (c, main_arg2) : FVec Ideal S2x3x11264 .f32) (ix3 0 d n)) r n := by
  rw [arr, V_main_arg0, V_main_arg1, show taps m c = _ from funext fun d => funext fun n => taps_apply m c d n]
  rfl

end Cert.UpIdeal.Mm
-- ==== Proof.UpR.lean ====
module

public import proofs.«01_k».proof.Proof.Gen.UpRefIdeal.Run
public import Idealize.ShloMosaic.Lib.Pointwise

@[expose] public section

set_option maxRecDepth 16384

noncomputable section

namespace Cert.UpRefIdeal.Mm

open Cert.UpRefIdeal Cert.UpRefIdeal.Gen Idealize.ShloMosaic Idealize.ShloMosaic.TcCoe Idealize.SL.Sem

variable (h : FVec Ideal S8192x2048 .bf16) (w : FVec Ideal S2x2048x11264 .f32) (f : FVec Ideal S2x3x11264 .f32)

/-- The product of the rows with the weights. -/
def product : FVec Ideal S8192x11264 .f32 :=
  Host.dotGeneral (φ₁ := .f32) (φ₂ := .f32) dot_S8192x2048_S2048x11264_S8192x11264_1_0_0_1_n_n none (extf .f32 h bitsLt_bf16_f32)
    (shapeCast _ (extractStridedSlice S1x2048x11264 ![0, 0, 0] w slices_S2x2048x11264_S1x2048x11264_0_0_0) shapeCasts_S1x2048x11264_S2048x11264)

/-- The three taps of each column. -/
def table : FVec Ideal S3x11264 .f32 := shapeCast _ (extractStridedSlice S1x3x11264 ![0, 0, 0] f slices_S2x3x11264_S1x3x11264_0_0_0) shapeCasts_S1x3x11264_S3x11264

def tap0 : FVec Ideal S1x1x11264 .f32 :=
  broadcastInDim S1x1x11264 ![2] bcast_S11264_S1x1x11264_2 (shapeCast _ (extractStridedSlice S1x11264 ![0, 0] (table f) slices_S3x11264_S1x11264_0_0) shapeCasts_S1x11264_S11264)
def tap1 : FVec Ideal S1x1x11264 .f32 :=
  broadcastInDim S1x1x11264 ![2] bcast_S11264_S1x1x11264_2 (shapeCast _ (extractStridedSlice S1x11264 ![1, 0] (table f) slices_S3x11264_S1x11264_1_0) shapeCasts_S1x11264_S11264)
def tap2 : FVec Ideal S1x1x11264 .f32 :=
  broadcastInDim S1x1x11264 ![2] bcast_S11264_S1x1x11264_2 (shapeCast _ (extractStridedSlice S1x11264 ![2, 0] (table f) slices_S3x11264_S1x11264_2_0) shapeCasts_S1x11264_S11264)

/-- The first half's product by sequence, the same one row later and one row earlier, its convolution, and the layer's result of it. -/
def seqs1 : FVec Ideal S16x256x11264 .f32 := shapeCast _ (extractStridedSlice S4096x11264 ![0, 0] (product h w) slices_S8192x11264_S4096x11264_0_0) shapeCasts_S4096x11264_S16x256x11264
def before1 (U : FVec Ideal S16x256x11264 .f32) : FVec Ideal S16x256x11264 .f32 :=
  concatenate S16x256x11264 1 [⟨S16x1x11264, (broadcastInDim S16x1x11264 ![] bcast_S_S16x1x11264 (constant (F := Ideal) S_ .f32 0x00000000#32))⟩,
    ⟨S16x255x11264, (extractStridedSlice S16x255x11264 ![0, 0, 0] U slices_S16x256x11264_S16x255x11264_0_0_0)⟩] concatenates_S16x1x11264_S16x255x11264_S16x256x11264_d1
def after1 (U : FVec Ideal S16x256x11264 .f32) : FVec Ideal S16x256x11264 .f32 :=
  concatenate S16x256x11264 1 [⟨S16x255x11264, (extractStridedSlice S16x255x11264 ![0, 1, 0] U slices_S16x256x11264_S16x255x11264_0_1_0)⟩,
    ⟨S16x1x11264, (broadcastInDim S16x1x11264 ![] bcast_S_S16x1x11264 (constant (F := Ideal) S_ .f32 0x00000000#32))⟩] concatenates_S16x255x11264_S16x1x11264_S16x256x11264_d1
def conv1 : FVec Ideal S16x256x11264 .f32 :=
  addf (addf (mulf (before1 (seqs1 h w)) (broadcastInDim S16x256x11264 ![0, 1, 2] bcast_S1x1x11264_S16x256x11264_0_1_2 (tap0 f)))
    (mulf (seqs1 h w) (broadcastInDim S16x256x11264 ![0, 1, 2] bcast_S1x1x11264_S16x256x11264_0_1_2 (tap1 f))))
    (mulf (after1 (seqs1 h w)) (broadcastInDim S16x256x11264 ![0, 1, 2] bcast_S1x1x11264_S16x256x11264_0_1_2 (tap2 f)))
def silu1 (A : FVec Ideal S16x256x5632 .f32) : FVec Ideal S16x256x5632 .f32 :=
  mulf A (Host.divf (broadcastInDim S16x256x5632 ![] bcast_S_S16x256x5632 (constant S_ .f32 0x3F800000#32))
    (addf (broadcastInDim S16x256x5632 ![] bcast_S_S16x256x5632 (constant S_ .f32 0x3F800000#32)) (Host.exp (Host.negf A))))
def gated1 : FVec Ideal S4096x5632 .f32 :=
  shapeCast _ (mulf (silu1 (extractStridedSlice S16x256x5632 ![0, 0, 0] (conv1 h w f) slices_S16x256x11264_S16x256x5632_0_0_0))
    (extractStridedSlice S16x256x5632 ![0, 0, 5632] (conv1 h w f) slices_S16x256x11264_S16x256x5632_0_0_5632)) shapeCasts_S16x256x5632_S4096x5632

/-- The same of the second half. -/
def seqs2 : FVec Ideal S2x2048x11264 .f32 := shapeCast _ (extractStridedSlice S4096x11264 ![4096, 0] (product h w) slices_S8192x11264_S4096x11264_4096_0) shapeCasts_S4096x11264_S2x2048x11264
def before2 (U : FVec Ideal S2x2048x11264 .f32) : FVec Ideal S2x2048x11264 .f32 :=
  concatenate S2x2048x11264 1 [⟨S2x1x11264, (broadcastInDim S2x1x11264 ![] bcast_S_S2x1x11264 (constant (F := Ideal) S_ .f32 0x00000000#32))⟩,
    ⟨S2x2047x11264, (extractStridedSlice S2x2047x11264 ![0, 0, 0] U slices_S2x2048x11264_S2x2047x11264_0_0_0)⟩] concatenates_S2x1x11264_S2x2047x11264_S2x2048x11264_d1
def after2 (U : FVec Ideal S2x2048x11264 .f32) : FVec Ideal S2x2048x11264 .f32 :=
  concatenate S2x2048x11264 1 [⟨S2x2047x11264, (extractStridedSlice S2x2047x11264 ![0, 1, 0] U slices_S2x2048x11264_S2x2047x11264_0_1_0)⟩,
    ⟨S2x1x11264, (broadcastInDim S2x1x11264 ![] bcast_S_S2x1x11264 (constant (F := Ideal) S_ .f32 0x00000000#32))⟩] concatenates_S2x2047x11264_S2x1x11264_S2x2048x11264_d1
def conv2 : FVec Ideal S2x2048x11264 .f32 :=
  addf (addf (mulf (before2 (seqs2 h w)) (broadcastInDim S2x2048x11264 ![0, 1, 2] bcast_S1x1x11264_S2x2048x11264_0_1_2 (tap0 f)))
    (mulf (seqs2 h w) (broadcastInDim S2x2048x11264 ![0, 1, 2] bcast_S1x1x11264_S2x2048x11264_0_1_2 (tap1 f))))
    (mulf (after2 (seqs2 h w)) (broadcastInDim S2x2048x11264 ![0, 1, 2] bcast_S1x1x11264_S2x2048x11264_0_1_2 (tap2 f)))
def silu2 (A : FVec Ideal S2x2048x5632 .f32) : FVec Ideal S2x2048x5632 .f32 :=
  mulf A (Host.divf (broadcastInDim S2x2048x5632 ![] bcast_S_S2x2048x5632 (constant S_ .f32 0x3F800000#32))
    (addf (broadcastInDim S2x2048x5632 ![] bcast_S_S2x2048x5632 (constant S_ .f32 0x3F800000#32)) (Host.exp (Host.negf A))))
def gated2 : FVec Ideal S4096x5632 .f32 :=
  shapeCast _ (mulf (silu2 (extractStridedSlice S2x2048x5632 ![0, 0, 0] (conv2 h w f) slices_S2x2048x11264_S2x2048x5632_0_0_0))
    (extractStridedSlice S2x2048x5632 ![0, 0, 5632] (conv2 h w f) slices_S2x2048x11264_S2x2048x5632_0_0_5632)) shapeCasts_S2x2048x5632_S4096x5632

/-- The reference's result. -/
def res : FVec Ideal S8192x5632 .bf16 :=
  truncf .bf16 (concatenate S8192x5632 0 [⟨S4096x5632, gated1 h w f⟩, ⟨S4096x5632, gated2 h w f⟩] concatenates_S4096x5632_S4096x5632_S8192x5632_d0) bitsLt_bf16_f32

theorem res_eq (m : (ℓ : Loc nD τ sig) → Buf (Elt Ideal) ℓ) (c : Dev nD) :
    Cert.UpRefIdeal.Value.res_main_v67 m c = res (m (c, main_arg0)) (m (c, main_arg1)) (m (c, main_arg2)) := rfl

/-- One entry of the product. -/
def mul (r : Fin 8192) (n : Fin 11264) : EReal := ∑ k : Fin 2048, (h (ix2 r k) : EReal) * w (ix3 0 k n)

def conv (f l : Prop) [Decidable f] [Decidable l] (b o a t0 t1 t2 : EReal) : EReal := (if f then 0 else b * t0) + o * t1 + (if l then 0 else a * t2)

def silu (z : EReal) : EReal := z * Idealize.ShloMosaic.Ideal.logistic z

theorem product_apply (r : Fin 8192) (n : Fin 11264) : product h w (ix2 r n) = mul h w r n := by
  pointwise [product]
  all_goals rfl

theorem tap0_apply (n : Fin 11264) : tap0 f (ix3 0 0 n) = f (ix3 0 0 n) := by
  pointwise [tap0, table]
theorem tap1_apply (n : Fin 11264) : tap1 f (ix3 0 0 n) = f (ix3 0 1 n) := by
  pointwise [tap1, table]
theorem tap2_apply (n : Fin 11264) : tap2 f (ix3 0 0 n) = f (ix3 0 2 n) := by
  pointwise [tap2, table]

def length (r : Fin 8192) : ℕ := if r.val < 4096 then 256 else 2048
def before (r : Fin 8192) : Fin 8192 := ⟨r.val - 1, by omega⟩
def after (r : Fin 8192) : Fin 8192 := ⟨(r.val + 1) % 8192, by omega⟩
def left (n : Fin 5632) : Fin 11264 := ⟨n.val, by omega⟩
def right (n : Fin 5632) : Fin 11264 := ⟨5632 + n.val, by omega⟩

/-- One entry of the convolved product. -/
def mixed (r : Fin 8192) (n : Fin 11264) : EReal :=
  conv (r.val % length r = 0) (r.val % length r + 1 = length r) (mul h w (before r) n) (mul h w r n) (mul h w (after r) n) (f (ix3 0 0 n)) (f (ix3 0 1 n)) (f (ix3 0 2 n))

/-- One entry of the result. -/
def value (r : Fin 8192) (n : Fin 5632) : EReal := silu (mixed h w f r (left n)) * mixed h w f r (right n)

theorem mixed_of (r : Fin 8192) (n : Fin 11264) (p L : ℕ) (hL : length r = L) (hp : r.val % L = p) (b o a : EReal)
    (b0 : p = 0 → b = 0) (b1 : p ≠ 0 → b = mul h w (before r) n) (ho : o = mul h w r n) (a0 : p + 1 = L → a = 0) (a1 : p + 1 ≠ L → a = mul h w (after r) n) :
    b * tap0 f (ix3 0 0 n) + o * tap1 f (ix3 0 0 n) + a * tap2 f (ix3 0 0 n) = mixed h w f r n := by
  rw [tap0_apply, tap1_apply, tap2_apply]
  subst ho hL hp
  unfold mixed conv
  congr 1
  · congr 1
    split_ifs with e
    · rw [b0 e, zero_mul]
    · rw [b1 e]
  · split_ifs with e
    · rw [a0 e, zero_mul]
    · rw [a1 e]

theorem before1_first (U : FVec Ideal S16x256x11264 .f32) (s : Fin 16) (p : Fin 256) (n : Fin 11264) (e : p.val = 0) : before1 U (ix3 s p n) = (0 : EReal) := by
  pointwise [before1]
  rw [dif_pos (by omega)]

theorem before1_apply (U : FVec Ideal S16x256x11264 .f32) (s : Fin 16) (p : Fin 256) (n : Fin 11264) (e : p.val ≠ 0) :
    before1 U (ix3 s p n) = U (ix3 s ⟨p.val - 1, by omega⟩ n) := by
  pointwise [before1]
  rw [dif_neg (by omega)]

theorem after1_last (U : FVec Ideal S16x256x11264 .f32) (s : Fin 16) (p : Fin 256) (n : Fin 11264) (e : p.val + 1 = 256) : after1 U (ix3 s p n) = (0 : EReal) := by
  pointwise [after1]
  rw [dif_neg (by omega)]

theorem after1_apply (U : FVec Ideal S16x256x11264 .f32) (s : Fin 16) (p : Fin 256) (n : Fin 11264) (e : p.val + 1 ≠ 256) :
    after1 U (ix3 s p n) = U (ix3 s ⟨1 + p.val, by omega⟩ n) := by
  pointwise [after1]
  rw [dif_pos (by omega)]

theorem seqs1_apply (s : Fin 16) (p : Fin 256) (n : Fin 11264) (r : Fin 8192) (hr : r.val = s.val * 256 + p.val) : seqs1 h w (ix3 s p n) = mul h w r n := by
  refine Eq.trans ?_ (product_apply h w r n)
  pointwise [seqs1]
  exact congrArg (fun r => product h w (ix2 r n)) (Fin.ext (by rw [hr]))

theorem conv1_sum (s : Fin 16) (p : Fin 256) (n : Fin 11264) :
    conv1 h w f (ix3 s p n) = before1 (seqs1 h w) (ix3 s p n) * tap0 f (ix3 0 0 n) + seqs1 h w (ix3 s p n) * tap1 f (ix3 0 0 n) + after1 (seqs1 h w) (ix3 s p n) * tap2 f (ix3 0 0 n) := by
  pointwise [conv1]

theorem conv1_apply (s : Fin 16) (p : Fin 256) (n : Fin 11264) (r : Fin 8192) (hr : r.val = s.val * 256 + p.val) : conv1 h w f (ix3 s p n) = mixed h w f r n := by
  rw [conv1_sum]
  refine mixed_of h w f r n p.val 256 ?_ (by rw [hr]; omega) _ _ _ (before1_first _ s p n) (fun e => ?_) (seqs1_apply h w s p n r hr) (after1_last _ s p n) (fun e => ?_)
  · unfold length
    rw [if_pos (by omega)]
  · refine (before1_apply _ s p n e).trans (seqs1_apply h w s _ n _ ?_)
    show r.val - 1 = s.val * 256 + (p.val - 1)
    omega
  · refine (after1_apply _ s p n e).trans (seqs1_apply h w s _ n _ ?_)
    show (r.val + 1) % 8192 = s.val * 256 + (1 + p.val)
    omega

theorem silu1_apply (A : FVec Ideal S16x256x5632 .f32) (s : Fin 16) (p : Fin 256) (n : Fin 5632) : silu1 A (ix3 s p n) = silu (A (ix3 s p n)) := by
  pointwise [silu1]
  rfl

theorem gated1_parts (r : Fin 4096) (n : Fin 5632) : gated1 h w f (ix2 r n)
    = silu1 (extractStridedSlice S16x256x5632 ![0, 0, 0] (conv1 h w f) slices_S16x256x11264_S16x256x5632_0_0_0) (ix3 ⟨r.val / 256, by omega⟩ ⟨r.val % 256, by omega⟩ n)
      * conv1 h w f (ix3 ⟨r.val / 256, by omega⟩ ⟨r.val % 256, by omega⟩ (right n)) := by
  pointwise [gated1]
  all_goals rfl

theorem left1 (A : FVec Ideal S16x256x11264 .f32) (s : Fin 16) (p : Fin 256) (n : Fin 5632) :
    extractStridedSlice S16x256x5632 ![0, 0, 0] A slices_S16x256x11264_S16x256x5632_0_0_0 (ix3 s p n) = A (ix3 s p (left n)) := by
  pointwise []
  all_goals rfl

theorem gated1_apply (r : Fin 4096) (n : Fin 5632) (r' : Fin 8192) (hr : r'.val = r.val) : gated1 h w f (ix2 r n) = value h w f r' n := by
  have e : r'.val = r.val / 256 * 256 + r.val % 256 := by omega
  rw [gated1_parts, silu1_apply, left1, conv1_apply h w f ⟨r.val / 256, by omega⟩ ⟨r.val % 256, by omega⟩ _ r' e, conv1_apply h w f ⟨r.val / 256, by omega⟩ ⟨r.val % 256, by omega⟩ _ r' e]
  rfl

theorem before2_first (U : FVec Ideal S2x2048x11264 .f32) (s : Fin 2) (p : Fin 2048) (n : Fin 11264) (e : p.val = 0) : before2 U (ix3 s p n) = (0 : EReal) := by
  pointwise [before2]
  rw [dif_pos (by omega)]

theorem before2_apply (U : FVec Ideal S2x2048x11264 .f32) (s : Fin 2) (p : Fin 2048) (n : Fin 11264) (e : p.val ≠ 0) :
    before2 U (ix3 s p n) = U (ix3 s ⟨p.val - 1, by omega⟩ n) := by
  pointwise [before2]
  rw [dif_neg (by omega)]

theorem after2_last (U : FVec Ideal S2x2048x11264 .f32) (s : Fin 2) (p : Fin 2048) (n : Fin 11264) (e : p.val + 1 = 2048) : after2 U (ix3 s p n) = (0 : EReal) := by
  pointwise [after2]
  rw [dif_neg (by omega)]

theorem after2_apply (U : FVec Ideal S2x2048x11264 .f32) (s : Fin 2) (p : Fin 2048) (n : Fin 11264) (e : p.val + 1 ≠ 2048) :
    after2 U (ix3 s p n) = U (ix3 s ⟨1 + p.val, by omega⟩ n) := by
  pointwise [after2]
  rw [dif_pos (by omega)]

theorem seqs2_apply (s : Fin 2) (p : Fin 2048) (n : Fin 11264) (r : Fin 8192) (hr : r.val = 4096 + s.val * 2048 + p.val) : seqs2 h w (ix3 s p n) = mul h w r n := by
  refine Eq.trans ?_ (product_apply h w r n)
  pointwise [seqs2]
  exact congrArg (fun r => product h w (ix2 r n)) (Fin.ext (by rw [hr]; show 4096 + (s.val * 2048 + p.val) = _; omega))

theorem conv2_sum (s : Fin 2) (p : Fin 2048) (n : Fin 11264) :
    conv2 h w f (ix3 s p n) = before2 (seqs2 h w) (ix3 s p n) * tap0 f (ix3 0 0 n) + seqs2 h w (ix3 s p n) * tap1 f (ix3 0 0 n) + after2 (seqs2 h w) (ix3 s p n) * tap2 f (ix3 0 0 n) := by
  pointwise [conv2]

theorem conv2_apply (s : Fin 2) (p : Fin 2048) (n : Fin 11264) (r : Fin 8192) (hr : r.val = 4096 + s.val * 2048 + p.val) : conv2 h w f (ix3 s p n) = mixed h w f r n := by
  rw [conv2_sum]
  refine mixed_of h w f r n p.val 2048 ?_ (by rw [hr]; omega) _ _ _ (before2_first _ s p n) (fun e => ?_) (seqs2_apply h w s p n r hr) (after2_last _ s p n) (fun e => ?_)
  · unfold length
    rw [if_neg (by omega)]
  · refine (before2_apply _ s p n e).trans (seqs2_apply h w s _ n _ ?_)
    show r.val - 1 = 4096 + s.val * 2048 + (p.val - 1)
    omega
  · refine (after2_apply _ s p n e).trans (seqs2_apply h w s _ n _ ?_)
    show (r.val + 1) % 8192 = 4096 + s.val * 2048 + (1 + p.val)
    omega

theorem silu2_apply (A : FVec Ideal S2x2048x5632 .f32) (s : Fin 2) (p : Fin 2048) (n : Fin 5632) : silu2 A (ix3 s p n) = silu (A (ix3 s p n)) := by
  pointwise [silu2]
  rfl

theorem gated2_parts (r : Fin 4096) (n : Fin 5632) : gated2 h w f (ix2 r n)
    = silu2 (extractStridedSlice S2x2048x5632 ![0, 0, 0] (conv2 h w f) slices_S2x2048x11264_S2x2048x5632_0_0_0) (ix3 ⟨r.val / 2048, by omega⟩ ⟨r.val % 2048, by omega⟩ n)
      * conv2 h w f (ix3 ⟨r.val / 2048, by omega⟩ ⟨r.val % 2048, by omega⟩ (right n)) := by
  pointwise [gated2]
  all_goals rfl

theorem left2 (A : FVec Ideal S2x2048x11264 .f32) (s : Fin 2) (p : Fin 2048) (n : Fin 5632) :
    extractStridedSlice S2x2048x5632 ![0, 0, 0] A slices_S2x2048x11264_S2x2048x5632_0_0_0 (ix3 s p n) = A (ix3 s p (left n)) := by
  pointwise []
  all_goals rfl

theorem gated2_apply (r : Fin 4096) (n : Fin 5632) (r' : Fin 8192) (hr : r'.val = 4096 + r.val) : gated2 h w f (ix2 r n) = value h w f r' n := by
  have e : r'.val = 4096 + r.val / 2048 * 2048 + r.val % 2048 := by omega
  rw [gated2_parts, silu2_apply, left2, conv2_apply h w f ⟨r.val / 2048, by omega⟩ ⟨r.val % 2048, by omega⟩ _ r' e, conv2_apply h w f ⟨r.val / 2048, by omega⟩ ⟨r.val % 2048, by omega⟩ _ r' e]
  rfl

/-- One entry of the reference's result. -/
theorem res_apply (r : Fin 8192) (n : Fin 5632) : res h w f (ix2 r n) = value h w f r n := by
  pointwise [res]
  split_ifs with e
  · exact gated1_apply h w f _ n r rfl
  all_goals exact gated2_apply h w f _ n r (by show r.val = 4096 + (r.val - 4096); omega)

end Cert.UpRefIdeal.Mm
-- ==== Proof.UpEq.lean ====
module

public import proofs.«01_k».proof.Defs
public import proofs.«01_k».proof.Proof.UpV
public import proofs.«01_k».proof.Proof.UpR
public import proofs.«01_k».proof.Proof.Gen.UpIdeal.Value
public import Idealize.ShloMosaic.Adequacy
public import Idealize.ShloMosaic.Init

@[expose] public section

set_option maxRecDepth 16384

noncomputable section

namespace Cert.UpEq

open Idealize.ShloMosaic Idealize.ShloMosaic.TcCoe Idealize.SL.Sem

/-- The reference runs and keeps its arguments. -/
theorem frame_ref : Cert.quiescent_UpRefIdeal := fun m g _ =>
  (θ_run Cert.UpRefIdeal.defs _ _).mono (fun r h => ⟨fun c => (h c).2, sem_eq_zero_of_no_sems (by decide) r.2⟩)
    (Cert.UpRefIdeal.Value.run (F := Ideal) m g)

/-- The two programs' results agree where their arguments do. -/
theorem equal (m : (ℓ : Loc UpIdeal.nD UpIdeal.τ UpIdeal.sig) → Buf (Elt Ideal) ℓ) (c : Dev UpIdeal.nD)
    (a : FVec Ideal UpRefIdeal.S8192x2048 .bf16) (w : FVec Ideal UpRefIdeal.S2x2048x11264 .f32) (f : FVec Ideal UpRefIdeal.S2x3x11264 .f32)
    (h0 : a = m (c, UpIdeal.main_arg0)) (h1 : w = m (c, UpIdeal.main_arg1)) (h2 : f = m (c, UpIdeal.main_arg2)) :
    UpRefIdeal.Mm.res a w f = ((UpIdeal.Gen.dats m 0 c).arrAt 7 UpIdeal.cfg0.N : FVec Ideal UpIdeal.S8192x5632 .bf16) := by
  funext y
  obtain ⟨r, n, rfl⟩ : ∃ (r : Fin 8192) (n : Fin 5632), y = ix2 r n := ⟨y 0, y 1, by idx_vars y⟩
  refine (UpRefIdeal.Mm.res_apply a w f r n).trans (Eq.trans ?_ (UpIdeal.Mm.arr_apply m c r n).symm)
  rw [← h0, ← h1, ← h2]
  rfl

/-- The two programs end with equal results. -/
theorem algebraic : Cert.algebraic_UpIdeal_UpRefIdeal := by
  intro m g m' g' _ ha
  refine ⟨fun c => (Cert.UpIdeal.Gen.dats m 0 c).arrAt 7 Cert.UpIdeal.cfg0.N, Cert.UpIdeal.Value.run_blocks (F := Ideal) m g, ?_⟩
  refine (θ_run Cert.UpRefIdeal.defs _ _).mono (fun r h c => ⟨(h c).1.trans ?_, (h c).2⟩) (Cert.UpRefIdeal.Value.run (F := Ideal) m' g')
  exact equal m c _ _ _ (ha c).1 (ha c).2.1 (ha c).2.2

end Cert.UpEq
-- ==== Proof.DownK.lean ====
module

public import proofs.«01_k».proof.Proof.Gen.DownIdeal.Value
public import Idealize.ShloMosaic.Lib.Pointwise
public import Idealize.ShloMosaic.Lib.Pipeline.ValueKit

@[expose] public section

set_option maxRecDepth 16384

noncomputable section

namespace Cert.DownIdeal.Mm

open Cert.DownIdeal Cert.DownIdeal.Gen Idealize.ShloMosaic Idealize.ShloMosaic.TcCoe Idealize.SL.Sem

/-- One entry of the product with the gate and the residual added. -/
def entry (A : FVec Ideal S8192x5632 .bf16) (W : FVec Ideal S5632x2048 .bf16) (X : FVec Ideal S8192x2048 .f32)
    (G : FVec Ideal S4x1x2048 .f32) (r : Fin 8192) (n : Fin 2048) : EReal :=
  X (ix2 r n) + G (ix3 ⟨r.val / 2048, by omega⟩ 0 n) * ∑ k : Fin 5632, (A (ix2 r k) : EReal) * W (ix2 k n)

/-- The whole result. -/
def whole (A : FVec Ideal S8192x5632 .bf16) (W : FVec Ideal S5632x2048 .bf16) (X : FVec Ideal S8192x2048 .f32)
    (G : FVec Ideal S4x1x2048 .f32) (y : S8192x2048.Idx) : EReal := entry A W X G (y 0) (y 1)

/-- One entry of a block. -/
theorem pay_apply (a : FVec Ideal S1024x5632 .bf16) (w : FVec Ideal S5632x512 .bf16) (x : FVec Ideal S1024x512 .f32)
    (g : FVec Ideal S1x1x512 .f32) (p : Fin 1024) (q : Fin 512) :
    k0_pay1 (F := Ideal) a w x g (ix2 p q) = (x (ix2 p q) + g (ix3 0 0 q) * ∑ k : Fin 5632, (a (ix2 p k) : EReal) * w (ix2 k q) : EReal) := by
  pointwise [k0_pay1]
  all_goals rfl

theorem out_eq (a : FVec Ideal S1024x5632 .bf16) (w : FVec Ideal S5632x512 .bf16) (g : FVec Ideal S1x1x512 .f32)
    (x : FVec Ideal S1024x512 .f32) : out0_4 (F := Ideal) a w g x = k0_pay1 (F := Ideal) a w x g := by
  unfold out0_4
  rw [View.canon_cons_unit_lit _ _ _ (by decide), View.ld_unit_lit _ _ (by decide), View.ld_unit_lit _ _ (by decide), View.ld_unit_lit _ _ (by decide), View.ld_unit_lit _ _ (by decide)]

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 8, 0, t.val % 4] ∧ win0_3.index t = ![t.val / 4, t.val % 4]
    ∧ win0_4.index t = ![t.val / 4, t.val % 4] ∧ t.val < 32 :=
  (by decide +kernel : ∀ t : Fin grid0.N, _)

def rowOf (t : Fin cfg0.N) (p : Fin 1024) : Fin 8192 := ⟨1024 * (t.val / 4) + p.val, by have := (idx t).2.2.2.2.2; omega⟩
def colOf (t : Fin cfg0.N) (q : Fin 512) : Fin 2048 := ⟨512 * (t.val % 4) + q.val, by omega⟩

theorem read0 (c : Dev nD) (t : Fin cfg0.N) (p : Fin 1024) (k : Fin 5632) :
    iblk m c 0 t (ix2 p k : S1024x5632.Idx) = V m c main_arg0 (ix2 (rowOf t p) k : S8192x5632.Idx) := by
  have e : (rowOf t p).val = 1024 * (t.val / 4) + p.val := rfl
  blk_ext [iblk, idx t, e]

theorem read1 (c : Dev nD) (t : Fin cfg0.N) (k : Fin 5632) (q : Fin 512) :
    iblk m c 1 t (ix2 k q : S5632x512.Idx) = V m c main_v2 (ix2 k (colOf t q) : S5632x2048.Idx) := by
  have e : (colOf t q).val = 512 * (t.val % 4) + q.val := rfl
  blk_ext [iblk, idx t, e]

theorem read2 (c : Dev nD) (t : Fin cfg0.N) (p : Fin 1024) (q : Fin 512) (h : (rowOf t p).val / 2048 < 4) :
    iblk m c 2 t (ix3 0 0 q : S1x1x512.Idx) = V m c main_arg3 (ix3 ⟨(rowOf t p).val / 2048, h⟩ 0 (colOf t q) : S4x1x2048.Idx) := by
  have e : (colOf t q).val = 512 * (t.val % 4) + q.val := rfl
  have e1 : (rowOf t p).val / 2048 = t.val / 8 := by show (1024 * (t.val / 4) + p.val) / 2048 = _; omega
  blk_ext [iblk, idx t, e, e1]

theorem read3 (c : Dev nD) (t : Fin cfg0.N) (p : Fin 1024) (q : Fin 512) :
    iblk m c 3 t (ix2 p q : S1024x512.Idx) = V m c main_arg2 (ix2 (rowOf t p) (colOf t q) : S8192x2048.Idx) := by
  have e : (colOf t q).val = 512 * (t.val % 4) + q.val := rfl
  have e1 : (rowOf t p).val = 1024 * (t.val / 4) + p.val := rfl
  blk_ext [iblk, idx t, e, e1]

/-- What the kernel leaves in its result array. -/
theorem arr (c : Dev nD) : (dats m 0 c).arrAt 4 cfg0.N
    = whole (V m c main_arg0) (V m c main_v2) (V m c main_arg2) (V m c main_arg3) := by
  refine (dats m 0 c).arrAt_eq_of_covers 4 _ (by decide +kernel) fun t hf y => ?_
  blk_simp
  rw [after0_4, out_eq]
  obtain ⟨p, q, rfl⟩ : ∃ (p : Fin 1024) (q : Fin 512), y = (ix2 p q : S1024x512.Idx) := ⟨y 0, y 1, by idx_vars y⟩
  refine (pay_apply _ _ _ _ p q).trans ?_
  have h0 : (((win0_4.blk t).view.emb (ix2 p q : S1024x512.Idx) : S8192x2048.Idx) 0) = rowOf t p := Fin.ext (by
    show win0_4.index t 0 * 1024 + 1 * p.val = 1024 * (t.val / 4) + p.val
    rw [(idx t).2.2.2.2.1]
    show t.val / 4 * 1024 + 1 * p.val = _; omega)
  have h1 : (((win0_4.blk t).view.emb (ix2 p q : S1024x512.Idx) : S8192x2048.Idx) 1) = colOf t q := Fin.ext (by
    show win0_4.index t 1 * 512 + 1 * q.val = 512 * (t.val % 4) + q.val
    rw [(idx t).2.2.2.2.1]
    show t.val % 4 * 512 + 1 * q.val = _; omega)
  unfold whole
  rw [h0, h1]
  refine congrArg₂ (fun a b : EReal => a + b) (read3 m c t p q) (congrArg₂ (fun a b : EReal => a * b) (read2 m c t p q _)
    (Finset.sum_congr rfl fun k _ => congrArg₂ (fun a b : EReal => a * b) (read0 m c t p k) (read1 m c t k q)))

/-- The weights of the layer, as the call takes them. -/
def weights (w : FVec Ideal S2x5632x2048 .f32) : FVec Ideal S5632x2048 .bf16 :=
  truncf .bf16 (shapeCast S5632x2048 (extractStridedSlice S1x5632x2048 ![0, 0, 0] w slices_S2x5632x2048_S1x5632x2048_0_0_0) shapeCasts_S1x5632x2048_S5632x2048) bitsLt_bf16_f32

theorem weights_apply (w : FVec Ideal S2x5632x2048 .f32) (k : Fin 5632) (n : Fin 2048) : weights w (ix2 k n) = w (ix3 0 k n) := by
  pointwise [weights]

set_option maxHeartbeats 4000000 in
theorem V_weights (c : Dev nD) : (V m c main_v2 : FVec Ideal S5632x2048 .bf16) = weights (m (c, main_arg1)) := by
  simp only [V, hostOps0]
  run_tidy
  rfl

/-- One entry of the result, over the layer's own arguments. -/
def value (a : FVec Ideal S8192x5632 .bf16) (w : FVec Ideal S2x5632x2048 .f32) (x : FVec Ideal S8192x2048 .f32) (g : FVec Ideal S4x1x2048 .f32)
    (r : Fin 8192) (n : Fin 2048) : EReal :=
  x (ix2 r n) + g (ix3 ⟨r.val / 2048, by omega⟩ 0 n) * ∑ k : Fin 5632, (a (ix2 r k) : EReal) * w (ix3 0 k n)

theorem entry_weights (a : FVec Ideal S8192x5632 .bf16) (w : FVec Ideal S2x5632x2048 .f32) (x : FVec Ideal S8192x2048 .f32)
    (g : FVec Ideal S4x1x2048 .f32) (r : Fin 8192) (n : Fin 2048) : entry a (weights w) x g r n = value a w x g r n := by
  unfold entry value
  simp only [weights_apply]

theorem arr_apply (c : Dev nD) (r : Fin 8192) (n : Fin 2048) :
    ((dats m 0 c).arrAt 4 cfg0.N : FVec Ideal S8192x2048 .f32) (ix2 r n)
    = value (m (c, main_arg0)) (m (c, main_arg1)) (m (c, main_arg2)) (m (c, main_arg3)) r n := by
  rw [arr, V_weights, V_main_arg0, V_main_arg2, V_main_arg3]
  exact entry_weights _ _ _ _ r n

end Cert.DownIdeal.Mm
-- ==== Proof.DownR.lean ====
module

public import proofs.«01_k».proof.Proof.Gen.DownRefIdeal.Run
public import Idealize.ShloMosaic.Lib.Pointwise

@[expose] public section

set_option maxRecDepth 16384

noncomputable section

namespace Cert.DownRefIdeal.Mm

open Cert.DownRefIdeal Cert.DownRefIdeal.Gen Idealize.ShloMosaic Idealize.ShloMosaic.TcCoe Idealize.SL.Sem

variable (a : FVec Ideal S8192x5632 .bf16) (w : FVec Ideal S2x5632x2048 .f32) (x : FVec Ideal S8192x2048 .f32) (g : FVec Ideal S4x1x2048 .f32)

/-- The reference's result. -/
def res : FVec Ideal S8192x2048 .f32 :=
  addf x (mulf (shapeCast _ (broadcastInDim S4x2048x2048 ![0, 1, 2] bcast_S4x1x2048_S4x2048x2048_0_1_2 g) shapeCasts_S4x2048x2048_S8192x2048)
    (Host.dotGeneral (φ₁ := .f32) (φ₂ := .f32) dot_S8192x5632_S5632x2048_S8192x2048_1_0_0_1_n_n none (extf .f32 a bitsLt_bf16_f32)
      (shapeCast _ (extractStridedSlice S1x5632x2048 ![0, 0, 0] w slices_S2x5632x2048_S1x5632x2048_0_0_0) shapeCasts_S1x5632x2048_S5632x2048)))

/-- One entry of it. -/
theorem res_apply (r : Fin 8192) (n : Fin 2048) : res a w x g (ix2 r n)
    = (x (ix2 r n) + g (ix3 ⟨r.val / 2048, by omega⟩ 0 n) * ∑ k : Fin 5632, (a (ix2 r k) : EReal) * w (ix3 0 k n) : EReal) := by
  pointwise [res]
  all_goals rfl

end Cert.DownRefIdeal.Mm
-- ==== Proof.DownEq.lean ====
module

public import proofs.«01_k».proof.Defs
public import proofs.«01_k».proof.Proof.DownK
public import proofs.«01_k».proof.Proof.DownR
public import proofs.«01_k».proof.Proof.Gen.DownIdeal.Value
public import Idealize.ShloMosaic.Adequacy
public import Idealize.ShloMosaic.Init

@[expose] public section

set_option maxRecDepth 16384

noncomputable section

namespace Cert.DownEq

open Idealize.ShloMosaic Idealize.ShloMosaic.TcCoe Idealize.SL.Sem

/-- The reference runs and keeps its arguments. -/
theorem frame_ref : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)

/-- The two programs' results agree where their arguments do. -/
theorem equal (m : (ℓ : Loc DownIdeal.nD DownIdeal.τ DownIdeal.sig) → Buf (Elt Ideal) ℓ) (c : Dev DownIdeal.nD)
    (a : FVec Ideal DownRefIdeal.S8192x5632 .bf16) (w : FVec Ideal DownRefIdeal.S2x5632x2048 .f32)
    (x : FVec Ideal DownRefIdeal.S8192x2048 .f32) (g : FVec Ideal DownRefIdeal.S4x1x2048 .f32)
    (h0 : a = m (c, DownIdeal.main_arg0)) (h1 : w = m (c, DownIdeal.main_arg1))
    (h2 : x = m (c, DownIdeal.main_arg2)) (h3 : g = m (c, DownIdeal.main_arg3)) :
    DownRefIdeal.Mm.res a w x g = ((DownIdeal.Gen.dats m 0 c).arrAt 4 DownIdeal.cfg0.N : FVec Ideal DownIdeal.S8192x2048 .f32) := by
  funext y
  obtain ⟨r, n, rfl⟩ : ∃ (r : Fin 8192) (n : Fin 2048), y = ix2 r n := ⟨y 0, y 1, by idx_vars y⟩
  refine (DownRefIdeal.Mm.res_apply a w x g r n).trans (Eq.trans ?_ (DownIdeal.Mm.arr_apply m c r n).symm)
  rw [← h0, ← h1, ← h2, ← h3]
  rfl

/-- The two programs end with equal results. -/
theorem algebraic : Cert.algebraic_DownIdeal_DownRefIdeal := by
  intro m g m' g' _ ha
  refine ⟨fun c => (Cert.DownIdeal.Gen.dats m 0 c).arrAt 4 Cert.DownIdeal.cfg0.N, Cert.DownIdeal.Value.run_blocks (F := Ideal) m g, ?_⟩
  refine (θ_run Cert.DownRefIdeal.defs _ _).mono (fun r h c => ⟨(h c).1.trans ?_, (h c).2⟩) (Cert.DownRefIdeal.Value.run (F := Ideal) m' g')
  exact equal m c _ _ _ _ (ha c).1 (ha c).2.1 (ha c).2.2.1 (ha c).2.2.2

end Cert.DownEq
-- ==== Proof.MixK.lean ====
module

public import proofs.«01_k».proof.Proof.Gen.MixIdeal.Value
public import Idealize.ShloMosaic.Lib.Pointwise
public import Idealize.ShloMosaic.Lib.Pipeline.ValueKit

@[expose] public section

set_option maxRecDepth 16384

noncomputable section

namespace Cert.MixIdeal.Mm

open Cert.MixIdeal Cert.MixIdeal.Gen Idealize.ShloMosaic Idealize.ShloMosaic.TcCoe Idealize.ShloMosaic.Tactic Idealize.SL.Sem

section
variable (c : Dev nD) (i : grid0.Coords) (arg2 : Memref sig .tc .vmem S1024x2048 .bf16) (harg2 : arg2.IsWhole)
  (arg3 : Memref sig .tc .vmem S1x2048x768 .bf16) (harg3 : arg3.IsWhole) (arg4 : Memref sig .tc .vmem S1x2048x128 .bf16) (harg4 : arg4.IsWhole)
  (arg5 : Memref sig .tc .vmem S1024x768 .bf16) (harg5 : arg5.IsWhole) (arg6 : Memref sig .tc .vmem S2048x768 .bf16) (harg6 : arg6.IsWhole)
  (x0 : Vec Ideal S1024x2048 .bf16) (x1 : Vec Ideal S1x2048x768 .bf16) (x2 : Vec Ideal S1x2048x128 .bf16) (xs : Vec Ideal S2048x768 .bf16)

/-- What the first point of a run leaves in the carried weights. -/
theorem fill_eq (h : cond0_0 i) : sout0_A_0 (F := Ideal) c i arg2 harg2 arg3 harg3 arg4 harg4 arg5 harg5 arg6 harg6 h x0 x1 x2 = k0_pay1 (F := Ideal) x1 := by
  unfold sout0_A_0 kernelRun0_A
  frame_out

/-- What the first point of a run leaves in the result's block. -/
theorem first_eq (h : cond0_0 i) : out0_A_3 (F := Ideal) c i arg2 harg2 arg3 harg3 arg4 harg4 arg5 harg5 arg6 harg6 h x0 x1 x2
    = k0_pay2 (F := Ideal) x0 (k0_pay1 (F := Ideal) x1) := by
  unfold out0_A_3 kernelRun0_A
  frame_out

/-- What a later point leaves in the result's block, from the carried weights. -/
theorem later_eq (h : ¬cond0_0 i) : out0_B_3 (F := Ideal) c i arg2 harg2 arg3 harg3 arg4 harg4 arg5 harg5 arg6 harg6 h x0 x1 x2 xs
    = k0_pay2 (F := Ideal) x0 xs := by
  unfold out0_B_3 kernelRun0_B
  frame_out
end

/-- One entry of a block of weights. -/
theorem pay1_apply (x : FVec Ideal S1x2048x768 .bf16) (k : Fin 2048) (q : Fin 768) : k0_pay1 (F := Ideal) x (ix2 k q) = x (ix3 0 k q) := by
  pointwise [k0_pay1]

/-- One entry of a block of the result. -/
theorem pay2_apply (a : FVec Ideal S1024x2048 .bf16) (w : FVec Ideal S2048x768 .bf16) (p : Fin 1024) (q : Fin 768) :
    k0_pay2 (F := Ideal) a w (ix2 p q) = (∑ k : Fin 2048, (a (ix2 p k) : EReal) * w (ix2 k q) : EReal) := by
  pointwise [k0_pay2]
  all_goals rfl

variable (m : (ℓ : Loc nD τ sig) → Buf (Elt Ideal) ℓ)

theorem idx : ∀ t : Fin cfg0.N, win0_0.index t = ![t.val % 8, 0] ∧ win0_1.index t = ![0, 0, t.val / 8]
    ∧ win0_3.index t = ![t.val % 8, t.val / 8] ∧ t.val < 48 :=
  (by decide +kernel : ∀ t : Fin grid0.N, _)

def rowOf (t : Fin cfg0.N) (p : Fin 1024) : Fin 8192 := ⟨1024 * (t.val % 8) + p.val, by omega⟩
def colOf (t : Fin cfg0.N) (q : Fin 768) : Fin 4608 := ⟨768 * (t.val / 8) + q.val, by have := (idx t).2.2.2; omega⟩
def wide (n : Fin 4608) : Fin 12320 := ⟨n.val, by omega⟩

theorem read0 (c : Dev nD) (t : Fin cfg0.N) (p : Fin 1024) (k : Fin 2048) :
    iblk m c 0 t (ix2 p k : S1024x2048.Idx) = V m c main_arg0 (ix2 (rowOf t p) k : S8192x2048.Idx) := by
  have e : (rowOf t p).val = 1024 * (t.val % 8) + p.val := rfl
  blk_ext [iblk, idx t, e]

theorem read1 (c : Dev nD) (t : Fin cfg0.N) (k : Fin 2048) (q : Fin 768) :
    X0_1 m c t (ix3 0 k q : S1x2048x768.Idx) = V m c main_v0 (ix3 0 k (wide (colOf t q)) : S2x2048x12320.Idx) := by
  have e : (wide (colOf t q)).val = 768 * (t.val / 8) + q.val := rfl
  unfold X0_1 Pipeline.Window.fill
  rw [dif_pos (moved0_1 t _)]
  blk_ext [iblk, idx t, e]

/-- The carried weights after a point, entry by entry: the run's own columns of the weights. -/
theorem carried (c : Dev nD) : ∀ (j : ℕ) (n : ℕ) (hn : n < cfg0.N), n % 8 = j → ∀ (k : Fin 2048) (q : Fin 768),
    (outsAt0 m c n hn).2 (ix2 k q : S2048x768.Idx) = V m c main_v0 (ix3 0 k (wide (colOf ⟨n, hn⟩ q)) : S2x2048x12320.Idx)
  | 0, n, hn, h, k, q => by
    have e := outsAt0_A m c ⟨n, hn⟩ h
    dsimp only at e
    rw [e]
    dsimp only
    rw [fill_eq]
    exact (pay1_apply _ k q).trans (read1 m c ⟨n, hn⟩ k q)
  | j + 1, n, hn, h, k, q => by
    have e := outsAt0_B m c ⟨n, hn⟩ (show ¬n % 8 = 0 by omega)
    dsimp only at e
    rw [e]
    dsimp only [sout0_B_0]
    refine (carried c j (n - 1) _ (by omega) k q).trans ?_
    refine congrArg (fun u => V m c main_v0 (ix3 0 k u : S2x2048x12320.Idx)) (Fin.ext ?_)
    show 768 * ((n - 1) / 8) + q.val = 768 * (n / 8) + q.val
    omega

/-- One entry of the product. -/
def entry (A : FVec Ideal S8192x2048 .bf16) (W : FVec Ideal S2x2048x12320 .bf16) (r : Fin 8192) (n : Fin 4608) : EReal :=
  ∑ k : Fin 2048, (A (ix2 r k) : EReal) * W (ix3 0 k (wide n))

def whole (A : FVec Ideal S8192x2048 .bf16) (W : FVec Ideal S2x2048x12320 .bf16) (y : S8192x4608.Idx) : EReal := entry A W (y 0) (y 1)

/-- What a point leaves in the result's block, entry by entry. -/
theorem block (c : Dev nD) (t : Fin cfg0.N) (p : Fin 1024) (q : Fin 768) :
    (outsAt0 m c t.val t.isLt).1 (ix2 p q : S1024x768.Idx) = entry (V m c main_arg0) (V m c main_v0) (rowOf t p) (colOf t q) := by
  by_cases h : t.val % 8 = 0
  · rw [outsAt0_A m c t h]
    dsimp only
    rw [first_eq]
    refine (pay2_apply _ _ p q).trans (Finset.sum_congr rfl fun k _ => ?_)
    exact congrArg₂ (fun a b : EReal => a * b) (read0 m c t p k) ((pay1_apply _ k q).trans (read1 m c t k q))
  · rw [outsAt0_B m c t h]
    dsimp only
    rw [later_eq]
    refine (pay2_apply _ _ p q).trans (Finset.sum_congr rfl fun k _ => ?_)
    refine congrArg₂ (fun a b : EReal => a * b) (read0 m c t p k) ((carried m c ((t.val - 1) % 8) (t.val - 1) _ rfl k q).trans ?_)
    refine congrArg (fun u => V m c main_v0 (ix3 0 k u : S2x2048x12320.Idx)) (Fin.ext ?_)
    show 768 * ((t.val - 1) / 8) + q.val = 768 * (t.val / 8) + q.val
    omega

/-- What the kernel leaves in its result array. -/
theorem arr (c : Dev nD) : (dats m 0 c).arrAt 3 cfg0.N = whole (V m c main_arg0) (V m c main_v0) := by
  refine (dats m 0 c).arrAt_eq_of_covers 3 _ (by decide +kernel) fun t hf y => ?_
  blk_simp
  rw [after0_3]
  obtain ⟨p, q, rfl⟩ : ∃ (p : Fin 1024) (q : Fin 768), y = (ix2 p q : S1024x768.Idx) := ⟨y 0, y 1, by idx_vars y⟩
  refine (block m c t p q).trans ?_
  have h0 : (((win0_3.blk t).view.emb (ix2 p q : S1024x768.Idx) : S8192x4608.Idx) 0) = rowOf t p := Fin.ext (by
    show win0_3.index t 0 * 1024 + 1 * p.val = 1024 * (t.val % 8) + p.val
    rw [(idx t).2.2.1]
    show t.val % 8 * 1024 + 1 * p.val = _; omega)
  have h1 : (((win0_3.blk t).view.emb (ix2 p q : S1024x768.Idx) : S8192x4608.Idx) 1) = colOf t q := Fin.ext (by
    show win0_3.index t 1 * 768 + 1 * q.val = 768 * (t.val / 8) + q.val
    rw [(idx t).2.2.1]
    show t.val / 8 * 768 + 1 * q.val = _; omega)
  unfold whole
  rw [h0, h1]

theorem V_weights (c : Dev nD) : (V m c main_v0 : FVec Ideal S2x2048x12320 .bf16) = truncf (F := Ideal) .bf16 (m (c, main_arg1) : FVec Ideal S2x2048x12320 .f32) bitsLt_bf16_f32 := by
  simp only [V, hostOps0]
  run_tidy

/-- One entry of the result, over the layer's own arguments. -/
def value (a : FVec Ideal S8192x2048 .bf16) (w : FVec Ideal S2x2048x12320 .f32) (r : Fin 8192) (n : Fin 4608) : EReal :=
  ∑ k : Fin 2048, (a (ix2 r k) : EReal) * w (ix3 0 k (wide n))

theorem arr_apply (c : Dev nD) (r : Fin 8192) (n : Fin 4608) :
    ((dats m 0 c).arrAt 3 cfg0.N : FVec Ideal S8192x4608 .bf16) (ix2 r n) = value (m (c, main_arg0)) (m (c, main_arg1)) r n := by
  rw [arr, V_weights, V_main_arg0]
  rfl

end Cert.MixIdeal.Mm
-- ==== Proof.MixR.lean ====
module

public import proofs.«01_k».proof.Proof.Gen.MixRefIdeal.Run
public import Idealize.ShloMosaic.Lib.Pointwise

@[expose] public section

set_option maxRecDepth 16384

noncomputable section

namespace Cert.MixRefIdeal.Mm

open Cert.MixRefIdeal Cert.MixRefIdeal.Gen Idealize.ShloMosaic Idealize.ShloMosaic.TcCoe Idealize.SL.Sem

variable (a : FVec Ideal S8192x2048 .bf16) (w : FVec Ideal S2x2048x12320 .f32)

/-- The reference's result. -/
def res : FVec Ideal S8192x4608 .bf16 :=
  truncf .bf16 (extractStridedSlice S8192x4608 ![0, 0] (Host.dotGeneral (φ₁ := .f32) (φ₂ := .f32) dot_S8192x2048_S2048x12320_S8192x12320_1_0_0_1_n_n none (extf .f32 a bitsLt_bf16_f32)
    (shapeCast _ (extractStridedSlice S1x2048x12320 ![0, 0, 0] w slices_S2x2048x12320_S1x2048x12320_0_0_0) shapeCasts_S1x2048x12320_S2048x12320)) slices_S8192x12320_S8192x4608_0_0) bitsLt_bf16_f32

/-- One entry of it. -/
theorem res_apply (r : Fin 8192) (n : Fin 4608) : res a w (ix2 r n)
    = (∑ k : Fin 2048, (a (ix2 r k) : EReal) * w (ix3 0 k ⟨n.val, by omega⟩) : EReal) := by
  pointwise [res]
  all_goals rfl

end Cert.MixRefIdeal.Mm
-- ==== Proof.MixEq.lean ====
module

public import proofs.«01_k».proof.Defs
public import proofs.«01_k».proof.Proof.MixK
public import proofs.«01_k».proof.Proof.MixR
public import proofs.«01_k».proof.Proof.Gen.MixIdeal.Value
public import Idealize.ShloMosaic.Adequacy
public import Idealize.ShloMosaic.Init

@[expose] public section

set_option maxRecDepth 16384

noncomputable section

namespace Cert.MixEq

open Idealize.ShloMosaic Idealize.ShloMosaic.TcCoe Idealize.SL.Sem

/-- The reference runs and keeps its arguments. -/
theorem frame_ref : Cert.quiescent_MixRefIdeal := fun m g _ =>
  (θ_run Cert.MixRefIdeal.defs _ _).mono (fun r h => ⟨fun c => (h c).2, sem_eq_zero_of_no_sems (by decide) r.2⟩)
    (Cert.MixRefIdeal.Value.run (F := Ideal) m g)

/-- The two programs' results agree where their arguments do. -/
theorem equal (m : (ℓ : Loc MixIdeal.nD MixIdeal.τ MixIdeal.sig) → Buf (Elt Ideal) ℓ) (c : Dev MixIdeal.nD)
    (a : FVec Ideal MixRefIdeal.S8192x2048 .bf16) (w : FVec Ideal MixRefIdeal.S2x2048x12320 .f32)
    (h0 : a = m (c, MixIdeal.main_arg0)) (h1 : w = m (c, MixIdeal.main_arg1)) :
    MixRefIdeal.Mm.res a w = ((MixIdeal.Gen.dats m 0 c).arrAt 3 MixIdeal.cfg0.N : FVec Ideal MixIdeal.S8192x4608 .bf16) := by
  funext y
  obtain ⟨r, n, rfl⟩ : ∃ (r : Fin 8192) (n : Fin 4608), y = ix2 r n := ⟨y 0, y 1, by idx_vars y⟩
  refine (MixRefIdeal.Mm.res_apply a w r n).trans (Eq.trans ?_ (MixIdeal.Mm.arr_apply m c r n).symm)
  rw [← h0, ← h1]
  rfl

/-- The two programs end with equal results. -/
theorem algebraic : Cert.algebraic_MixIdeal_MixRefIdeal := by
  intro m g m' g' _ ha
  refine ⟨fun c => (Cert.MixIdeal.Gen.dats m 0 c).arrAt 3 Cert.MixIdeal.cfg0.N, Cert.MixIdeal.Value.run_blocks (F := Ideal) m g, ?_⟩
  refine (θ_run Cert.MixRefIdeal.defs _ _).mono (fun r h c => ⟨(h c).1.trans ?_, (h c).2⟩) (Cert.MixRefIdeal.Value.run (F := Ideal) m' g')
  exact equal m c _ _ (ha c).1 (ha c).2

end Cert.MixEq
-- ==== Proof.OutK.lean ====
module

public import proofs.«01_k».proof.Proof.Gen.OutIdeal.Value
public import Idealize.ShloMosaic.Lib.Pointwise
public import Idealize.ShloMosaic.Lib.Pipeline.ValueKit

@[expose] public section

set_option maxRecDepth 16384

noncomputable section

namespace Cert.OutIdeal.Mm

open Cert.OutIdeal Cert.OutIdeal.Gen Idealize.ShloMosaic Idealize.ShloMosaic.TcCoe Idealize.SL.Sem

/-- One entry of the product with the gate and the residual added. -/
def entry (A : FVec Ideal S8192x2048 .bf16) (W : FVec Ideal S2048x2048 .bf16) (X : FVec Ideal S8192x2048 .f32)
    (G : FVec Ideal S4x1x2048 .f32) (r : Fin 8192) (n : Fin 2048) : EReal :=
  X (ix2 r n) + G (ix3 ⟨r.val / 2048, by omega⟩ 0 n) * ∑ k : Fin 2048, (A (ix2 r k) : EReal) * W (ix2 k n)

/-- The whole result. -/
def whole (A : FVec Ideal S8192x2048 .bf16) (W : FVec Ideal S2048x2048 .bf16) (X : FVec Ideal S8192x2048 .f32)
    (G : FVec Ideal S4x1x2048 .f32) (y : S8192x2048.Idx) : EReal := entry A W X G (y 0) (y 1)

/-- One entry of a block. -/
theorem pay_apply (a : FVec Ideal S1024x2048 .bf16) (w : FVec Ideal S2048x1024 .bf16) (x : FVec Ideal S1024x1024 .f32)
    (g : FVec Ideal S1x1x1024 .f32) (p : Fin 1024) (q : Fin 1024) :
    k0_pay1 (F := Ideal) a w x g (ix2 p q) = (x (ix2 p q) + g (ix3 0 0 q) * ∑ k : Fin 2048, (a (ix2 p k) : EReal) * w (ix2 k q) : EReal) := by
  pointwise [k0_pay1]
  all_goals rfl

theorem out_eq (a : FVec Ideal S1024x2048 .bf16) (w : FVec Ideal S2048x1024 .bf16) (g : FVec Ideal S1x1x1024 .f32)
    (x : FVec Ideal S1024x1024 .f32) : out0_4 (F := Ideal) a w g x = k0_pay1 (F := Ideal) a w x g := by
  unfold out0_4
  rw [View.canon_cons_unit_lit _ _ _ (by decide), View.ld_unit_lit _ _ (by decide), View.ld_unit_lit _ _ (by decide), View.ld_unit_lit _ _ (by decide), View.ld_unit_lit _ _ (by decide)]

variable (m : (ℓ : Loc nD τ sig) → Buf (Elt Ideal) ℓ)

theorem idx : ∀ t : Fin cfg0.N, win0_0.index t = ![t.val / 2, 0] ∧ win0_1.index t = ![0, t.val % 2]
    ∧ win0_2.index t = ![t.val / 4, 0, t.val % 2] ∧ win0_3.index t = ![t.val / 2, t.val % 2]
    ∧ win0_4.index t = ![t.val / 2, t.val % 2] ∧ t.val < 16 :=
  (by decide +kernel : ∀ t : Fin grid0.N, _)

def rowOf (t : Fin cfg0.N) (p : Fin 1024) : Fin 8192 := ⟨1024 * (t.val / 2) + p.val, by have := (idx t).2.2.2.2.2; omega⟩
def colOf (t : Fin cfg0.N) (q : Fin 1024) : Fin 2048 := ⟨1024 * (t.val % 2) + q.val, by omega⟩

theorem read0 (c : Dev nD) (t : Fin cfg0.N) (p : Fin 1024) (k : Fin 2048) :
    iblk m c 0 t (ix2 p k : S1024x2048.Idx) = V m c main_arg0 (ix2 (rowOf t p) k : S8192x2048.Idx) := by
  have e : (rowOf t p).val = 1024 * (t.val / 2) + p.val := rfl
  blk_ext [iblk, idx t, e]

theorem read1 (c : Dev nD) (t : Fin cfg0.N) (k : Fin 2048) (q : Fin 1024) :
    iblk m c 1 t (ix2 k q : S2048x1024.Idx) = V m c main_v2 (ix2 k (colOf t q) : S2048x2048.Idx) := by
  have e : (colOf t q).val = 1024 * (t.val % 2) + q.val := rfl
  blk_ext [iblk, idx t, e]

theorem read2 (c : Dev nD) (t : Fin cfg0.N) (p : Fin 1024) (q : Fin 1024) (h : (rowOf t p).val / 2048 < 4) :
    iblk m c 2 t (ix3 0 0 q : S1x1x1024.Idx) = V m c main_arg3 (ix3 ⟨(rowOf t p).val / 2048, h⟩ 0 (colOf t q) : S4x1x2048.Idx) := by
  have e : (colOf t q).val = 1024 * (t.val % 2) + q.val := rfl
  have e1 : (rowOf t p).val / 2048 = t.val / 4 := by show (1024 * (t.val / 2) + p.val) / 2048 = _; omega
  blk_ext [iblk, idx t, e, e1]

theorem read3 (c : Dev nD) (t : Fin cfg0.N) (p : Fin 1024) (q : Fin 1024) :
    iblk m c 3 t (ix2 p q : S1024x1024.Idx) = V m c main_arg2 (ix2 (rowOf t p) (colOf t q) : S8192x2048.Idx) := by
  have e : (colOf t q).val = 1024 * (t.val % 2) + q.val := rfl
  have e1 : (rowOf t p).val = 1024 * (t.val / 2) + p.val := rfl
  blk_ext [iblk, idx t, e, e1]

/-- What the kernel leaves in its result array. -/
theorem arr (c : Dev nD) : (dats m 0 c).arrAt 4 cfg0.N
    = whole (V m c main_arg0) (V m c main_v2) (V m c main_arg2) (V m c main_arg3) := by
  refine (dats m 0 c).arrAt_eq_of_covers 4 _ (by decide +kernel) fun t hf y => ?_
  blk_simp
  rw [after0_4, out_eq]
  obtain ⟨p, q, rfl⟩ : ∃ (p : Fin 1024) (q : Fin 1024), y = (ix2 p q : S1024x1024.Idx) := ⟨y 0, y 1, by idx_vars y⟩
  refine (pay_apply _ _ _ _ p q).trans ?_
  have h0 : (((win0_4.blk t).view.emb (ix2 p q : S1024x1024.Idx) : S8192x2048.Idx) 0) = rowOf t p := Fin.ext (by
    show win0_4.index t 0 * 1024 + 1 * p.val = 1024 * (t.val / 2) + p.val
    rw [(idx t).2.2.2.2.1]
    show t.val / 2 * 1024 + 1 * p.val = _; omega)
  have h1 : (((win0_4.blk t).view.emb (ix2 p q : S1024x1024.Idx) : S8192x2048.Idx) 1) = colOf t q := Fin.ext (by
    show win0_4.index t 1 * 1024 + 1 * q.val = 1024 * (t.val % 2) + q.val
    rw [(idx t).2.2.2.2.1]
    show t.val % 2 * 1024 + 1 * q.val = _; omega)
  unfold whole
  rw [h0, h1]
  refine congrArg₂ (fun a b : EReal => a + b) (read3 m c t p q) (congrArg₂ (fun a b : EReal => a * b) (read2 m c t p q _)
    (Finset.sum_congr rfl fun k _ => congrArg₂ (fun a b : EReal => a * b) (read0 m c t p k) (read1 m c t k q)))

/-- The weights of the layer, as the call takes them. -/
def weights (w : FVec Ideal S2x2048x2048 .f32) : FVec Ideal S2048x2048 .bf16 :=
  truncf .bf16 (shapeCast S2048x2048 (extractStridedSlice S1x2048x2048 ![1, 0, 0] w slices_S2x2048x2048_S1x2048x2048_1_0_0) shapeCasts_S1x2048x2048_S2048x2048) bitsLt_bf16_f32

theorem weights_apply (w : FVec Ideal S2x2048x2048 .f32) (k : Fin 2048) (n : Fin 2048) : weights w (ix2 k n) = w (ix3 1 k n) := by
  pointwise [weights]

set_option maxHeartbeats 4000000 in
theorem V_weights (c : Dev nD) : (V m c main_v2 : FVec Ideal S2048x2048 .bf16) = weights (m (c, main_arg1)) := by
  simp only [V, hostOps0]
  run_tidy
  rfl

/-- One entry of the result, over the layer's own arguments. -/
def value (a : FVec Ideal S8192x2048 .bf16) (w : FVec Ideal S2x2048x2048 .f32) (x : FVec Ideal S8192x2048 .f32) (g : FVec Ideal S4x1x2048 .f32)
    (r : Fin 8192) (n : Fin 2048) : EReal :=
  x (ix2 r n) + g (ix3 ⟨r.val / 2048, by omega⟩ 0 n) * ∑ k : Fin 2048, (a (ix2 r k) : EReal) * w (ix3 1 k n)

theorem entry_weights (a : FVec Ideal S8192x2048 .bf16) (w : FVec Ideal S2x2048x2048 .f32) (x : FVec Ideal S8192x2048 .f32)
    (g : FVec Ideal S4x1x2048 .f32) (r : Fin 8192) (n : Fin 2048) : entry a (weights w) x g r n = value a w x g r n := by
  unfold entry value
  simp only [weights_apply]

theorem arr_apply (c : Dev nD) (r : Fin 8192) (n : Fin 2048) :
    ((dats m 0 c).arrAt 4 cfg0.N : FVec Ideal S8192x2048 .f32) (ix2 r n)
    = value (m (c, main_arg0)) (m (c, main_arg1)) (m (c, main_arg2)) (m (c, main_arg3)) r n := by
  rw [arr, V_weights, V_main_arg0, V_main_arg2, V_main_arg3]
  exact entry_weights _ _ _ _ r n

end Cert.OutIdeal.Mm
-- ==== Proof.OutR.lean ====
module

public import proofs.«01_k».proof.Proof.Gen.OutRefIdeal.Run
public import Idealize.ShloMosaic.Lib.Pointwise

@[expose] public section

set_option maxRecDepth 16384

noncomputable section

namespace Cert.OutRefIdeal.Mm

open Cert.OutRefIdeal Cert.OutRefIdeal.Gen Idealize.ShloMosaic Idealize.ShloMosaic.TcCoe Idealize.SL.Sem

variable (a : FVec Ideal S8192x2048 .bf16) (w : FVec Ideal S2x2048x2048 .f32) (x : FVec Ideal S8192x2048 .f32) (g : FVec Ideal S4x1x2048 .f32)

/-- The reference's result. -/
def res : FVec Ideal S8192x2048 .f32 :=
  addf x (mulf (shapeCast _ (broadcastInDim S4x2048x2048 ![0, 1, 2] bcast_S4x1x2048_S4x2048x2048_0_1_2 g) shapeCasts_S4x2048x2048_S8192x2048)
    (Host.dotGeneral (φ₁ := .f32) (φ₂ := .f32) dot_S8192x2048_S2048x2048_S8192x2048_1_0_0_1_n_n none (extf .f32 a bitsLt_bf16_f32)
      (shapeCast _ (extractStridedSlice S1x2048x2048 ![1, 0, 0] w slices_S2x2048x2048_S1x2048x2048_1_0_0) shapeCasts_S1x2048x2048_S2048x2048)))

/-- One entry of it. -/
theorem res_apply (r : Fin 8192) (n : Fin 2048) : res a w x g (ix2 r n)
    = (x (ix2 r n) + g (ix3 ⟨r.val / 2048, by omega⟩ 0 n) * ∑ k : Fin 2048, (a (ix2 r k) : EReal) * w (ix3 1 k n) : EReal) := by
  pointwise [res]
  all_goals rfl

end Cert.OutRefIdeal.Mm
-- ==== Proof.OutEq.lean ====
module

public import proofs.«01_k».proof.Defs
public import proofs.«01_k».proof.Proof.OutK
public import proofs.«01_k».proof.Proof.OutR
public import proofs.«01_k».proof.Proof.Gen.OutIdeal.Value
public import Idealize.ShloMosaic.Adequacy
public import Idealize.ShloMosaic.Init

@[expose] public section

set_option maxRecDepth 16384

noncomputable section

namespace Cert.OutEq

open Idealize.ShloMosaic Idealize.ShloMosaic.TcCoe Idealize.SL.Sem

/-- The reference runs and keeps its arguments. -/
theorem frame_ref : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

/-- The two programs' results agree where their arguments do. -/
theorem equal (m : (ℓ : Loc OutIdeal.nD OutIdeal.τ OutIdeal.sig) → Buf (Elt Ideal) ℓ) (c : Dev OutIdeal.nD)
    (a : FVec Ideal OutRefIdeal.S8192x2048 .bf16) (w : FVec Ideal OutRefIdeal.S2x2048x2048 .f32)
    (x : FVec Ideal OutRefIdeal.S8192x2048 .f32) (g : FVec Ideal OutRefIdeal.S4x1x2048 .f32)
    (h0 : a = m (c, OutIdeal.main_arg0)) (h1 : w = m (c, OutIdeal.main_arg1))
    (h2 : x = m (c, OutIdeal.main_arg2)) (h3 : g = m (c, OutIdeal.main_arg3)) :
    OutRefIdeal.Mm.res a w x g = ((OutIdeal.Gen.dats m 0 c).arrAt 4 OutIdeal.cfg0.N : FVec Ideal OutIdeal.S8192x2048 .f32) := by
  funext y
  obtain ⟨r, n, rfl⟩ : ∃ (r : Fin 8192) (n : Fin 2048), y = ix2 r n := ⟨y 0, y 1, by idx_vars y⟩
  refine (OutRefIdeal.Mm.res_apply a w x g r n).trans (Eq.trans ?_ (OutIdeal.Mm.arr_apply m c r n).symm)
  rw [← h0, ← h1, ← h2, ← h3]
  rfl

/-- The two programs end with equal results. -/
theorem algebraic : Cert.algebraic_OutIdeal_OutRefIdeal := by
  intro m g m' g' _ ha
  refine ⟨fun c => (Cert.OutIdeal.Gen.dats m 0 c).arrAt 4 Cert.OutIdeal.cfg0.N, Cert.OutIdeal.Value.run_blocks (F := Ideal) m g, ?_⟩
  refine (θ_run Cert.OutRefIdeal.defs _ _).mono (fun r h c => ⟨(h c).1.trans ?_, (h c).2⟩) (Cert.OutRefIdeal.Value.run (F := Ideal) m' g')
  exact equal m c _ _ _ _ (ha c).1 (ha c).2.1 (ha c).2.2.1 (ha c).2.2.2

end Cert.OutEq
-- ==== Proof.QkvK.lean ====
module

public import proofs.«01_k».proof.Proof.Gen.QkvIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.QkvIdeal.Mm

open Cert.QkvIdeal Cert.QkvIdeal.Gen Idealize.ShloMosaic Idealize.ShloMosaic.TcCoe Idealize.ShloMosaic.Tactic Idealize.SL.Sem

/-- The columns of the second block that the kernel reads. -/
abbrev ldL (x : Vec Ideal S1x2048x128 .bf16) : FVec Ideal S1x2048x32 .bf16 :=
  View.ld (Val := Elt Ideal) (S := S1x2048x128) (e' := .bf16) x (Rect.unit (s := S1x2048x128) ![0, 0, 0] S1x2048x32.size inb_S1x2048x128_S1x2048x32_0_0_0)

section
variable (c : Dev nD) (i : grid0.Coords) (arg2 : Memref sig .tc .vmem S1024x2048 .bf16) (harg2 : arg2.IsWhole)
  (arg3 : Memref sig .tc .vmem S1x2048x768 .bf16) (harg3 : arg3.IsWhole) (arg4 : Memref sig .tc .vmem S1x2048x128 .bf16) (harg4 : arg4.IsWhole)
  (arg5 : Memref sig .tc .vmem S1024x768 .f32) (harg5 : arg5.IsWhole) (arg6 : Memref sig .tc .vmem S2048x768 .bf16) (harg6 : arg6.IsWhole)
  (x0 : Vec Ideal S1024x2048 .bf16) (x1 : Vec Ideal S1x2048x768 .bf16) (x2 : Vec Ideal S1x2048x128 .bf16) (xs : Vec Ideal S2048x768 .bf16)

/-- What the first point of a run leaves in the carried weights. -/
theorem fill_eq (h : cond0_0 i) : sout0_A_0 (F := Ideal) c i arg2 harg2 arg3 harg3 arg4 harg4 arg5 harg5 arg6 harg6 h x0 x1 x2 = k0_pay1 (F := Ideal) x1 (ldL x2) := by
  unfold sout0_A_0 kernelRun0_A
  frame_out

/-- What the first point of a run leaves in the result's block. -/
theorem first_eq (h : cond0_0 i) : out0_A_3 (F := Ideal) c i arg2 harg2 arg3 harg3 arg4 harg4 arg5 harg5 arg6 harg6 h x0 x1 x2
    = k0_pay2 (F := Ideal) x0 (k0_pay1 (F := Ideal) x1 (ldL x2)) := by
  unfold out0_A_3 kernelRun0_A
  frame_out

/-- What a later point leaves in the result's block, from the carried weights. -/
theorem later_eq (h : ¬cond0_0 i) : out0_B_3 (F := Ideal) c i arg2 harg2 arg3 harg3 arg4 harg4 arg5 harg5 arg6 harg6 h x0 x1 x2 xs
    = k0_pay2 (F := Ideal) x0 xs := by
  unfold out0_B_3 kernelRun0_B
  frame_out
end

theorem ldL_apply (x : Vec Ideal S1x2048x128 .bf16) (k : Fin 2048) (q : Fin 32) : ldL x (ix3 0 k q) = x (ix3 0 k ⟨q.val, by omega⟩) :=
  congrArg x (funext fun a => Fin.ext (by
    fin_cases a
    · rfl
    · show 0 + 1 * k.val = k.val; omega
    · show 0 + 1 * q.val = q.val; omega))

/-- One entry of a block of weights: 32 columns on in the first block, then in the second. -/
theorem pay1_apply (x : FVec Ideal S1x2048x768 .bf16) (z : FVec Ideal S1x2048x128 .bf16) (k : Fin 2048) (q : Fin 768) :
    k0_pay1 (F := Ideal) x (ldL z) (ix2 k q) = if h : q.val < 736 then x (ix3 0 k ⟨32 + q.val, by omega⟩) else z (ix3 0 k ⟨q.val - 736, by omega⟩) := by
  have e : ∀ u : Fin 32, ldL z (ix3 0 k u) = z (ix3 0 k ⟨u.val, by omega⟩) := ldL_apply z k
  generalize ldL z = z' at e ⊢
  pointwise [k0_pay1]
  split_ifs
  · rfl
  all_goals exact e _

/-- One entry of a block of the result. -/
theorem pay2_apply (a : FVec Ideal S1024x2048 .bf16) (w : FVec Ideal S2048x768 .bf16) (p : Fin 1024) (q : Fin 768) :
    k0_pay2 (F := Ideal) a w (ix2 p q) = (∑ k : Fin 2048, (a (ix2 p k) : EReal) * w (ix2 k q) : EReal) := by
  pointwise [k0_pay2]
  all_goals rfl

variable (m : (ℓ : Loc nD τ sig) → Buf (Elt Ideal) ℓ)

theorem idx : ∀ t : Fin cfg0.N, win0_0.index t = ![t.val % 8, 0] ∧ win0_1.index t = ![0, 0, t.val / 8 + 6] ∧ win0_2.index t = ![0, 0, (t.val / 8 + 7) * 6]
    ∧ win0_3.index t = ![t.val % 8, t.val / 8] ∧ t.val < 16 :=
  (by decide +kernel : ∀ t : Fin grid0.N, _)

def rowOf (t : Fin cfg0.N) (p : Fin 1024) : Fin 8192 := ⟨1024 * (t.val % 8) + p.val, by omega⟩
def colOf (t : Fin cfg0.N) (q : Fin 768) : Fin 1536 := ⟨768 * (t.val / 8) + q.val, by have := (idx t).2.2.2.2; omega⟩
def wide (n : Fin 1536) : Fin 12320 := ⟨4640 + n.val, by omega⟩

theorem read0 (c : Dev nD) (t : Fin cfg0.N) (p : Fin 1024) (k : Fin 2048) :
    iblk m c 0 t (ix2 p k : S1024x2048.Idx) = V m c main_arg0 (ix2 (rowOf t p) k : S8192x2048.Idx) := by
  have e : (rowOf t p).val = 1024 * (t.val % 8) + p.val := rfl
  blk_ext [iblk, idx t, e]

theorem read1 (c : Dev nD) (t : Fin cfg0.N) (k : Fin 2048) (q : Fin 768) (n : Fin 12320) (e : n.val = 768 * (t.val / 8 + 6) + q.val) :
    X0_1 m c t (ix3 0 k q : S1x2048x768.Idx) = V m c main_v0 (ix3 0 k n : S2x2048x12320.Idx) := by
  unfold X0_1 Pipeline.Window.fill
  rw [dif_pos (moved0_1 t _)]
  blk_ext [iblk, idx t, e]

theorem read2 (c : Dev nD) (t : Fin cfg0.N) (k : Fin 2048) (q : Fin 128) (n : Fin 12320) (e : n.val = 128 * ((t.val / 8 + 7) * 6) + q.val) :
    X0_2 m c t (ix3 0 k q : S1x2048x128.Idx) = V m c main_v0 (ix3 0 k n : S2x2048x12320.Idx) := by
  unfold X0_2 Pipeline.Window.fill
  rw [dif_pos (moved0_2 t _)]
  blk_ext [iblk, idx t, e]

/-- The weights a point puts into the carried buffer, entry by entry. -/
theorem filled (c : Dev nD) (t : Fin cfg0.N) (k : Fin 2048) (q : Fin 768) :
    k0_pay1 (F := Ideal) (X0_1 m c t) (ldL (X0_2 m c t)) (ix2 k q) = V m c main_v0 (ix3 0 k (wide (colOf t q)) : S2x2048x12320.Idx) := by
  refine (pay1_apply _ _ k q).trans ?_
  split_ifs with h
  · refine read1 m c t k _ _ ?_
    show 4640 + (768 * (t.val / 8) + q.val) = 768 * (t.val / 8 + 6) + (32 + q.val); omega
  · refine read2 m c t k _ _ ?_
    show 4640 + (768 * (t.val / 8) + q.val) = 128 * ((t.val / 8 + 7) * 6) + (q.val - 736); omega

/-- The carried weights after a point, entry by entry: the run's own columns of the weights. -/
theorem carried (c : Dev nD) : ∀ (j : ℕ) (n : ℕ) (hn : n < cfg0.N), n % 8 = j → ∀ (k : Fin 2048) (q : Fin 768),
    (outsAt0 m c n hn).2 (ix2 k q : S2048x768.Idx) = V m c main_v0 (ix3 0 k (wide (colOf ⟨n, hn⟩ q)) : S2x2048x12320.Idx)
  | 0, n, hn, h, k, q => by
    have e := outsAt0_A m c ⟨n, hn⟩ h
    dsimp only at e
    rw [e]
    dsimp only
    rw [fill_eq]
    exact filled m c ⟨n, hn⟩ k q
  | j + 1, n, hn, h, k, q => by
    have e := outsAt0_B m c ⟨n, hn⟩ (show ¬n % 8 = 0 by omega)
    dsimp only at e
    rw [e]
    dsimp only [sout0_B_0]
    refine (carried c j (n - 1) _ (by omega) k q).trans ?_
    refine congrArg (fun u => V m c main_v0 (ix3 0 k u : S2x2048x12320.Idx)) (Fin.ext ?_)
    show 4640 + (768 * ((n - 1) / 8) + q.val) = 4640 + (768 * (n / 8) + q.val)
    omega

/-- One entry of the product. -/
def entry (A : FVec Ideal S8192x2048 .bf16) (W : FVec Ideal S2x2048x12320 .bf16) (r : Fin 8192) (n : Fin 1536) : EReal :=
  ∑ k : Fin 2048, (A (ix2 r k) : EReal) * W (ix3 0 k (wide n))

def whole (A : FVec Ideal S8192x2048 .bf16) (W : FVec Ideal S2x2048x12320 .bf16) (y : S8192x1536.Idx) : EReal := entry A W (y 0) (y 1)

/-- What a point leaves in the result's block, entry by entry. -/
theorem block (c : Dev nD) (t : Fin cfg0.N) (p : Fin 1024) (q : Fin 768) :
    (outsAt0 m c t.val t.isLt).1 (ix2 p q : S1024x768.Idx) = entry (V m c main_arg0) (V m c main_v0) (rowOf t p) (colOf t q) := by
  by_cases h : t.val % 8 = 0
  · rw [outsAt0_A m c t h]
    dsimp only
    rw [first_eq]
    refine (pay2_apply _ _ p q).trans (Finset.sum_congr rfl fun k _ => ?_)
    exact congrArg₂ (fun a b : EReal => a * b) (read0 m c t p k) (filled m c t k q)
  · rw [outsAt0_B m c t h]
    dsimp only
    rw [later_eq]
    refine (pay2_apply _ _ p q).trans (Finset.sum_congr rfl fun k _ => ?_)
    refine congrArg₂ (fun a b : EReal => a * b) (read0 m c t p k) ((carried m c ((t.val - 1) % 8) (t.val - 1) _ rfl k q).trans ?_)
    refine congrArg (fun u => V m c main_v0 (ix3 0 k u : S2x2048x12320.Idx)) (Fin.ext ?_)
    show 4640 + (768 * ((t.val - 1) / 8) + q.val) = 4640 + (768 * (t.val / 8) + q.val)
    omega

/-- What the kernel leaves in its result array. -/
theorem arr (c : Dev nD) : (dats m 0 c).arrAt 3 cfg0.N = whole (V m c main_arg0) (V m c main_v0) := by
  refine (dats m 0 c).arrAt_eq_of_covers 3 _ (by decide +kernel) fun t hf y => ?_
  blk_simp
  rw [after0_3]
  obtain ⟨p, q, rfl⟩ : ∃ (p : Fin 1024) (q : Fin 768), y = (ix2 p q : S1024x768.Idx) := ⟨y 0, y 1, by idx_vars y⟩
  refine (block m c t p q).trans ?_
  have h0 : (((win0_3.blk t).view.emb (ix2 p q : S1024x768.Idx) : S8192x1536.Idx) 0) = rowOf t p := Fin.ext (by
    show win0_3.index t 0 * 1024 + 1 * p.val = 1024 * (t.val % 8) + p.val
    rw [(idx t).2.2.2.1]
    show t.val % 8 * 1024 + 1 * p.val = _; omega)
  have h1 : (((win0_3.blk t).view.emb (ix2 p q : S1024x768.Idx) : S8192x1536.Idx) 1) = colOf t q := Fin.ext (by
    show win0_3.index t 1 * 768 + 1 * q.val = 768 * (t.val / 8) + q.val
    rw [(idx t).2.2.2.1]
    show t.val / 8 * 768 + 1 * q.val = _; omega)
  unfold whole
  rw [h0, h1]

theorem V_weights (c : Dev nD) : (V m c main_v0 : FVec Ideal S2x2048x12320 .bf16) = truncf (F := Ideal) .bf16 (m (c, main_arg1) : FVec Ideal S2x2048x12320 .f32) bitsLt_bf16_f32 := by
  simp only [V, V0, List.flatten_cons, List.flatten_nil, List.append_nil, hostOps0]
  run_tidy

/-- One entry of the result, over the layer's own arguments. -/
def value (a : FVec Ideal S8192x2048 .bf16) (w : FVec Ideal S2x2048x12320 .f32) (r : Fin 8192) (n : Fin 1536) : EReal :=
  ∑ k : Fin 2048, (a (ix2 r k) : EReal) * w (ix3 0 k (wide n))

theorem arr_apply (c : Dev nD) (r : Fin 8192) (n : Fin 1536) :
    ((dats m 0 c).arrAt 3 cfg0.N : FVec Ideal S8192x1536 .f32) (ix2 r n) = value (m (c, main_arg0)) (m (c, main_arg1)) r n := by
  rw [arr, V_weights, V_main_arg0]
  rfl

/-- The context tokens' keys, by heads. -/
def keys (a : FVec Ideal S8192x1536 .f32) : FVec Ideal S16x256x8x64 .f32 :=
  shapeCast S16x256x8x64 (extractStridedSlice S4096x512 ![0, 512] a slices_S8192x1536_S4096x512_0_512) shapeCasts_S4096x512_S16x256x8x64

/-- The context tokens' values, by heads. -/
def values (a : FVec Ideal S8192x1536 .f32) : FVec Ideal S16x256x8x64 .f32 :=
  shapeCast S16x256x8x64 (extractStridedSlice S4096x512 ![0, 1024] a slices_S8192x1536_S4096x512_0_1024) shapeCasts_S4096x512_S16x256x8x64

theorem keys_apply (a : FVec Ideal S8192x1536 .f32) (b : Fin 16) (t : Fin 256) (h : Fin 8) (d : Fin 64) :
    keys a (ix4 b t h d) = a (ix2 ⟨b.val * 256 + t.val, by omega⟩ ⟨512 + (h.val * 64 + d.val), by omega⟩) := by
  pointwise [keys]

theorem values_apply (a : FVec Ideal S8192x1536 .f32) (b : Fin 16) (t : Fin 256) (h : Fin 8) (d : Fin 64) :
    values a (ix4 b t h d) = a (ix2 ⟨b.val * 256 + t.val, by omega⟩ ⟨1024 + (h.val * 64 + d.val), by omega⟩) := by
  pointwise [values]

/-- The call's result array. -/
abbrev arrOf (c : Dev nD) : FVec Ideal S8192x1536 .f32 := (dats m 0 c).arrAt 3 cfg0.N

/-- What the host operations after the call read as its result array. -/
theorem after_arr (c : Dev nD) : Pipeline.withArrays (cfgs 0).spec c (V0 m c) (fun w => (dats m 0 c).arrAt w (cfgs 0).N) (Proc.tc.devRef main_v1)
    = arrOf m c :=
  (dats m 0 c).withArrays_arrAt (by decide +kernel) (V0 m c) (A_eq m c) 3

set_option maxHeartbeats 4000000 in
theorem tail_keys (c : Dev nD) : Pipeline.afterTail₀ cfgs (dats m) 0 (V0 m) [hostOps1] c main_v3 = keys (arrOf m c) := by
  unfold Pipeline.afterTail₀
  simp only [hostOps1, List.flatten_cons, List.flatten_nil, List.append_nil]
  run_tidy
  exact congrArg keys (after_arr m c)

set_option maxHeartbeats 4000000 in
theorem tail_values (c : Dev nD) : Pipeline.afterTail₀ cfgs (dats m) 0 (V0 m) [hostOps1] c main_v5 = values (arrOf m c) := by
  unfold Pipeline.afterTail₀
  simp only [hostOps1, List.flatten_cons, List.flatten_nil, List.append_nil]
  run_tidy
  exact congrArg values (after_arr m c)

/-- The call's run: its result array, the keys and the values cut from it, and its arguments kept. -/
theorem run_res (ρ : Dev nD → PrngReg) : θ_run defs (onTc (τ := τ) (main (F := Ideal))) ⟨m, fun _ => 0, ρ⟩ fun r => ∀ c : Dev nD,
      r.2.mem ((c.tc : Thread nD τ).loc main_v1) = arrOf m c
      ∧ r.2.mem ((c.tc : Thread nD τ).loc main_v3) = keys (arrOf m c)
      ∧ r.2.mem ((c.tc : Thread nD τ).loc main_v5) = values (arrOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h.1 c).1 3,
      ((h.1 c).2 main_v3 (Pipeline.mem_restRefs_of main_v3 (by decide) (by decide))).trans (tail_keys m c),
      ((h.1 c).2 main_v5 (Pipeline.mem_restRefs_of main_v5 (by decide) (by decide))).trans (tail_values m c), h.2 c⟩)
    (θ_run_and (run_main m ρ) (unchanged m ρ))

end Cert.QkvIdeal.Mm
-- ==== Proof.QkvR.lean ====
module

public import proofs.«01_k».proof.Proof.Gen.QkvRefIdeal.Run
public import Idealize.ShloMosaic.Lib.Pointwise

@[expose] public section

set_option maxRecDepth 16384

noncomputable section

namespace Cert.QkvRefIdeal.Mm

open Cert.QkvRefIdeal Cert.QkvRefIdeal.Gen Idealize.ShloMosaic Idealize.ShloMosaic.TcCoe Idealize.SL.Sem

variable (a : FVec Ideal S8192x2048 .bf16) (w : FVec Ideal S2x2048x12320 .f32)

/-- The reference's result. -/
def res : FVec Ideal S8192x1536 .f32 :=
  extractStridedSlice S8192x1536 ![0, 4640] (Host.dotGeneral (φ₁ := .f32) (φ₂ := .f32) dot_S8192x2048_S2048x12320_S8192x12320_1_0_0_1_n_n none (extf .f32 a bitsLt_bf16_f32)
    (shapeCast _ (extractStridedSlice S1x2048x12320 ![0, 0, 0] w slices_S2x2048x12320_S1x2048x12320_0_0_0) shapeCasts_S1x2048x12320_S2048x12320)) slices_S8192x12320_S8192x1536_0_4640

/-- One entry of it. -/
theorem res_apply (r : Fin 8192) (n : Fin 1536) : res a w (ix2 r n)
    = (∑ k : Fin 2048, (a (ix2 r k) : EReal) * w (ix3 0 k ⟨4640 + n.val, by omega⟩) : EReal) := by
  pointwise [res]
  all_goals rfl

/-- The context tokens' keys, by heads. -/
def keys (u : FVec Ideal S8192x1536 .f32) : FVec Ideal S16x256x8x64 .f32 :=
  shapeCast S16x256x8x64 (extractStridedSlice S4096x512 ![0, 512] (extractStridedSlice S4096x1536 ![0, 0] u slices_S8192x1536_S4096x1536_0_0)
    slices_S4096x1536_S4096x512_0_512) shapeCasts_S4096x512_S16x256x8x64

theorem keys_apply (u : FVec Ideal S8192x1536 .f32) (b : Fin 16) (t : Fin 256) (h : Fin 8) (d : Fin 64) :
    keys u (ix4 b t h d) = u (ix2 ⟨b.val * 256 + t.val, by omega⟩ ⟨512 + (h.val * 64 + d.val), by omega⟩) := by
  pointwise [keys]

/-- The context tokens' values, by heads. -/
def values (u : FVec Ideal S8192x1536 .f32) : FVec Ideal S16x256x8x64 .f32 :=
  shapeCast S16x256x8x64 (extractStridedSlice S4096x512 ![0, 1024] (extractStridedSlice S4096x1536 ![0, 0] u slices_S8192x1536_S4096x1536_0_0)
    slices_S4096x1536_S4096x512_0_1024) shapeCasts_S4096x512_S16x256x8x64

theorem values_apply (u : FVec Ideal S8192x1536 .f32) (b : Fin 16) (t : Fin 256) (h : Fin 8) (d : Fin 64) :
    values u (ix4 b t h d) = u (ix2 ⟨b.val * 256 + t.val, by omega⟩ ⟨1024 + (h.val * 64 + d.val), by omega⟩) := by
  pointwise [values]

end Cert.QkvRefIdeal.Mm
-- ==== Proof.QkvEq.lean ====
module

public import proofs.«01_k».proof.Defs
public import proofs.«01_k».proof.Proof.QkvK
public import proofs.«01_k».proof.Proof.QkvR
public import Idealize.ShloMosaic.Adequacy
public import Idealize.ShloMosaic.Init

@[expose] public section

set_option maxRecDepth 16384

noncomputable section

namespace Cert.QkvEq

open Idealize.ShloMosaic Idealize.ShloMosaic.TcCoe Idealize.SL.Sem

/-- The reference runs and keeps its arguments. -/
theorem frame_ref : Cert.quiescent_QkvRefIdeal := fun m g _ =>
  (θ_run Cert.QkvRefIdeal.defs _ _).mono (fun r h => ⟨fun c => (h c).2.2.2, sem_eq_zero_of_no_sems (by decide) r.2⟩)
    (Cert.QkvRefIdeal.Value.run (F := Ideal) m g)

/-- The two programs' results agree where their arguments do. -/
theorem equal (m : (ℓ : Loc QkvIdeal.nD QkvIdeal.τ QkvIdeal.sig) → Buf (Elt Ideal) ℓ) (c : Dev QkvIdeal.nD)
    (a : FVec Ideal QkvRefIdeal.S8192x2048 .bf16) (w : FVec Ideal QkvRefIdeal.S2x2048x12320 .f32)
    (h0 : a = m (c, QkvIdeal.main_arg0)) (h1 : w = m (c, QkvIdeal.main_arg1)) :
    QkvRefIdeal.Mm.res a w = ((QkvIdeal.Gen.dats m 0 c).arrAt 3 QkvIdeal.cfg0.N : FVec Ideal QkvIdeal.S8192x1536 .f32) := by
  funext y
  obtain ⟨r, n, rfl⟩ : ∃ (r : Fin 8192) (n : Fin 1536), y = ix2 r n := ⟨y 0, y 1, by idx_vars y⟩
  refine (QkvRefIdeal.Mm.res_apply a w r n).trans (Eq.trans ?_ (QkvIdeal.Mm.arr_apply m c r n).symm)
  rw [← h0, ← h1]
  rfl

theorem keys (u : FVec Ideal QkvRefIdeal.S8192x1536 .f32) (v : FVec Ideal QkvIdeal.S8192x1536 .f32) (e : u = v) :
    QkvRefIdeal.Mm.keys u = QkvIdeal.Mm.keys v := by
  subst e
  funext y
  obtain ⟨b, t, h, d, rfl⟩ : ∃ (b : Fin 16) (t : Fin 256) (h : Fin 8) (d : Fin 64), y = ix4 b t h d := ⟨y 0, y 1, y 2, y 3, by idx_vars y⟩
  exact (QkvRefIdeal.Mm.keys_apply u b t h d).trans (QkvIdeal.Mm.keys_apply u b t h d).symm

theorem values (u : FVec Ideal QkvRefIdeal.S8192x1536 .f32) (v : FVec Ideal QkvIdeal.S8192x1536 .f32) (e : u = v) :
    QkvRefIdeal.Mm.values u = QkvIdeal.Mm.values v := by
  subst e
  funext y
  obtain ⟨b, t, h, d, rfl⟩ : ∃ (b : Fin 16) (t : Fin 256) (h : Fin 8) (d : Fin 64), y = ix4 b t h d := ⟨y 0, y 1, y 2, y 3, by idx_vars y⟩
  exact (QkvRefIdeal.Mm.values_apply u b t h d).trans (QkvIdeal.Mm.values_apply u b t h d).symm

/-- The two programs end with equal results. -/
theorem algebraic : Cert.algebraic_QkvIdeal_QkvRefIdeal := by
  intro m g m' g' _ ha
  refine ⟨fun c => QkvIdeal.Mm.arrOf m c, fun c => QkvIdeal.Mm.keys (QkvIdeal.Mm.arrOf m c), fun c => QkvIdeal.Mm.values (QkvIdeal.Mm.arrOf m c),
    Cert.QkvIdeal.Mm.run_res m g, ?_⟩
  refine (θ_run Cert.QkvRefIdeal.defs _ _).mono (fun r h c => ⟨(h c).1.trans ?_, (h c).2.1.trans ?_, (h c).2.2.1.trans ?_, (h c).2.2.2⟩)
    (Cert.QkvRefIdeal.Value.run (F := Ideal) m' g')
  · exact equal m c _ _ (ha c).1 (ha c).2
  · exact keys _ _ (equal m c _ _ (ha c).1 (ha c).2)
  · exact values _ _ (equal m c _ _ (ha c).1 (ha c).2)

end Cert.QkvEq
-- ==== Proof.SecondK.lean ====
module

public import proofs.«01_k».proof.Proof.Gen.SecondIdeal.Frame
public import Idealize.ShloMosaic.Lib.Pointwise
public import Idealize.ShloMosaic.Lib.Pipeline.Value
public import Idealize.ShloMosaic.Lib.Pipeline.ValueKit

@[expose] public section

set_option maxRecDepth 16384

noncomputable section

namespace Cert.SecondIdeal.Mm

open Cert.SecondIdeal Cert.SecondIdeal.Gen Idealize.ShloMosaic Idealize.ShloMosaic.TcCoe Idealize.ShloMosaic.Tactic Idealize.SL.Sem

/-- The columns of the second block that the kernel reads. -/
abbrev ldL (x : Vec Ideal S1x2048x128 .bf16) : FVec Ideal S1x2048x32 .bf16 :=
  View.ld (Val := Elt Ideal) (S := S1x2048x128) (e' := .bf16) x (Rect.unit (s := S1x2048x128) ![0, 0, 0] S1x2048x32.size inb_S1x2048x128_S1x2048x32_0_0_0)

section
variable (c : Dev nD) (i : grid0.Coords) (arg2 : Memref sig .tc .vmem S1024x2048 .bf16) (harg2 : arg2.IsWhole)
  (arg3 : Memref sig .tc .vmem S1x2048x768 .bf16) (harg3 : arg3.IsWhole) (arg4 : Memref sig .tc .vmem S1x2048x128 .bf16) (harg4 : arg4.IsWhole)
  (arg5 : Memref sig .tc .vmem S1024x768 .f32) (harg5 : arg5.IsWhole) (arg6 : Memref sig .tc .vmem S2048x768 .bf16) (harg6 : arg6.IsWhole)
  (x0 : Vec Ideal S1024x2048 .bf16) (x1 : Vec Ideal S1x2048x768 .bf16) (x2 : Vec Ideal S1x2048x128 .bf16) (xs : Vec Ideal S2048x768 .bf16)

/-- What the first point of a run leaves in the carried weights. -/
theorem fill_eq (h : cond0_0 i) : sout0_A_0 (F := Ideal) c i arg2 harg2 arg3 harg3 arg4 harg4 arg5 harg5 arg6 harg6 h x0 x1 x2 = k0_pay1 (F := Ideal) x1 (ldL x2) := by
  unfold sout0_A_0 kernelRun0_A
  frame_out

/-- What the first point of a run leaves in the result's block. -/
theorem first_eq (h : cond0_0 i) : out0_A_3 (F := Ideal) c i arg2 harg2 arg3 harg3 arg4 harg4 arg5 harg5 arg6 harg6 h x0 x1 x2
    = k0_pay2 (F := Ideal) x0 (k0_pay1 (F := Ideal) x1 (ldL x2)) := by
  unfold out0_A_3 kernelRun0_A
  frame_out

/-- What a later point leaves in the result's block, from the carried weights. -/
theorem later_eq (h : ¬cond0_0 i) : out0_B_3 (F := Ideal) c i arg2 harg2 arg3 harg3 arg4 harg4 arg5 harg5 arg6 harg6 h x0 x1 x2 xs
    = k0_pay2 (F := Ideal) x0 xs := by
  unfold out0_B_3 kernelRun0_B
  frame_out
end

theorem ldL_apply (x : Vec Ideal S1x2048x128 .bf16) (k : Fin 2048) (q : Fin 32) : ldL x (ix3 0 k q) = x (ix3 0 k ⟨q.val, by omega⟩) :=
  congrArg x (funext fun a => Fin.ext (by
    fin_cases a
    · rfl
    · show 0 + 1 * k.val = k.val; omega
    · show 0 + 1 * q.val = q.val; omega))

/-- One entry of a block of weights: 32 columns on in the first block, then in the second. -/
theorem pay1_apply (x : FVec Ideal S1x2048x768 .bf16) (z : FVec Ideal S1x2048x128 .bf16) (k : Fin 2048) (q : Fin 768) :
    k0_pay1 (F := Ideal) x (ldL z) (ix2 k q) = if h : q.val < 736 then x (ix3 0 k ⟨32 + q.val, by omega⟩) else z (ix3 0 k ⟨q.val - 736, by omega⟩) := by
  have e : ∀ u : Fin 32, ldL z (ix3 0 k u) = z (ix3 0 k ⟨u.val, by omega⟩) := ldL_apply z k
  generalize ldL z = z' at e ⊢
  pointwise [k0_pay1]
  split_ifs
  · rfl
  all_goals exact e _

/-- One entry of a block of the result. -/
theorem pay2_apply (a : FVec Ideal S1024x2048 .bf16) (w : FVec Ideal S2048x768 .bf16) (p : Fin 1024) (q : Fin 768) :
    k0_pay2 (F := Ideal) a w (ix2 p q) = (∑ k : Fin 2048, (a (ix2 p k) : EReal) * w (ix2 k q) : EReal) := by
  pointwise [k0_pay2]
  all_goals rfl

variable (m : (ℓ : Loc nD τ sig) → Buf (Elt Ideal) ℓ)

theorem idx : ∀ t : Fin cfg0.N, win0_0.index t = ![t.val % 8, 0] ∧ win0_1.index t = ![1, 0, t.val / 8 + 6] ∧ win0_2.index t = ![1, 0, (t.val / 8 + 7) * 6]
    ∧ win0_3.index t = ![t.val % 8, t.val / 8] ∧ t.val < 16 :=
  (by decide +kernel : ∀ t : Fin grid0.N, _)

def rowOf (t : Fin cfg0.N) (p : Fin 1024) : Fin 8192 := ⟨1024 * (t.val % 8) + p.val, by omega⟩
def colOf (t : Fin cfg0.N) (q : Fin 768) : Fin 1536 := ⟨768 * (t.val / 8) + q.val, by have := (idx t).2.2.2.2; omega⟩
def wide (n : Fin 1536) : Fin 12320 := ⟨4640 + n.val, by omega⟩

theorem read0 (c : Dev nD) (t : Fin cfg0.N) (p : Fin 1024) (k : Fin 2048) :
    iblk m c 0 t (ix2 p k : S1024x2048.Idx) = V m c main_arg0 (ix2 (rowOf t p) k : S8192x2048.Idx) := by
  have e : (rowOf t p).val = 1024 * (t.val % 8) + p.val := rfl
  blk_ext [iblk, idx t, e]

theorem read1 (c : Dev nD) (t : Fin cfg0.N) (k : Fin 2048) (q : Fin 768) (n : Fin 12320) (e : n.val = 768 * (t.val / 8 + 6) + q.val) :
    X0_1 m c t (ix3 0 k q : S1x2048x768.Idx) = V m c main_v0 (ix3 1 k n : S2x2048x12320.Idx) := by
  unfold X0_1 Pipeline.Window.fill
  rw [dif_pos (moved0_1 t _)]
  blk_ext [iblk, idx t, e]

theorem read2 (c : Dev nD) (t : Fin cfg0.N) (k : Fin 2048) (q : Fin 128) (n : Fin 12320) (e : n.val = 128 * ((t.val / 8 + 7) * 6) + q.val) :
    X0_2 m c t (ix3 0 k q : S1x2048x128.Idx) = V m c main_v0 (ix3 1 k n : S2x2048x12320.Idx) := by
  unfold X0_2 Pipeline.Window.fill
  rw [dif_pos (moved0_2 t _)]
  blk_ext [iblk, idx t, e]

/-- The weights a point puts into the carried buffer, entry by entry. -/
theorem filled (c : Dev nD) (t : Fin cfg0.N) (k : Fin 2048) (q : Fin 768) :
    k0_pay1 (F := Ideal) (X0_1 m c t) (ldL (X0_2 m c t)) (ix2 k q) = V m c main_v0 (ix3 1 k (wide (colOf t q)) : S2x2048x12320.Idx) := by
  refine (pay1_apply _ _ k q).trans ?_
  split_ifs with h
  · refine read1 m c t k _ _ ?_
    show 4640 + (768 * (t.val / 8) + q.val) = 768 * (t.val / 8 + 6) + (32 + q.val); omega
  · refine read2 m c t k _ _ ?_
    show 4640 + (768 * (t.val / 8) + q.val) = 128 * ((t.val / 8 + 7) * 6) + (q.val - 736); omega

/-- The carried weights after a point, entry by entry: the run's own columns of the weights. -/
theorem carried (c : Dev nD) : ∀ (j : ℕ) (n : ℕ) (hn : n < cfg0.N), n % 8 = j → ∀ (k : Fin 2048) (q : Fin 768),
    (outsAt0 m c n hn).2 (ix2 k q : S2048x768.Idx) = V m c main_v0 (ix3 1 k (wide (colOf ⟨n, hn⟩ q)) : S2x2048x12320.Idx)
  | 0, n, hn, h, k, q => by
    have e := outsAt0_A m c ⟨n, hn⟩ h
    dsimp only at e
    rw [e]
    dsimp only
    rw [fill_eq]
    exact filled m c ⟨n, hn⟩ k q
  | j + 1, n, hn, h, k, q => by
    have e := outsAt0_B m c ⟨n, hn⟩ (show ¬n % 8 = 0 by omega)
    dsimp only at e
    rw [e]
    dsimp only [sout0_B_0]
    refine (carried c j (n - 1) _ (by omega) k q).trans ?_
    refine congrArg (fun u => V m c main_v0 (ix3 1 k u : S2x2048x12320.Idx)) (Fin.ext ?_)
    show 4640 + (768 * ((n - 1) / 8) + q.val) = 4640 + (768 * (n / 8) + q.val)
    omega

/-- One entry of the product. -/
def entry (A : FVec Ideal S8192x2048 .bf16) (W : FVec Ideal S2x2048x12320 .bf16) (r : Fin 8192) (n : Fin 1536) : EReal :=
  ∑ k : Fin 2048, (A (ix2 r k) : EReal) * W (ix3 1 k (wide n))

def whole (A : FVec Ideal S8192x2048 .bf16) (W : FVec Ideal S2x2048x12320 .bf16) (y : S8192x1536.Idx) : EReal := entry A W (y 0) (y 1)

/-- What a point leaves in the result's block, entry by entry. -/
theorem block (c : Dev nD) (t : Fin cfg0.N) (p : Fin 1024) (q : Fin 768) :
    (outsAt0 m c t.val t.isLt).1 (ix2 p q : S1024x768.Idx) = entry (V m c main_arg0) (V m c main_v0) (rowOf t p) (colOf t q) := by
  by_cases h : t.val % 8 = 0
  · rw [outsAt0_A m c t h]
    dsimp only
    rw [first_eq]
    refine (pay2_apply _ _ p q).trans (Finset.sum_congr rfl fun k _ => ?_)
    exact congrArg₂ (fun a b : EReal => a * b) (read0 m c t p k) (filled m c t k q)
  · rw [outsAt0_B m c t h]
    dsimp only
    rw [later_eq]
    refine (pay2_apply _ _ p q).trans (Finset.sum_congr rfl fun k _ => ?_)
    refine congrArg₂ (fun a b : EReal => a * b) (read0 m c t p k) ((carried m c ((t.val - 1) % 8) (t.val - 1) _ rfl k q).trans ?_)
    refine congrArg (fun u => V m c main_v0 (ix3 1 k u : S2x2048x12320.Idx)) (Fin.ext ?_)
    show 4640 + (768 * ((t.val - 1) / 8) + q.val) = 4640 + (768 * (t.val / 8) + q.val)
    omega

/-- What the kernel leaves in its result array. -/
theorem arr (c : Dev nD) : (dats m 0 c).arrAt 3 cfg0.N = whole (V m c main_arg0) (V m c main_v0) := by
  refine (dats m 0 c).arrAt_eq_of_covers 3 _ (by decide +kernel) fun t hf y => ?_
  blk_simp
  rw [after0_3]
  obtain ⟨p, q, rfl⟩ : ∃ (p : Fin 1024) (q : Fin 768), y = (ix2 p q : S1024x768.Idx) := ⟨y 0, y 1, by idx_vars y⟩
  refine (block m c t p q).trans ?_
  have h0 : (((win0_3.blk t).view.emb (ix2 p q : S1024x768.Idx) : S8192x1536.Idx) 0) = rowOf t p := Fin.ext (by
    show win0_3.index t 0 * 1024 + 1 * p.val = 1024 * (t.val % 8) + p.val
    rw [(idx t).2.2.2.1]
    show t.val % 8 * 1024 + 1 * p.val = _; omega)
  have h1 : (((win0_3.blk t).view.emb (ix2 p q : S1024x768.Idx) : S8192x1536.Idx) 1) = colOf t q := Fin.ext (by
    show win0_3.index t 1 * 768 + 1 * q.val = 768 * (t.val / 8) + q.val
    rw [(idx t).2.2.2.1]
    show t.val / 8 * 768 + 1 * q.val = _; omega)
  unfold whole
  rw [h0, h1]

theorem V_weights (c : Dev nD) : (V m c main_v0 : FVec Ideal S2x2048x12320 .bf16) = truncf (F := Ideal) .bf16 (m (c, main_arg1) : FVec Ideal S2x2048x12320 .f32) bitsLt_bf16_f32 := by
  simp only [V, V0, List.flatten_cons, List.flatten_nil, List.append_nil, hostOps0]
  run_tidy

/-- One entry of the result, over the layer's own arguments. -/
def value (a : FVec Ideal S8192x2048 .bf16) (w : FVec Ideal S2x2048x12320 .f32) (r : Fin 8192) (n : Fin 1536) : EReal :=
  ∑ k : Fin 2048, (a (ix2 r k) : EReal) * w (ix3 1 k (wide n))

theorem arr_apply (c : Dev nD) (r : Fin 8192) (n : Fin 1536) :
    ((dats m 0 c).arrAt 3 cfg0.N : FVec Ideal S8192x1536 .f32) (ix2 r n) = value (m (c, main_arg0)) (m (c, main_arg1)) r n := by
  rw [arr, V_weights, V_main_arg0]
  rfl

/-- The context tokens' keys, by heads. -/
def keys (a : FVec Ideal S8192x1536 .f32) : FVec Ideal S16x256x8x64 .f32 :=
  shapeCast S16x256x8x64 (extractStridedSlice S4096x512 ![0, 512] a slices_S8192x1536_S4096x512_0_512) shapeCasts_S4096x512_S16x256x8x64

/-- The context tokens' values, by heads. -/
def values (a : FVec Ideal S8192x1536 .f32) : FVec Ideal S16x256x8x64 .f32 :=
  shapeCast S16x256x8x64 (extractStridedSlice S4096x512 ![0, 1024] a slices_S8192x1536_S4096x512_0_1024) shapeCasts_S4096x512_S16x256x8x64

theorem keys_apply (a : FVec Ideal S8192x1536 .f32) (b : Fin 16) (t : Fin 256) (h : Fin 8) (d : Fin 64) :
    keys a (ix4 b t h d) = a (ix2 ⟨b.val * 256 + t.val, by omega⟩ ⟨512 + (h.val * 64 + d.val), by omega⟩) := by
  pointwise [keys]

theorem values_apply (a : FVec Ideal S8192x1536 .f32) (b : Fin 16) (t : Fin 256) (h : Fin 8) (d : Fin 64) :
    values a (ix4 b t h d) = a (ix2 ⟨b.val * 256 + t.val, by omega⟩ ⟨1024 + (h.val * 64 + d.val), by omega⟩) := by
  pointwise [values]

/-- The call's result array. -/
abbrev arrOf (c : Dev nD) : FVec Ideal S8192x1536 .f32 := (dats m 0 c).arrAt 3 cfg0.N

/-- What the host operations after the call read as its result array. -/
theorem after_arr (c : Dev nD) : Pipeline.withArrays (cfgs 0).spec c (V0 m c) (fun w => (dats m 0 c).arrAt w (cfgs 0).N) (Proc.tc.devRef main_v1)
    = arrOf m c :=
  (dats m 0 c).withArrays_arrAt (by decide +kernel) (V0 m c) (A_eq m c) 3

set_option maxHeartbeats 4000000 in
theorem tail_keys (c : Dev nD) : Pipeline.afterTail₀ cfgs (dats m) 0 (V0 m) [hostOps1] c main_v3 = keys (arrOf m c) := by
  unfold Pipeline.afterTail₀
  simp only [hostOps1, List.flatten_cons, List.flatten_nil, List.append_nil]
  run_tidy
  exact congrArg keys (after_arr m c)

set_option maxHeartbeats 4000000 in
theorem tail_values (c : Dev nD) : Pipeline.afterTail₀ cfgs (dats m) 0 (V0 m) [hostOps1] c main_v5 = values (arrOf m c) := by
  unfold Pipeline.afterTail₀
  simp only [hostOps1, List.flatten_cons, List.flatten_nil, List.append_nil]
  run_tidy
  exact congrArg values (after_arr m c)

/-- The call's run: its result array, the keys and the values cut from it, and its arguments kept. -/
theorem run_res (ρ : Dev nD → PrngReg) : θ_run defs (onTc (τ := τ) (main (F := Ideal))) ⟨m, fun _ => 0, ρ⟩ fun r => ∀ c : Dev nD,
      r.2.mem ((c.tc : Thread nD τ).loc main_v1) = arrOf m c
      ∧ r.2.mem ((c.tc : Thread nD τ).loc main_v3) = keys (arrOf m c)
      ∧ r.2.mem ((c.tc : Thread nD τ).loc main_v5) = values (arrOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h.1 c).1 3,
      ((h.1 c).2 main_v3 (Pipeline.mem_restRefs_of main_v3 (by decide) (by decide))).trans (tail_keys m c),
      ((h.1 c).2 main_v5 (Pipeline.mem_restRefs_of main_v5 (by decide) (by decide))).trans (tail_values m c), h.2 c⟩)
    (θ_run_and (run_main m ρ) (unchanged m ρ))

end Cert.SecondIdeal.Mm
-- ==== Proof.SecondR.lean ====
module

public import proofs.«01_k».proof.Proof.Gen.SecondRefIdeal.Run
public import Idealize.ShloMosaic.Lib.Pointwise

@[expose] public section

set_option maxRecDepth 16384

noncomputable section

namespace Cert.SecondRefIdeal.Mm

open Cert.SecondRefIdeal Cert.SecondRefIdeal.Gen Idealize.ShloMosaic Idealize.ShloMosaic.TcCoe Idealize.SL.Sem

variable (a : FVec Ideal S8192x2048 .bf16) (w : FVec Ideal S2x2048x12320 .f32)

/-- The reference's result. -/
def res : FVec Ideal S8192x1536 .f32 :=
  extractStridedSlice S8192x1536 ![0, 4640] (Host.dotGeneral (φ₁ := .f32) (φ₂ := .f32) dot_S8192x2048_S2048x12320_S8192x12320_1_0_0_1_n_n none (extf .f32 a bitsLt_bf16_f32)
    (shapeCast _ (extractStridedSlice S1x2048x12320 ![1, 0, 0] w slices_S2x2048x12320_S1x2048x12320_1_0_0) shapeCasts_S1x2048x12320_S2048x12320)) slices_S8192x12320_S8192x1536_0_4640

/-- One entry of it. -/
theorem res_apply (r : Fin 8192) (n : Fin 1536) : res a w (ix2 r n)
    = (∑ k : Fin 2048, (a (ix2 r k) : EReal) * w (ix3 1 k ⟨4640 + n.val, by omega⟩) : EReal) := by
  pointwise [res]
  all_goals rfl

/-- The context tokens' keys, by heads. -/
def keys (u : FVec Ideal S8192x1536 .f32) : FVec Ideal S16x256x8x64 .f32 :=
  shapeCast S16x256x8x64 (extractStridedSlice S4096x512 ![0, 512] (extractStridedSlice S4096x1536 ![0, 0] u slices_S8192x1536_S4096x1536_0_0)
    slices_S4096x1536_S4096x512_0_512) shapeCasts_S4096x512_S16x256x8x64

theorem keys_apply (u : FVec Ideal S8192x1536 .f32) (b : Fin 16) (t : Fin 256) (h : Fin 8) (d : Fin 64) :
    keys u (ix4 b t h d) = u (ix2 ⟨b.val * 256 + t.val, by omega⟩ ⟨512 + (h.val * 64 + d.val), by omega⟩) := by
  pointwise [keys]

/-- The context tokens' values, by heads. -/
def values (u : FVec Ideal S8192x1536 .f32) : FVec Ideal S16x256x8x64 .f32 :=
  shapeCast S16x256x8x64 (extractStridedSlice S4096x512 ![0, 1024] (extractStridedSlice S4096x1536 ![0, 0] u slices_S8192x1536_S4096x1536_0_0)
    slices_S4096x1536_S4096x512_0_1024) shapeCasts_S4096x512_S16x256x8x64

theorem values_apply (u : FVec Ideal S8192x1536 .f32) (b : Fin 16) (t : Fin 256) (h : Fin 8) (d : Fin 64) :
    values u (ix4 b t h d) = u (ix2 ⟨b.val * 256 + t.val, by omega⟩ ⟨1024 + (h.val * 64 + d.val), by omega⟩) := by
  pointwise [values]

end Cert.SecondRefIdeal.Mm
-- ==== Proof.SecondEq.lean ====
module

public import proofs.«01_k».proof.Defs
public import proofs.«01_k».proof.Proof.SecondK
public import proofs.«01_k».proof.Proof.SecondR
public import Idealize.ShloMosaic.Adequacy
public import Idealize.ShloMosaic.Init

@[expose] public section

set_option maxRecDepth 16384

noncomputable section

namespace Cert.SecondEq

open Idealize.ShloMosaic Idealize.ShloMosaic.TcCoe Idealize.SL.Sem

/-- The reference runs and keeps its arguments. -/
theorem frame_ref : Cert.quiescent_SecondRefIdeal := fun m g _ =>
  (θ_run Cert.SecondRefIdeal.defs _ _).mono (fun r h => ⟨fun c => (h c).2.2.2, sem_eq_zero_of_no_sems (by decide) r.2⟩)
    (Cert.SecondRefIdeal.Value.run (F := Ideal) m g)

/-- The two programs' results agree where their arguments do. -/
theorem equal (m : (ℓ : Loc SecondIdeal.nD SecondIdeal.τ SecondIdeal.sig) → Buf (Elt Ideal) ℓ) (c : Dev SecondIdeal.nD)
    (a : FVec Ideal SecondRefIdeal.S8192x2048 .bf16) (w : FVec Ideal SecondRefIdeal.S2x2048x12320 .f32)
    (h0 : a = m (c, SecondIdeal.main_arg0)) (h1 : w = m (c, SecondIdeal.main_arg1)) :
    SecondRefIdeal.Mm.res a w = ((SecondIdeal.Gen.dats m 0 c).arrAt 3 SecondIdeal.cfg0.N : FVec Ideal SecondIdeal.S8192x1536 .f32) := by
  funext y
  obtain ⟨r, n, rfl⟩ : ∃ (r : Fin 8192) (n : Fin 1536), y = ix2 r n := ⟨y 0, y 1, by idx_vars y⟩
  refine (SecondRefIdeal.Mm.res_apply a w r n).trans (Eq.trans ?_ (SecondIdeal.Mm.arr_apply m c r n).symm)
  rw [← h0, ← h1]
  rfl

theorem keys (u : FVec Ideal SecondRefIdeal.S8192x1536 .f32) (v : FVec Ideal SecondIdeal.S8192x1536 .f32) (e : u = v) :
    SecondRefIdeal.Mm.keys u = SecondIdeal.Mm.keys v := by
  subst e
  funext y
  obtain ⟨b, t, h, d, rfl⟩ : ∃ (b : Fin 16) (t : Fin 256) (h : Fin 8) (d : Fin 64), y = ix4 b t h d := ⟨y 0, y 1, y 2, y 3, by idx_vars y⟩
  exact (SecondRefIdeal.Mm.keys_apply u b t h d).trans (SecondIdeal.Mm.keys_apply u b t h d).symm

theorem values (u : FVec Ideal SecondRefIdeal.S8192x1536 .f32) (v : FVec Ideal SecondIdeal.S8192x1536 .f32) (e : u = v) :
    SecondRefIdeal.Mm.values u = SecondIdeal.Mm.values v := by
  subst e
  funext y
  obtain ⟨b, t, h, d, rfl⟩ : ∃ (b : Fin 16) (t : Fin 256) (h : Fin 8) (d : Fin 64), y = ix4 b t h d := ⟨y 0, y 1, y 2, y 3, by idx_vars y⟩
  exact (SecondRefIdeal.Mm.values_apply u b t h d).trans (SecondIdeal.Mm.values_apply u b t h d).symm

/-- The two programs end with equal results. -/
theorem algebraic : Cert.algebraic_SecondIdeal_SecondRefIdeal := by
  intro m g m' g' _ ha
  refine ⟨fun c => SecondIdeal.Mm.arrOf m c, fun c => SecondIdeal.Mm.keys (SecondIdeal.Mm.arrOf m c), fun c => SecondIdeal.Mm.values (SecondIdeal.Mm.arrOf m c),
    Cert.SecondIdeal.Mm.run_res m g, ?_⟩
  refine (θ_run Cert.SecondRefIdeal.defs _ _).mono (fun r h c => ⟨(h c).1.trans ?_, (h c).2.1.trans ?_, (h c).2.2.1.trans ?_, (h c).2.2.2⟩)
    (Cert.SecondRefIdeal.Value.run (F := Ideal) m' g')
  · exact equal m c _ _ (ha c).1 (ha c).2
  · exact keys _ _ (equal m c _ _ (ha c).1 (ha c).2)
  · exact values _ _ (equal m c _ _ (ha c).1 (ha c).2)

end Cert.SecondEq
-- ==== Proof.MergeK.lean ====
module

public import proofs.«01_k».proof.Proof.Gen.MergeIdeal.Value
public import Idealize.ShloMosaic.Lib.Pointwise
public import Idealize.ShloMosaic.Lib.Pipeline.ValueKit

@[expose] public section

set_option maxRecDepth 16384

noncomputable section

namespace Cert.MergeIdeal.Mm

open Cert.MergeIdeal Cert.MergeIdeal.Gen Idealize.ShloMosaic Idealize.ShloMosaic.TcCoe Idealize.SL.Sem

/-- One branch at a token and a column: the gate times the branch's product. -/
def branch {K : ℕ} (g : EReal) (y w : Fin K → EReal) : EReal := Idealize.ShloMosaic.Ideal.logistic g * ∑ k : Fin K, y k * w k

theorem branch_congr {K : ℕ} {g g' : EReal} {y y' w w' : Fin K → EReal} (hg : g = g') (hy : ∀ k, y k = y' k) (hw : ∀ k, w k = w' k) :
    branch g y w = branch g' y' w' := by
  rw [hg, show y = y' from funext hy, show w = w' from funext hw]

/-- The first half's rows come from one array, the second half's from another. -/
theorem pick {α : Type} (i : grid0.Coords) (a b : α) :
    Scalar.select (Scalar.cmpi .slt (BitVec.ofNat 32 (i 0).val) 4#32) a b = if (i 0).val < 4 then a else b := by
  have e : ∀ u : Fin 8, (Scalar.cmpi .slt (BitVec.ofNat 32 u.val) 4#32 = 1) ↔ u.val < 4 := by decide +kernel
  have := e (i 0)
  unfold Scalar.select
  by_cases h : (i 0).val < 4
  · rw [if_pos h, if_pos (this.mpr h)]
  · rw [if_neg h, if_neg (fun u => h (this.mp u))]

/-- One entry of a block. -/
theorem pay_apply (i : grid0.Coords) (gc gl : Vec Ideal S1024x1024 .bf16) (nc nl yp : Vec Ideal S1024x512 .bf16) (g0 : Vec Ideal S1024x1024 .bf16)
    (wp : Vec Ideal S512x1024 .bf16) (g1 : Vec Ideal S1024x1024 .bf16) (wg : Vec Ideal S1024x1024 .bf16) (g2 : Vec Ideal S1024x1024 .bf16)
    (wn : Vec Ideal S512x1024 .bf16) (p : Fin 1024) (q : Fin 1024) :
    k0_pay1 (F := Ideal) i gc gl nc nl yp g0 wp g1 wg g2 wn (ix2 p q)
      = (branch (g0 (ix2 p q)) (fun k : Fin 512 => yp (ix2 p k)) (fun k => wp (ix2 k q))
        + branch (g1 (ix2 p q)) (fun k : Fin 1024 => (if (i 0).val < 4 then gc else gl) (ix2 p k)) (fun k => wg (ix2 k q))
        + branch (g2 (ix2 p q)) (fun k : Fin 512 => (if (i 0).val < 4 then nc else nl) (ix2 p k)) (fun k => wn (ix2 k q)) : EReal) := by
  dsimp only [k0_pay1]
  rw [pick i gc gl, pick i nc nl]
  generalize (if (i 0).val < 4 then gc else gl) = yg
  generalize (if (i 0).val < 4 then nc else nl) = yn
  unfold branch
  pointwise []
  all_goals rfl

theorem out_eq (i : grid0.Coords) (x0 : Vec Ideal S1024x512 .bf16) (x1 x2 : Vec Ideal S1024x1024 .bf16) (x3 x4 : Vec Ideal S1024x512 .bf16) (x5 : Vec Ideal S512x1024 .bf16)
    (x6 : Vec Ideal S1024x1024 .bf16) (x7 : Vec Ideal S512x1024 .bf16) (x8 x9 x10 : Vec Ideal S1024x1024 .bf16) :
    out0_11 (F := Ideal) i x0 x1 x2 x3 x4 x5 x6 x7 x8 x9 x10 = k0_pay1 (F := Ideal) i x1 x2 x3 x4 x0 x8 x5 x9 x6 x10 x7 := by
  unfold out0_11
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide), View.ld_unit_lit _ _ (by decide)]

variable (m : (ℓ : Loc nD τ sig) → Buf (Elt Ideal) ℓ)

theorem idx : ∀ t : Fin cfg0.N, win0_0.index t = ![t.val / 2, 0] ∧ win0_1.index t = ![min (t.val / 2) 3, 0] ∧ win0_2.index t = ![t.val / 2 - 4, 0]
    ∧ win0_3.index t = ![min (t.val / 2) 3, 0] ∧ win0_4.index t = ![t.val / 2 - 4, 0]
    ∧ win0_5.index t = ![0, t.val % 2] ∧ win0_6.index t = ![0, t.val % 2] ∧ win0_7.index t = ![0, t.val % 2]
    ∧ win0_8.index t = ![t.val / 2, t.val % 2] ∧ win0_9.index t = ![t.val / 2, t.val % 2 + 2] ∧ win0_10.index t = ![t.val / 2, t.val % 2 + 4]
    ∧ win0_11.index t = ![t.val / 2, t.val % 2] ∧ t.val < 16 ∧ (grid0.coords t 0).val = t.val / 2 :=
  (by decide +kernel : ∀ t : Fin grid0.N, _)

theorem pt (t : Fin cfg0.N) : t.val < 16 := (idx t).2.2.2.2.2.2.2.2.2.2.2.2.1
theorem coord (t : Fin cfg0.N) : (grid0.coords t 0).val = t.val / 2 := (idx t).2.2.2.2.2.2.2.2.2.2.2.2.2

def rowOf (t : Fin cfg0.N) (p : Fin 1024) : Fin 8192 := ⟨1024 * (t.val / 2) + p.val, by have := pt t; omega⟩
def colOf (t : Fin cfg0.N) (q : Fin 1024) : Fin 2048 := ⟨1024 * (t.val % 2) + q.val, by omega⟩

/-- A branch's columns among the gates'. -/
def gateCol (b : Fin 3) (n : Fin 2048) : Fin 6144 := ⟨2048 * b.val + n.val, by omega⟩

/-- A row of two halves laid one after the other. -/
def halves {K : ℕ} (a b : Fin 4096 → Fin K → EReal) (r : Fin 8192) (k : Fin K) : EReal :=
  if h : r.val < 4096 then a ⟨r.val, h⟩ k else b ⟨r.val - 4096, by omega⟩ k

theorem read0 (c : Dev nD) (t : Fin cfg0.N) (p : Fin 1024) (k : Fin 512) :
    iblk m c 0 t (ix2 p k : S1024x512.Idx) = V m c main_arg0 (ix2 (rowOf t p) k : S8192x512.Idx) := by
  have e : (rowOf t p).val = 1024 * (t.val / 2) + p.val := rfl
  blk_ext [iblk, idx t, e]

theorem read1 (c : Dev nD) (t : Fin cfg0.N) (p : Fin 1024) (k : Fin 1024) (r : Fin 4096) (e : r.val = 1024 * min (t.val / 2) 3 + p.val) :
    iblk m c 1 t (ix2 p k : S1024x1024.Idx) = V m c main_arg1 (ix2 r k : S4096x1024.Idx) := by
  blk_ext [iblk, idx t, e]

theorem read2 (c : Dev nD) (t : Fin cfg0.N) (p : Fin 1024) (k : Fin 1024) (r : Fin 4096) (e : r.val = 1024 * (t.val / 2 - 4) + p.val) :
    iblk m c 2 t (ix2 p k : S1024x1024.Idx) = V m c main_arg2 (ix2 r k : S4096x1024.Idx) := by
  blk_ext [iblk, idx t, e]

theorem read3 (c : Dev nD) (t : Fin cfg0.N) (p : Fin 1024) (k : Fin 512) (r : Fin 4096) (e : r.val = 1024 * min (t.val / 2) 3 + p.val) :
    iblk m c 3 t (ix2 p k : S1024x512.Idx) = V m c main_arg3 (ix2 r k : S4096x512.Idx) := by
  blk_ext [iblk, idx t, e]

theorem read4 (c : Dev nD) (t : Fin cfg0.N) (p : Fin 1024) (k : Fin 512) (r : Fin 4096) (e : r.val = 1024 * (t.val / 2 - 4) + p.val) :
    iblk m c 4 t (ix2 p k : S1024x512.Idx) = V m c main_arg4 (ix2 r k : S4096x512.Idx) := by
  blk_ext [iblk, idx t, e]

theorem read5 (c : Dev nD) (t : Fin cfg0.N) (k : Fin 512) (q : Fin 1024) :
    iblk m c 5 t (ix2 k q : S512x1024.Idx) = V m c main_v2 (ix2 k (colOf t q) : S512x2048.Idx) := by
  have e : (colOf t q).val = 1024 * (t.val % 2) + q.val := rfl
  blk_ext [iblk, idx t, e]

theorem read6 (c : Dev nD) (t : Fin cfg0.N) (k : Fin 1024) (q : Fin 1024) :
    iblk m c 6 t (ix2 k q : S1024x1024.Idx) = V m c main_v5 (ix2 k (colOf t q) : S1024x2048.Idx) := by
  have e : (colOf t q).val = 1024 * (t.val % 2) + q.val := rfl
  blk_ext [iblk, idx t, e]

theorem read7 (c : Dev nD) (t : Fin cfg0.N) (k : Fin 512) (q : Fin 1024) :
    iblk m c 7 t (ix2 k q : S512x1024.Idx) = V m c main_v8 (ix2 k (colOf t q) : S512x2048.Idx) := by
  have e : (colOf t q).val = 1024 * (t.val % 2) + q.val := rfl
  blk_ext [iblk, idx t, e]

theorem read8 (c : Dev nD) (t : Fin cfg0.N) (p : Fin 1024) (q : Fin 1024) :
    iblk m c 8 t (ix2 p q : S1024x1024.Idx) = V m c main_arg8 (ix2 (rowOf t p) (gateCol 0 (colOf t q)) : S8192x6144.Idx) := by
  have e : (rowOf t p).val = 1024 * (t.val / 2) + p.val := rfl
  have e1 : (gateCol 0 (colOf t q)).val = 2048 * 0 + (1024 * (t.val % 2) + q.val) := rfl
  blk_ext [iblk, idx t, e, e1]

theorem read9 (c : Dev nD) (t : Fin cfg0.N) (p : Fin 1024) (q : Fin 1024) :
    iblk m c 9 t (ix2 p q : S1024x1024.Idx) = V m c main_arg8 (ix2 (rowOf t p) (gateCol 1 (colOf t q)) : S8192x6144.Idx) := by
  have e : (rowOf t p).val = 1024 * (t.val / 2) + p.val := rfl
  have e1 : (gateCol 1 (colOf t q)).val = 2048 * 1 + (1024 * (t.val % 2) + q.val) := rfl
  blk_ext [iblk, idx t, e, e1]

theorem read10 (c : Dev nD) (t : Fin cfg0.N) (p : Fin 1024) (q : Fin 1024) :
    iblk m c 10 t (ix2 p q : S1024x1024.Idx) = V m c main_arg8 (ix2 (rowOf t p) (gateCol 2 (colOf t q)) : S8192x6144.Idx) := by
  have e : (rowOf t p).val = 1024 * (t.val / 2) + p.val := rfl
  have e1 : (gateCol 2 (colOf t q)).val = 2048 * 2 + (1024 * (t.val % 2) + q.val) := rfl
  blk_ext [iblk, idx t, e, e1]

theorem rows_gdn (c : Dev nD) (t : Fin cfg0.N) (p : Fin 1024) (k : Fin 1024) :
    ((if (grid0.coords t 0).val < 4 then iblk m c 1 t else iblk m c 2 t : FVec Ideal S1024x1024 .bf16) (ix2 p k) : EReal)
      = halves (fun r k => (V m c main_arg1 : FVec Ideal S4096x1024 .bf16) (ix2 r k)) (fun r k => (V m c main_arg2 : FVec Ideal S4096x1024 .bf16) (ix2 r k)) (rowOf t p) k := by
  have e : (rowOf t p).val = 1024 * (t.val / 2) + p.val := rfl
  have := pt t
  rw [coord]
  unfold halves
  by_cases h : t.val / 2 < 4
  · rw [if_pos h, dif_pos (by omega)]
    exact read1 m c t p k _ (by show (rowOf t p).val = _; omega)
  · rw [if_neg h, dif_neg (by omega)]
    exact read2 m c t p k _ (by show (rowOf t p).val - 4096 = _; omega)

theorem rows_na (c : Dev nD) (t : Fin cfg0.N) (p : Fin 1024) (k : Fin 512) :
    ((if (grid0.coords t 0).val < 4 then iblk m c 3 t else iblk m c 4 t : FVec Ideal S1024x512 .bf16) (ix2 p k) : EReal)
      = halves (fun r k => (V m c main_arg3 : FVec Ideal S4096x512 .bf16) (ix2 r k)) (fun r k => (V m c main_arg4 : FVec Ideal S4096x512 .bf16) (ix2 r k)) (rowOf t p) k := by
  have e : (rowOf t p).val = 1024 * (t.val / 2) + p.val := rfl
  have := pt t
  rw [coord]
  unfold halves
  by_cases h : t.val / 2 < 4
  · rw [if_pos h, dif_pos (by omega)]
    exact read3 m c t p k _ (by show (rowOf t p).val = _; omega)
  · rw [if_neg h, dif_neg (by omega)]
    exact read4 m c t p k _ (by show (rowOf t p).val - 4096 = _; omega)

/-- One entry of the result, over the branches' rows, weights and gates. -/
def entry (yp : FVec Ideal S8192x512 .bf16) (gc gl : FVec Ideal S4096x1024 .bf16) (nc nl : FVec Ideal S4096x512 .bf16)
    (wp : FVec Ideal S512x2048 .bf16) (wg : FVec Ideal S1024x2048 .bf16) (wn : FVec Ideal S512x2048 .bf16) (u : FVec Ideal S8192x6144 .bf16)
    (r : Fin 8192) (n : Fin 2048) : EReal :=
  branch (u (ix2 r (gateCol 0 n))) (fun k : Fin 512 => yp (ix2 r k)) (fun k => wp (ix2 k n))
    + branch (u (ix2 r (gateCol 1 n))) (fun k : Fin 1024 => halves (fun r k => gc (ix2 r k)) (fun r k => gl (ix2 r k)) r k) (fun k => wg (ix2 k n))
    + branch (u (ix2 r (gateCol 2 n))) (fun k : Fin 512 => halves (fun r k => nc (ix2 r k)) (fun r k => nl (ix2 r k)) r k) (fun k => wn (ix2 k n))

def whole (yp : FVec Ideal S8192x512 .bf16) (gc gl : FVec Ideal S4096x1024 .bf16) (nc nl : FVec Ideal S4096x512 .bf16)
    (wp : FVec Ideal S512x2048 .bf16) (wg : FVec Ideal S1024x2048 .bf16) (wn : FVec Ideal S512x2048 .bf16) (u : FVec Ideal S8192x6144 .bf16)
    (y : S8192x2048.Idx) : EReal := entry yp gc gl nc nl wp wg wn u (y 0) (y 1)

/-- What the kernel leaves in its result array. -/
theorem arr (c : Dev nD) : (dats m 0 c).arrAt 11 cfg0.N
    = whole (V m c main_arg0) (V m c main_arg1) (V m c main_arg2) (V m c main_arg3) (V m c main_arg4) (V m c main_v2) (V m c main_v5) (V m c main_v8) (V m c main_arg8) := by
  refine (dats m 0 c).arrAt_eq_of_covers 11 _ (by decide +kernel) fun t hf y => ?_
  blk_simp
  rw [after0_11, out_eq]
  obtain ⟨p, q, rfl⟩ : ∃ (p : Fin 1024) (q : Fin 1024), y = (ix2 p q : S1024x1024.Idx) := ⟨y 0, y 1, by idx_vars y⟩
  refine (pay_apply _ _ _ _ _ _ _ _ _ _ _ _ p q).trans ?_
  have e : win0_11.index t = ![t.val / 2, t.val % 2] := (idx t).2.2.2.2.2.2.2.2.2.2.2.1
  have h0 : (((win0_11.blk t).view.emb (ix2 p q : S1024x1024.Idx) : S8192x2048.Idx) 0) = rowOf t p := Fin.ext (by
    show win0_11.index t 0 * 1024 + 1 * p.val = 1024 * (t.val / 2) + p.val
    rw [e]
    show t.val / 2 * 1024 + 1 * p.val = _; omega)
  have h1 : (((win0_11.blk t).view.emb (ix2 p q : S1024x1024.Idx) : S8192x2048.Idx) 1) = colOf t q := Fin.ext (by
    show win0_11.index t 1 * 1024 + 1 * q.val = 1024 * (t.val % 2) + q.val
    rw [e]
    show t.val % 2 * 1024 + 1 * q.val = _; omega)
  unfold whole
  rw [h0, h1]
  exact congrArg₂ (fun a b : EReal => a + b)
    (congrArg₂ (fun a b : EReal => a + b)
      (branch_congr (read8 m c t p q) (fun k => read0 m c t p k) (fun k => read5 m c t k q))
      (branch_congr (read9 m c t p q) (fun k => rows_gdn m c t p k) (fun k => read6 m c t k q)))
    (branch_congr (read10 m c t p q) (fun k => rows_na m c t p k) (fun k => read7 m c t k q))

/-- A branch's weights, as the call takes them. -/
def half (w : FVec Ideal S2x512x2048 .f32) : FVec Ideal S512x2048 .bf16 :=
  truncf .bf16 (shapeCast S512x2048 (extractStridedSlice S1x512x2048 ![0, 0, 0] w slices_S2x512x2048_S1x512x2048_0_0_0) shapeCasts_S1x512x2048_S512x2048) bitsLt_bf16_f32
def full (w : FVec Ideal S2x1024x2048 .f32) : FVec Ideal S1024x2048 .bf16 :=
  truncf .bf16 (shapeCast S1024x2048 (extractStridedSlice S1x1024x2048 ![0, 0, 0] w slices_S2x1024x2048_S1x1024x2048_0_0_0) shapeCasts_S1x1024x2048_S1024x2048) bitsLt_bf16_f32

theorem half_apply (w : FVec Ideal S2x512x2048 .f32) (k : Fin 512) (n : Fin 2048) : half w (ix2 k n) = w (ix3 0 k n) := by
  pointwise [half]
theorem full_apply (w : FVec Ideal S2x1024x2048 .f32) (k : Fin 1024) (n : Fin 2048) : full w (ix2 k n) = w (ix3 0 k n) := by
  pointwise [full]

set_option maxHeartbeats 4000000 in
theorem V_pool (c : Dev nD) : (V m c main_v2 : FVec Ideal S512x2048 .bf16) = half (m (c, main_arg5)) := by
  simp only [V, hostOps0]
  run_tidy
  rfl

set_option maxHeartbeats 4000000 in
theorem V_gdn (c : Dev nD) : (V m c main_v5 : FVec Ideal S1024x2048 .bf16) = full (m (c, main_arg6)) := by
  simp only [V, hostOps0]
  run_tidy
  rfl

set_option maxHeartbeats 4000000 in
theorem V_na (c : Dev nD) : (V m c main_v8 : FVec Ideal S512x2048 .bf16) = half (m (c, main_arg7)) := by
  simp only [V, hostOps0]
  run_tidy
  rfl

/-- One entry of the result, over the layer's own arguments. -/
def value (yp : FVec Ideal S8192x512 .bf16) (gc gl : FVec Ideal S4096x1024 .bf16) (nc nl : FVec Ideal S4096x512 .bf16)
    (wp : FVec Ideal S2x512x2048 .f32) (wg : FVec Ideal S2x1024x2048 .f32) (wn : FVec Ideal S2x512x2048 .f32) (u : FVec Ideal S8192x6144 .bf16)
    (r : Fin 8192) (n : Fin 2048) : EReal :=
  branch (u (ix2 r (gateCol 0 n))) (fun k : Fin 512 => yp (ix2 r k)) (fun k => wp (ix3 0 k n))
    + branch (u (ix2 r (gateCol 1 n))) (fun k : Fin 1024 => halves (fun r k => gc (ix2 r k)) (fun r k => gl (ix2 r k)) r k) (fun k => wg (ix3 0 k n))
    + branch (u (ix2 r (gateCol 2 n))) (fun k : Fin 512 => halves (fun r k => nc (ix2 r k)) (fun r k => nl (ix2 r k)) r k) (fun k => wn (ix3 0 k n))

theorem arr_apply (c : Dev nD) (r : Fin 8192) (n : Fin 2048) :
    ((dats m 0 c).arrAt 11 cfg0.N : FVec Ideal S8192x2048 .bf16) (ix2 r n)
    = value (m (c, main_arg0)) (m (c, main_arg1)) (m (c, main_arg2)) (m (c, main_arg3)) (m (c, main_arg4)) (m (c, main_arg5)) (m (c, main_arg6)) (m (c, main_arg7)) (m (c, main_arg8)) r n := by
  rw [arr, V_pool, V_gdn, V_na, V_main_arg0, V_main_arg1, V_main_arg2, V_main_arg3, V_main_arg4, V_main_arg8]
  exact congrArg₂ (fun a b : EReal => a + b)
    (congrArg₂ (fun a b : EReal => a + b)
      (branch_congr rfl (fun _ => rfl) (fun k => half_apply _ k n))
      (branch_congr rfl (fun _ => rfl) (fun k => full_apply _ k n)))
    (branch_congr rfl (fun _ => rfl) (fun k => half_apply _ k n))

end Cert.MergeIdeal.Mm
-- ==== Proof.MergeR.lean ====
module

public import proofs.«01_k».proof.Proof.Gen.MergeRefIdeal.Run
public import Idealize.ShloMosaic.Lib.Pointwise

@[expose] public section

set_option maxRecDepth 16384

noncomputable section

namespace Cert.MergeRefIdeal.Mm

open Cert.MergeRefIdeal Cert.MergeRefIdeal.Gen Idealize.ShloMosaic Idealize.ShloMosaic.TcCoe Idealize.SL.Sem

variable (yp : FVec Ideal S8192x512 .bf16) (gc gl : FVec Ideal S4096x1024 .bf16) (nc nl : FVec Ideal S4096x512 .bf16)
  (wp : FVec Ideal S2x512x2048 .f32) (wg : FVec Ideal S2x1024x2048 .f32) (wn : FVec Ideal S2x512x2048 .f32) (u : FVec Ideal S8192x6144 .bf16)

/-- The gates of the three branches. -/
def gates : FVec Ideal S8192x3x2048 .f32 :=
  shapeCast _ (Host.divf (broadcastInDim S8192x6144 ![] bcast_S_S8192x6144 (constant S_ .f32 0x3F800000#32))
    (addf (broadcastInDim S8192x6144 ![] bcast_S_S8192x6144 (constant S_ .f32 0x3F800000#32)) (Host.exp (Host.negf (extf .f32 u bitsLt_bf16_f32))))) shapeCasts_S8192x6144_S8192x3x2048
def gate0 : FVec Ideal S8192x2048 .f32 := shapeCast _ (extractStridedSlice S8192x1x2048 ![0, 0, 0] (gates u) slices_S8192x3x2048_S8192x1x2048_0_0_0) shapeCasts_S8192x1x2048_S8192x2048
def gate1 : FVec Ideal S8192x2048 .f32 := shapeCast _ (extractStridedSlice S8192x1x2048 ![0, 1, 0] (gates u) slices_S8192x3x2048_S8192x1x2048_0_1_0) shapeCasts_S8192x1x2048_S8192x2048
def gate2 : FVec Ideal S8192x2048 .f32 := shapeCast _ (extractStridedSlice S8192x1x2048 ![0, 2, 0] (gates u) slices_S8192x3x2048_S8192x1x2048_0_2_0) shapeCasts_S8192x1x2048_S8192x2048

/-- A branch's product with its weights. -/
def mulHalf (y : FVec Ideal S8192x512 .bf16) (w : FVec Ideal S2x512x2048 .f32) : FVec Ideal S8192x2048 .f32 :=
  Host.dotGeneral (φ₁ := .f32) (φ₂ := .f32) dot_S8192x512_S512x2048_S8192x2048_1_0_0_1_n_n none (extf .f32 y bitsLt_bf16_f32)
    (shapeCast _ (extractStridedSlice S1x512x2048 ![0, 0, 0] w slices_S2x512x2048_S1x512x2048_0_0_0) shapeCasts_S1x512x2048_S512x2048)
def mulFull (y : FVec Ideal S8192x1024 .bf16) (w : FVec Ideal S2x1024x2048 .f32) : FVec Ideal S8192x2048 .f32 :=
  Host.dotGeneral (φ₁ := .f32) (φ₂ := .f32) dot_S8192x1024_S1024x2048_S8192x2048_1_0_0_1_n_n none (extf .f32 y bitsLt_bf16_f32)
    (shapeCast _ (extractStridedSlice S1x1024x2048 ![0, 0, 0] w slices_S2x1024x2048_S1x1024x2048_0_0_0) shapeCasts_S1x1024x2048_S1024x2048)

/-- A branch's rows of the two halves, one after the other. -/
def joinFull : FVec Ideal S8192x1024 .bf16 := concatenate S8192x1024 0 [⟨S4096x1024, gc⟩, ⟨S4096x1024, gl⟩] concatenates_S4096x1024_S4096x1024_S8192x1024_d0
def joinHalf : FVec Ideal S8192x512 .bf16 := concatenate S8192x512 0 [⟨S4096x512, nc⟩, ⟨S4096x512, nl⟩] concatenates_S4096x512_S4096x512_S8192x512_d0

/-- The reference's result. -/
def res : FVec Ideal S8192x2048 .bf16 :=
  truncf .bf16 (addf (addf (mulf (gate0 u) (mulHalf yp wp)) (mulf (gate1 u) (mulFull (joinFull gc gl) wg))) (mulf (gate2 u) (mulHalf (joinHalf nc nl) wn))) bitsLt_bf16_f32

def branch {K : ℕ} (g : EReal) (y w : Fin K → EReal) : EReal := Idealize.ShloMosaic.Ideal.logistic g * ∑ k : Fin K, y k * w k

def gateCol (b : Fin 3) (n : Fin 2048) : Fin 6144 := ⟨2048 * b.val + n.val, by omega⟩

def halves {K : ℕ} (a b : Fin 4096 → Fin K → EReal) (r : Fin 8192) (k : Fin K) : EReal :=
  if h : r.val < 4096 then a ⟨r.val, h⟩ k else b ⟨r.val - 4096, by omega⟩ k

theorem gates_apply (r : Fin 8192) (b : Fin 3) (n : Fin 2048) : gates u (ix3 r b n) = Idealize.ShloMosaic.Ideal.logistic (u (ix2 r (gateCol b n))) := by
  pointwise [gates]
  rw [show gateCol b n = ⟨b.val * 2048 + n.val, by omega⟩ from Fin.ext (by show 2048 * b.val + n.val = b.val * 2048 + n.val; omega)]
  rfl

theorem gate0_apply (r : Fin 8192) (n : Fin 2048) : gate0 u (ix2 r n) = gates u (ix3 r 0 n) := by
  pointwise [gate0]
theorem gate1_apply (r : Fin 8192) (n : Fin 2048) : gate1 u (ix2 r n) = gates u (ix3 r 1 n) := by
  pointwise [gate1]
theorem gate2_apply (r : Fin 8192) (n : Fin 2048) : gate2 u (ix2 r n) = gates u (ix3 r 2 n) := by
  pointwise [gate2]

theorem mulHalf_apply (y : FVec Ideal S8192x512 .bf16) (w : FVec Ideal S2x512x2048 .f32) (r : Fin 8192) (n : Fin 2048) :
    mulHalf y w (ix2 r n) = (∑ k : Fin 512, (y (ix2 r k) : EReal) * w (ix3 0 k n) : EReal) := by
  pointwise [mulHalf]
  all_goals rfl
theorem mulFull_apply (y : FVec Ideal S8192x1024 .bf16) (w : FVec Ideal S2x1024x2048 .f32) (r : Fin 8192) (n : Fin 2048) :
    mulFull y w (ix2 r n) = (∑ k : Fin 1024, (y (ix2 r k) : EReal) * w (ix3 0 k n) : EReal) := by
  pointwise [mulFull]
  all_goals rfl

theorem joinFull_apply (r : Fin 8192) (k : Fin 1024) : joinFull gc gl (ix2 r k) = halves (fun r k => gc (ix2 r k)) (fun r k => gl (ix2 r k)) r k := by
  unfold halves
  pointwise [joinFull]
theorem joinHalf_apply (r : Fin 8192) (k : Fin 512) : joinHalf nc nl (ix2 r k) = halves (fun r k => nc (ix2 r k)) (fun r k => nl (ix2 r k)) r k := by
  unfold halves
  pointwise [joinHalf]

/-- One entry of the result. -/
def value (r : Fin 8192) (n : Fin 2048) : EReal :=
  branch (u (ix2 r (gateCol 0 n))) (fun k : Fin 512 => yp (ix2 r k)) (fun k => wp (ix3 0 k n))
    + branch (u (ix2 r (gateCol 1 n))) (fun k : Fin 1024 => halves (fun r k => gc (ix2 r k)) (fun r k => gl (ix2 r k)) r k) (fun k => wg (ix3 0 k n))
    + branch (u (ix2 r (gateCol 2 n))) (fun k : Fin 512 => halves (fun r k => nc (ix2 r k)) (fun r k => nl (ix2 r k)) r k) (fun k => wn (ix3 0 k n))

theorem res_sum (r : Fin 8192) (n : Fin 2048) : res yp gc gl nc nl wp wg wn u (ix2 r n)
    = (gate0 u (ix2 r n) * mulHalf yp wp (ix2 r n) + gate1 u (ix2 r n) * mulFull (joinFull gc gl) wg (ix2 r n) + gate2 u (ix2 r n) * mulHalf (joinHalf nc nl) wn (ix2 r n) : EReal) := by
  pointwise [res]
  all_goals rfl

/-- One entry of the reference's result. -/
theorem res_apply (r : Fin 8192) (n : Fin 2048) : res yp gc gl nc nl wp wg wn u (ix2 r n) = value yp gc gl nc nl wp wg wn u r n := by
  rw [res_sum, gate0_apply, gate1_apply, gate2_apply, gates_apply, gates_apply, gates_apply, mulHalf_apply, mulFull_apply, mulHalf_apply]
  simp only [joinFull_apply, joinHalf_apply]
  rfl

end Cert.MergeRefIdeal.Mm
-- ==== Proof.MergeEq.lean ====
module

public import proofs.«01_k».proof.Defs
public import proofs.«01_k».proof.Proof.MergeK
public import proofs.«01_k».proof.Proof.MergeR
public import proofs.«01_k».proof.Proof.Gen.MergeIdeal.Value
public import Idealize.ShloMosaic.Adequacy
public import Idealize.ShloMosaic.Init

@[expose] public section

set_option maxRecDepth 16384

noncomputable section

namespace Cert.MergeEq

open Idealize.ShloMosaic Idealize.ShloMosaic.TcCoe Idealize.SL.Sem

/-- The reference runs and keeps its arguments. -/
theorem frame_ref : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

/-- The two programs' results agree where their arguments do. -/
theorem equal (m : (ℓ : Loc MergeIdeal.nD MergeIdeal.τ MergeIdeal.sig) → Buf (Elt Ideal) ℓ) (c : Dev MergeIdeal.nD)
    (yp : FVec Ideal MergeRefIdeal.S8192x512 .bf16) (gc : FVec Ideal MergeRefIdeal.S4096x1024 .bf16) (gl : FVec Ideal MergeRefIdeal.S4096x1024 .bf16) (nc : FVec Ideal MergeRefIdeal.S4096x512 .bf16) (nl : FVec Ideal MergeRefIdeal.S4096x512 .bf16)
    (wp : FVec Ideal MergeRefIdeal.S2x512x2048 .f32) (wg : FVec Ideal MergeRefIdeal.S2x1024x2048 .f32) (wn : FVec Ideal MergeRefIdeal.S2x512x2048 .f32) (u : FVec Ideal MergeRefIdeal.S8192x6144 .bf16)
    (h0 : yp = m (c, MergeIdeal.main_arg0)) (h1 : gc = m (c, MergeIdeal.main_arg1)) (h2 : gl = m (c, MergeIdeal.main_arg2)) (h3 : nc = m (c, MergeIdeal.main_arg3)) (h4 : nl = m (c, MergeIdeal.main_arg4))
    (h5 : wp = m (c, MergeIdeal.main_arg5)) (h6 : wg = m (c, MergeIdeal.main_arg6)) (h7 : wn = m (c, MergeIdeal.main_arg7)) (h8 : u = m (c, MergeIdeal.main_arg8)) :
    MergeRefIdeal.Mm.res yp gc gl nc nl wp wg wn u = ((MergeIdeal.Gen.dats m 0 c).arrAt 11 MergeIdeal.cfg0.N : FVec Ideal MergeIdeal.S8192x2048 .bf16) := by
  funext y
  obtain ⟨r, n, rfl⟩ : ∃ (r : Fin 8192) (n : Fin 2048), y = ix2 r n := ⟨y 0, y 1, by idx_vars y⟩
  refine (MergeRefIdeal.Mm.res_apply yp gc gl nc nl wp wg wn u r n).trans (Eq.trans ?_ (MergeIdeal.Mm.arr_apply m c r n).symm)
  rw [← h0, ← h1, ← h2, ← h3, ← h4, ← h5, ← h6, ← h7, ← h8]
  rfl

/-- The two programs end with equal results. -/
theorem algebraic : Cert.algebraic_MergeIdeal_MergeRefIdeal := by
  intro m g m' g' _ ha
  refine ⟨fun c => (Cert.MergeIdeal.Gen.dats m 0 c).arrAt 11 Cert.MergeIdeal.cfg0.N, Cert.MergeIdeal.Value.run_blocks (F := Ideal) m g, ?_⟩
  refine (θ_run Cert.MergeRefIdeal.defs _ _).mono (fun r h c => ⟨(h c).1.trans ?_, (h c).2⟩) (Cert.MergeRefIdeal.Value.run (F := Ideal) m' g')
  exact equal m c _ _ _ _ _ _ _ _ _ (ha c).1 (ha c).2.1 (ha c).2.2.1 (ha c).2.2.2.1 (ha c).2.2.2.2.1 (ha c).2.2.2.2.2.1 (ha c).2.2.2.2.2.2.1 (ha c).2.2.2.2.2.2.2.1 (ha c).2.2.2.2.2.2.2.2

end Cert.MergeEq
-- ==== Proof.Rms.lean ====
module

public import Idealize.ShloMosaic.Lib.Pointwise

@[expose] public section

noncomputable section

namespace Cert.Rms

open Idealize.ShloMosaic

/-- A row's entry over the root of the row's mean square, times its weight. -/
def rms (row : Fin 2048 → EReal) (n : Fin 2048) (g : EReal) : EReal :=
  row n * Ideal.rsqrt (Ideal.div (∑ k : Fin 2048, row k * row k) (Ideal.ofBits FTy.f32 1157627904#32) + Ideal.ofBits FTy.f32 897988541#32) * g

/-- The entry scaled and shifted. -/
def scaled (row : Fin 2048 → EReal) (n : Fin 2048) (g s h : EReal) : EReal := rms row n g * (1 + s) + h

theorem rms_congr {row row' : Fin 2048 → EReal} (n : Fin 2048) {g g' : EReal} (hr : ∀ k, row k = row' k) (hg : g = g') :
    rms row n g = rms row' n g' := by
  rw [show row = row' from funext hr, hg]

theorem scaled_congr {row row' : Fin 2048 → EReal} (n : Fin 2048) {g g' s s' h h' : EReal} (hr : ∀ k, row k = row' k) (hg : g = g')
    (hs : s = s') (hh : h = h') : scaled row n g s h = scaled row' n g' s' h' := by
  rw [show row = row' from funext hr, hg, hs, hh]

end Cert.Rms
-- ==== Proof.NormK.lean ====
module

public import proofs.«01_k».proof.Proof.Gen.NormIdeal.Value
public import proofs.«01_k».proof.Proof.Rms
public import Idealize.ShloMosaic.Lib.Pointwise
public import Idealize.ShloMosaic.Lib.Pipeline.ValueKit

@[expose] public section

set_option maxRecDepth 16384

noncomputable section

namespace Cert.NormIdeal.Mm

open Cert.NormIdeal Cert.NormIdeal.Gen Cert.Rms Idealize.ShloMosaic Idealize.ShloMosaic.TcCoe Idealize.SL.Sem

/-- One entry of a block. -/
theorem pay_apply (x : FVec Ideal S512x2048 .f32) (g : FVec Ideal S1x2048 .f32) (s h : FVec Ideal S1x1x2048 .f32) (p : Fin 512) (q : Fin 2048) :
    k0_pay1 (F := Ideal) x g s h (ix2 p q) = scaled (fun k => x (ix2 p k)) q (g (ix2 0 q)) (s (ix3 0 0 q)) (h (ix3 0 0 q)) := by
  unfold scaled rms
  pointwise [k0_pay1]

theorem out_eq (x : FVec Ideal S512x2048 .f32) (g : FVec Ideal S1x2048 .f32) (s h : FVec Ideal S1x1x2048 .f32) :
    out0_4 (F := Ideal) x g s h = k0_pay1 (F := Ideal) x g s h := by
  unfold out0_4
  rw [View.canon_cons_unit_lit _ _ _ (by decide), View.ld_unit_lit _ _ (by decide), View.ld_unit_lit _ _ (by decide), View.ld_unit_lit _ _ (by decide), View.ld_unit_lit _ _ (by decide)]

variable (m : (ℓ : Loc nD τ sig) → Buf (Elt Ideal) ℓ)

theorem idx : ∀ t : Fin cfg0.N, win0_0.index t = ![t.val, 0] ∧ win0_1.index t = ![0, 0]
    ∧ win0_2.index t = ![t.val / 4, 0, 0] ∧ win0_3.index t = ![t.val / 4, 0, 0]
    ∧ win0_4.index t = ![t.val, 0] ∧ t.val < 16 :=
  (by decide +kernel : ∀ t : Fin grid0.N, _)

def rowOf (t : Fin cfg0.N) (p : Fin 512) : Fin 8192 := ⟨512 * t.val + p.val, by have := (idx t).2.2.2.2.2; omega⟩

theorem read0 (c : Dev nD) (t : Fin cfg0.N) (p : Fin 512) (k : Fin 2048) :
    iblk m c 0 t (ix2 p k : S512x2048.Idx) = V m c main_arg0 (ix2 (rowOf t p) k : S8192x2048.Idx) := by
  have e : (rowOf t p).val = 512 * t.val + p.val := rfl
  blk_ext [iblk, idx t, e]

theorem read1 (c : Dev nD) (t : Fin cfg0.N) (q : Fin 2048) :
    iblk m c 1 t (ix2 0 q : S1x2048.Idx) = V m c main_v2 (ix2 0 q : S1x2048.Idx) := by
  blk_ext [iblk, idx t]

theorem read2 (c : Dev nD) (t : Fin cfg0.N) (p : Fin 512) (q : Fin 2048) (h : (rowOf t p).val / 2048 < 4) :
    iblk m c 2 t (ix3 0 0 q : S1x1x2048.Idx) = V m c main_arg2 (ix3 ⟨(rowOf t p).val / 2048, h⟩ 0 q : S4x1x2048.Idx) := by
  have e1 : (rowOf t p).val / 2048 = t.val / 4 := by show (512 * t.val + p.val) / 2048 = _; omega
  blk_ext [iblk, idx t, e1]

theorem read3 (c : Dev nD) (t : Fin cfg0.N) (p : Fin 512) (q : Fin 2048) (h : (rowOf t p).val / 2048 < 4) :
    iblk m c 3 t (ix3 0 0 q : S1x1x2048.Idx) = V m c main_arg3 (ix3 ⟨(rowOf t p).val / 2048, h⟩ 0 q : S4x1x2048.Idx) := by
  have e1 : (rowOf t p).val / 2048 = t.val / 4 := by show (512 * t.val + p.val) / 2048 = _; omega
  blk_ext [iblk, idx t, e1]

/-- One entry of the result, the weights as the call takes them. -/
def entry (x : FVec Ideal S8192x2048 .f32) (g : FVec Ideal S1x2048 .f32) (s h : FVec Ideal S4x1x2048 .f32) (r : Fin 8192) (n : Fin 2048) : EReal :=
  scaled (fun k => x (ix2 r k)) n (g (ix2 0 n)) (s (ix3 ⟨r.val / 2048, by omega⟩ 0 n)) (h (ix3 ⟨r.val / 2048, by omega⟩ 0 n))

def whole (x : FVec Ideal S8192x2048 .f32) (g : FVec Ideal S1x2048 .f32) (s h : FVec Ideal S4x1x2048 .f32) (y : S8192x2048.Idx) : EReal :=
  entry x g s h (y 0) (y 1)

/-- What the kernel leaves in its result array. -/
theorem arr (c : Dev nD) : (dats m 0 c).arrAt 4 cfg0.N = whole (V m c main_arg0) (V m c main_v2) (V m c main_arg2) (V m c main_arg3) := by
  refine (dats m 0 c).arrAt_eq_of_covers 4 _ (by decide +kernel) fun t hf y => ?_
  blk_simp
  rw [after0_4, out_eq]
  obtain ⟨p, q, rfl⟩ : ∃ (p : Fin 512) (q : Fin 2048), y = (ix2 p q : S512x2048.Idx) := ⟨y 0, y 1, by idx_vars y⟩
  refine (pay_apply _ _ _ _ p q).trans ?_
  have h0 : (((win0_4.blk t).view.emb (ix2 p q : S512x2048.Idx) : S8192x2048.Idx) 0) = rowOf t p := Fin.ext (by
    show win0_4.index t 0 * 512 + 1 * p.val = 512 * t.val + p.val
    rw [(idx t).2.2.2.2.1]
    show t.val * 512 + 1 * p.val = _; omega)
  have h1 : (((win0_4.blk t).view.emb (ix2 p q : S512x2048.Idx) : S8192x2048.Idx) 1) = q := Fin.ext (by
    show win0_4.index t 1 * 2048 + 1 * q.val = q.val
    rw [(idx t).2.2.2.2.1]
    show 0 * 2048 + 1 * q.val = _; omega)
  unfold whole
  rw [h0, h1]
  exact scaled_congr q (fun k => read0 m c t p k) (read1 m c t q) (read2 m c t p q _) (read3 m c t p q _)

/-- The layer's weights, as the call takes them. -/
def weights (g : FVec Ideal S2x2048 .f32) : FVec Ideal S1x2048 .f32 :=
  shapeCast S1x2048 (shapeCast S2048 (extractStridedSlice S1x2048 ![0, 0] g slices_S2x2048_S1x2048_0_0) shapeCasts_S1x2048_S2048) shapeCasts_S2048_S1x2048

theorem weights_apply (g : FVec Ideal S2x2048 .f32) (n : Fin 2048) : weights g (ix2 0 n) = g (ix2 0 n) := by
  pointwise [weights]

set_option maxHeartbeats 4000000 in
theorem V_weights (c : Dev nD) : (V m c main_v2 : FVec Ideal S1x2048 .f32) = weights (m (c, main_arg1)) := by
  simp only [V, hostOps0]
  run_tidy
  rfl

theorem arr_apply (c : Dev nD) (r : Fin 8192) (n : Fin 2048) (x : FVec Ideal S8192x2048 .f32) (g : FVec Ideal S2x2048 .f32) (s h : FVec Ideal S4x1x2048 .f32)
    (h0 : x = m (c, main_arg0)) (h1 : g = m (c, main_arg1)) (h2 : s = m (c, main_arg2)) (h3 : h = m (c, main_arg3)) :
    ((dats m 0 c).arrAt 4 cfg0.N : FVec Ideal S8192x2048 .bf16) (ix2 r n)
    = scaled (fun k => x (ix2 r k)) n (g (ix2 0 n)) (s (ix3 ⟨r.val / 2048, by omega⟩ 0 n)) (h (ix3 ⟨r.val / 2048, by omega⟩ 0 n)) := by
  subst h0 h1 h2 h3
  rw [arr, V_weights, V_main_arg0, V_main_arg2, V_main_arg3]
  exact scaled_congr n (fun _ => rfl) (weights_apply _ n) rfl rfl

end Cert.NormIdeal.Mm
-- ==== Proof.NormR.lean ====
module

public import proofs.«01_k».proof.Proof.Gen.NormRefIdeal.Run
public import proofs.«01_k».proof.Proof.Rms
public import Idealize.ShloMosaic.Lib.Pointwise

@[expose] public section

set_option maxRecDepth 16384

noncomputable section

namespace Cert.NormRefIdeal.Mm

open Cert.NormRefIdeal Cert.NormRefIdeal.Gen Cert.Rms Idealize.ShloMosaic Idealize.ShloMosaic.TcCoe Idealize.SL.Sem

variable (x : FVec Ideal S8192x2048 .f32) (g : FVec Ideal S2x2048 .f32) (s h : FVec Ideal S4x1x2048 .f32)

/-- The rows over the roots of their mean squares. -/
def unit : FVec Ideal S8192x2048 .f32 :=
  mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32)))))

/-- A group's vector at each of its rows. -/
def spread (v : FVec Ideal S4x1x2048 .f32) : FVec Ideal S8192x2048 .f32 :=
  shapeCast _ (broadcastInDim S4x2048x2048 ![0, 1, 2] bcast_S4x1x2048_S4x2048x2048_0_1_2 v) shapeCasts_S4x2048x2048_S8192x2048

/-- The reference's result. -/
def res : FVec Ideal S8192x2048 .bf16 :=
  truncf .bf16 (addf (mulf (mulf (unit x) (broadcastInDim S8192x2048 ![0, 1] bcast_S1x2048_S8192x2048_0_1 (broadcastInDim S1x2048 ![1] bcast_S2048_S1x2048_1
    (shapeCast _ (extractStridedSlice S1x2048 ![0, 0] g slices_S2x2048_S1x2048_0_0) shapeCasts_S1x2048_S2048))))
    (addf (broadcastInDim S8192x2048 ![] bcast_S_S8192x2048 (constant S_ .f32 0x3F800000#32)) (spread s))) (spread h)) bitsLt_bf16_f32

/-- One entry of it. -/
theorem res_apply (r : Fin 8192) (n : Fin 2048) : res x g s h (ix2 r n)
    = scaled (fun k => x (ix2 r k)) n (g (ix2 0 n)) (s (ix3 ⟨r.val / 2048, by omega⟩ 0 n)) (h (ix3 ⟨r.val / 2048, by omega⟩ 0 n)) := by
  unfold scaled rms
  pointwise [res, unit, spread]

end Cert.NormRefIdeal.Mm
-- ==== Proof.NormEq.lean ====
module

public import proofs.«01_k».proof.Defs
public import proofs.«01_k».proof.Proof.NormK
public import proofs.«01_k».proof.Proof.NormR
public import proofs.«01_k».proof.Proof.Gen.NormIdeal.Value
public import Idealize.ShloMosaic.Adequacy
public import Idealize.ShloMosaic.Init

@[expose] public section

set_option maxRecDepth 16384

noncomputable section

namespace Cert.NormEq

open Idealize.ShloMosaic Idealize.ShloMosaic.TcCoe Idealize.SL.Sem

/-- The reference runs and keeps its arguments. -/
theorem frame_ref : Cert.quiescent_NormRefIdeal := fun m g _ =>
  (θ_run Cert.NormRefIdeal.defs _ _).mono (fun r h => ⟨fun c => (h c).2, sem_eq_zero_of_no_sems (by decide) r.2⟩)
    (Cert.NormRefIdeal.Value.run (F := Ideal) m g)

/-- The two programs' results agree where their arguments do. -/
theorem equal (m : (ℓ : Loc NormIdeal.nD NormIdeal.τ NormIdeal.sig) → Buf (Elt Ideal) ℓ) (c : Dev NormIdeal.nD)
    (x : FVec Ideal NormRefIdeal.S8192x2048 .f32) (w : FVec Ideal NormRefIdeal.S2x2048 .f32) (s h : FVec Ideal NormRefIdeal.S4x1x2048 .f32)
    (h0 : x = m (c, NormIdeal.main_arg0)) (h1 : w = m (c, NormIdeal.main_arg1))
    (h2 : s = m (c, NormIdeal.main_arg2)) (h3 : h = m (c, NormIdeal.main_arg3)) :
    NormRefIdeal.Mm.res x w s h = ((NormIdeal.Gen.dats m 0 c).arrAt 4 NormIdeal.cfg0.N : FVec Ideal NormIdeal.S8192x2048 .bf16) := by
  funext y
  obtain ⟨r, n, rfl⟩ : ∃ (r : Fin 8192) (n : Fin 2048), y = ix2 r n := ⟨y 0, y 1, by idx_vars y⟩
  exact (NormRefIdeal.Mm.res_apply x w s h r n).trans (NormIdeal.Mm.arr_apply m c r n x w s h h0 h1 h2 h3).symm

/-- The two programs end with equal results. -/
theorem algebraic : Cert.algebraic_NormIdeal_NormRefIdeal := by
  intro m g m' g' _ ha
  refine ⟨fun c => (Cert.NormIdeal.Gen.dats m 0 c).arrAt 4 Cert.NormIdeal.cfg0.N, Cert.NormIdeal.Value.run_blocks (F := Ideal) m g, ?_⟩
  refine (θ_run Cert.NormRefIdeal.defs _ _).mono (fun r h c => ⟨(h c).1.trans ?_, (h c).2⟩) (Cert.NormRefIdeal.Value.run (F := Ideal) m' g')
  exact equal m c _ _ _ _ (ha c).1 (ha c).2.1 (ha c).2.2.1 (ha c).2.2.2

end Cert.NormEq
-- ==== Proof.PromptK.lean ====
module

public import proofs.«01_k».proof.Proof.Gen.PromptIdeal.Frame
public import proofs.«01_k».proof.Proof.Rms
public import Idealize.ShloMosaic.Lib.Pointwise
public import Idealize.ShloMosaic.Lib.Pipeline.Value
public import Idealize.ShloMosaic.Lib.Pipeline.ValueKit
public import Idealize.ShloMosaic.Lib.Claim

@[expose] public section

set_option maxRecDepth 16384

noncomputable section

namespace Cert.PromptIdeal.Mm

open Cert.PromptIdeal Cert.PromptIdeal.Gen Cert.Rms Idealize.ShloMosaic Idealize.ShloMosaic.TcCoe Idealize.SL.Sem

/-- One entry of a block. -/
theorem pay_apply (x : FVec Ideal S512x2048 .f32) (g : FVec Ideal S1x2048 .f32) (p : Fin 512) (q : Fin 2048) :
    k0_pay1 (F := Ideal) x g (ix2 p q) = rms (fun k => x (ix2 p k)) q (g (ix2 0 q)) := by
  unfold rms
  pointwise [k0_pay1]

theorem out_eq (x : FVec Ideal S512x2048 .f32) (g : FVec Ideal S1x2048 .f32) : out0_2 (F := Ideal) x g = k0_pay1 (F := Ideal) x g := by
  unfold out0_2
  rw [View.canon_cons_unit_lit _ _ _ (by decide), View.ld_unit_lit _ _ (by decide), View.ld_unit_lit _ _ (by decide)]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 8 :=
  (by decide +kernel : ∀ t : Fin grid0.N, _)

/-- A block's row among the context tokens'. -/
def rowOf (t : Fin cfg0.N) (p : Fin 512) : Fin 4096 := ⟨512 * t.val + p.val, by have := (idx t).2.2.2; omega⟩

/-- A context token's row among all tokens'. -/
def tok (r : Fin 4096) : Fin 8192 := ⟨r.val, by omega⟩

theorem read0 (c : Dev nD) (t : Fin cfg0.N) (p : Fin 512) (k : Fin 2048) :
    iblk m c 0 t (ix2 p k : S512x2048.Idx) = V m c main_arg0 (ix2 (tok (rowOf t p)) k : S8192x2048.Idx) := by
  have e : (tok (rowOf t p)).val = 512 * t.val + p.val := rfl
  blk_ext [iblk, idx t, e]

theorem read1 (c : Dev nD) (t : Fin cfg0.N) (q : Fin 2048) :
    iblk m c 1 t (ix2 0 q : S1x2048.Idx) = V m c main_v0 (ix2 0 q : S1x2048.Idx) := by
  blk_ext [iblk, idx t]

def whole (x : FVec Ideal S8192x2048 .f32) (g : FVec Ideal S1x2048 .f32) (y : S4096x2048.Idx) : EReal :=
  rms (fun k => x (ix2 (tok (y 0)) k)) (y 1) (g (ix2 0 (y 1)))

/-- What the kernel leaves in its result array. -/
theorem arr (c : Dev nD) : (dats m 0 c).arrAt 2 cfg0.N = whole (V m c main_arg0) (V m c main_v0) := by
  refine (dats m 0 c).arrAt_eq_of_covers 2 _ (by decide +kernel) fun t hf y => ?_
  blk_simp
  rw [after0_2, out_eq]
  obtain ⟨p, q, rfl⟩ : ∃ (p : Fin 512) (q : Fin 2048), y = (ix2 p q : S512x2048.Idx) := ⟨y 0, y 1, by idx_vars y⟩
  refine (pay_apply _ _ p q).trans ?_
  have h0 : (((win0_2.blk t).view.emb (ix2 p q : S512x2048.Idx) : S4096x2048.Idx) 0) = rowOf t p := Fin.ext (by
    show win0_2.index t 0 * 512 + 1 * p.val = 512 * t.val + p.val
    rw [(idx t).2.2.1]
    show t.val * 512 + 1 * p.val = _; omega)
  have h1 : (((win0_2.blk t).view.emb (ix2 p q : S512x2048.Idx) : S4096x2048.Idx) 1) = q := Fin.ext (by
    show win0_2.index t 1 * 2048 + 1 * q.val = q.val
    rw [(idx t).2.2.1]
    show 0 * 2048 + 1 * q.val = _; omega)
  unfold whole
  rw [h0, h1]
  exact rms_congr q (fun k => read0 m c t p k) (read1 m c t q)

def weights (g : FVec Ideal S2048 .f32) : FVec Ideal S1x2048 .f32 := shapeCast S1x2048 g shapeCasts_S2048_S1x2048

theorem weights_apply (g : FVec Ideal S2048 .f32) (n : Fin 2048) : weights g (ix2 0 n) = g (ix1 n) := by
  pointwise [weights]

set_option maxHeartbeats 4000000 in
theorem V_weights (c : Dev nD) : (V m c main_v0 : FVec Ideal S1x2048 .f32) = weights (m (c, main_arg1)) := by
  simp only [V, hostOps0]
  run_tidy
  rfl

theorem arr_apply (c : Dev nD) (r : Fin 4096) (n : Fin 2048) (x : FVec Ideal S8192x2048 .f32) (g : FVec Ideal S2048 .f32)
    (h0 : x = m (c, main_arg0)) (h1 : g = m (c, main_arg1)) :
    ((dats m 0 c).arrAt 2 cfg0.N : FVec Ideal S4096x2048 .f32) (ix2 r n) = rms (fun k => x (ix2 (tok r) k)) n (g (ix1 n)) := by
  subst h0 h1
  rw [arr, V_weights, V_main_arg0]
  exact rms_congr n (fun _ => rfl) (weights_apply _ n)

/-- The result array as sequences. -/
def seqs (a : FVec Ideal S4096x2048 .f32) : FVec Ideal S16x256x2048 .f32 := shapeCast S16x256x2048 a shapeCasts_S4096x2048_S16x256x2048

theorem seqs_apply (a : FVec Ideal S4096x2048 .f32) (b : Fin 16) (t : Fin 256) (n : Fin 2048) :
    seqs a (ix3 b t n) = a (ix2 ⟨b.val * 256 + t.val, by omega⟩ n) := by
  pointwise [seqs]

set_option maxHeartbeats 4000000 in
/-- What the reshape after the call leaves. -/
theorem tail (c : Dev nD) : Pipeline.afterTail₀ cfgs (dats m) 0 (V0 m) [hostOps1] c main_v2
    = seqs ((dats m 0 c).arrAt 2 cfg0.N : FVec Ideal S4096x2048 .f32) := by
  have e := Pipeline.withArrays_arr (cfgs 0).spec (by decide +kernel) c (V0 m c) (fun w => (dats m 0 c).arrAt w (cfgs 0).N) 2
  unfold Pipeline.afterTail₀
  simp only [hostOps1, List.flatten_cons, List.flatten_nil, List.append_nil]
  run_tidy
  exact congrArg seqs e

/-- The call's run: its result array as sequences, and its arguments kept. -/
theorem run_res (ρ : Dev nD → PrngReg) : θ_run defs (onTc (τ := τ) (main (F := Ideal))) ⟨m, fun _ => 0, ρ⟩ fun r => ∀ c : Dev nD,
      r.2.mem ((c.tc : Thread nD τ).loc main_v2) = seqs ((dats m 0 c).arrAt 2 cfg0.N : FVec Ideal S4096x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h.1 c).2 main_v2 (Pipeline.mem_restRefs_of main_v2 (by decide) (by decide))).trans (tail m c), h.2 c⟩)
    (θ_run_and (run_main m ρ) (unchanged m ρ))

end Cert.PromptIdeal.Mm
-- ==== Proof.PromptR.lean ====
module

public import proofs.«01_k».proof.Proof.Gen.PromptRefIdeal.Run
public import proofs.«01_k».proof.Proof.Rms
public import Idealize.ShloMosaic.Lib.Pointwise

@[expose] public section

set_option maxRecDepth 16384

noncomputable section

namespace Cert.PromptRefIdeal.Mm

open Cert.PromptRefIdeal Cert.PromptRefIdeal.Gen Cert.Rms Idealize.ShloMosaic Idealize.ShloMosaic.TcCoe Idealize.SL.Sem

variable (x : FVec Ideal S8192x2048 .f32) (g : FVec Ideal S2048 .f32)

/-- The context tokens' rows. -/
def rows : FVec Ideal S4096x2048 .f32 := extractStridedSlice S4096x2048 ![0, 0] x slices_S8192x2048_S4096x2048_0_0

/-- The same as sequences. -/
def seqs : FVec Ideal S16x256x2048 .f32 := shapeCast S16x256x2048 (rows x) shapeCasts_S4096x2048_S16x256x2048

/-- The reference's result. -/
def res : FVec Ideal S16x256x2048 .f32 :=
  mulf (mulf (seqs x) (broadcastInDim S16x256x2048 ![0, 1, 2] bcast_S16x256x1_S16x256x2048_0_1_2 (Host.rsqrt (addf (Host.divf (broadcastInDim S16x256x1 ![0, 1] bcast_S16x256_S16x256x1_0_1
    (Host.reduceAdd (mulf (seqs x) (seqs x)) (constant S_ .f32 0x00000000#32) reducesTo_S16x256x2048_S16x256_d2 h_S_)) (broadcastInDim S16x256x1 ![] bcast_S_S16x256x1 (constant S_ .f32 0x45000000#32)))
    (broadcastInDim S16x256x1 ![] bcast_S_S16x256x1 (constant S_ .f32 0x358637BD#32))))))
    (broadcastInDim S16x256x2048 ![0, 1, 2] bcast_S1x1x2048_S16x256x2048_0_1_2 (broadcastInDim S1x1x2048 ![2] bcast_S2048_S1x1x2048_2 g))

theorem seqs_apply (b : Fin 16) (t : Fin 256) (n : Fin 2048) :
    seqs x (ix3 b t n) = x (ix2 ⟨b.val * 256 + t.val, by omega⟩ n) := by
  pointwise [seqs, rows]

/-- One entry of it. -/
theorem res_apply (b : Fin 16) (t : Fin 256) (n : Fin 2048) :
    res x g (ix3 b t n) = rms (fun k => x (ix2 ⟨b.val * 256 + t.val, by omega⟩ k)) n (g (ix1 n)) := by
  unfold rms
  pointwise [res, seqs_apply]

end Cert.PromptRefIdeal.Mm
-- ==== Proof.PromptEq.lean ====
module

public import proofs.«01_k».proof.Defs
public import proofs.«01_k».proof.Proof.PromptK
public import proofs.«01_k».proof.Proof.PromptR
public import Idealize.ShloMosaic.Adequacy
public import Idealize.ShloMosaic.Init

@[expose] public section

set_option maxRecDepth 16384

noncomputable section

namespace Cert.PromptEq

open Idealize.ShloMosaic Idealize.ShloMosaic.TcCoe Idealize.SL.Sem

/-- The reference runs and keeps its arguments. -/
theorem frame_ref : Cert.quiescent_PromptRefIdeal := fun m g _ =>
  (θ_run Cert.PromptRefIdeal.defs _ _).mono (fun r h => ⟨fun c => (h c).2, sem_eq_zero_of_no_sems (by decide) r.2⟩)
    (Cert.PromptRefIdeal.Value.run (F := Ideal) m g)

/-- The two programs' results agree where their arguments do. -/
theorem equal (m : (ℓ : Loc PromptIdeal.nD PromptIdeal.τ PromptIdeal.sig) → Buf (Elt Ideal) ℓ) (c : Dev PromptIdeal.nD)
    (x : FVec Ideal PromptRefIdeal.S8192x2048 .f32) (g : FVec Ideal PromptRefIdeal.S2048 .f32)
    (h0 : x = m (c, PromptIdeal.main_arg0)) (h1 : g = m (c, PromptIdeal.main_arg1)) :
    PromptRefIdeal.Mm.res x g = PromptIdeal.Mm.seqs (PromptIdeal.Gen.dats m 0 c |>.arrAt 2 PromptIdeal.cfg0.N) := by
  funext y
  obtain ⟨b, t, n, rfl⟩ : ∃ (b : Fin 16) (t : Fin 256) (n : Fin 2048), y = ix3 b t n := ⟨y 0, y 1, y 2, by idx_vars y⟩
  exact (PromptRefIdeal.Mm.res_apply x g b t n).trans ((PromptIdeal.Mm.seqs_apply _ b t n).trans (PromptIdeal.Mm.arr_apply m c _ n x g h0 h1)).symm

/-- The two programs end with equal results. -/
theorem algebraic : Cert.algebraic_PromptIdeal_PromptRefIdeal := by
  intro m g m' g' _ ha
  refine ⟨fun c => PromptIdeal.Mm.seqs ((Cert.PromptIdeal.Gen.dats m 0 c).arrAt 2 Cert.PromptIdeal.cfg0.N), Cert.PromptIdeal.Mm.run_res m g, ?_⟩
  refine (θ_run Cert.PromptRefIdeal.defs _ _).mono (fun r h c => ⟨(h c).1.trans ?_, (h c).2⟩) (Cert.PromptRefIdeal.Value.run (F := Ideal) m' g')
  exact equal m c _ _ (ha c).1 (ha c).2

end Cert.PromptEq
-- ==== Proof.SampleK.lean ====
module

public import proofs.«01_k».proof.Proof.Gen.SampleIdeal.Frame
public import proofs.«01_k».proof.Proof.Rms
public import Idealize.ShloMosaic.Lib.Pointwise
public import Idealize.ShloMosaic.Lib.Pipeline.Value
public import Idealize.ShloMosaic.Lib.Pipeline.ValueKit
public import Idealize.ShloMosaic.Lib.Claim

@[expose] public section

set_option maxRecDepth 16384

noncomputable section

namespace Cert.SampleIdeal.Mm

open Cert.SampleIdeal Cert.SampleIdeal.Gen Cert.Rms Idealize.ShloMosaic Idealize.ShloMosaic.TcCoe Idealize.SL.Sem

/-- One entry of a block. -/
theorem pay_apply (x : FVec Ideal S512x2048 .f32) (g : FVec Ideal S1x2048 .f32) (p : Fin 512) (q : Fin 2048) :
    k0_pay1 (F := Ideal) x g (ix2 p q) = rms (fun k => x (ix2 p k)) q (g (ix2 0 q)) := by
  unfold rms
  pointwise [k0_pay1]

theorem out_eq (x : FVec Ideal S512x2048 .f32) (g : FVec Ideal S1x2048 .f32) : out0_2 (F := Ideal) x g = k0_pay1 (F := Ideal) x g := by
  unfold out0_2
  rw [View.canon_cons_unit_lit _ _ _ (by decide), View.ld_unit_lit _ _ (by decide), View.ld_unit_lit _ _ (by decide)]

variable (m : (ℓ : Loc nD τ sig) → Buf (Elt Ideal) ℓ)

theorem idx : ∀ t : Fin cfg0.N, win0_0.index t = ![t.val + 8, 0] ∧ win0_1.index t = ![0, 0] ∧ win0_2.index t = ![t.val, 0] ∧ t.val < 8 :=
  (by decide +kernel : ∀ t : Fin grid0.N, _)

/-- A block's row among the latent tokens'. -/
def rowOf (t : Fin cfg0.N) (p : Fin 512) : Fin 4096 := ⟨512 * t.val + p.val, by have := (idx t).2.2.2; omega⟩

/-- A latent token's row among all tokens'. -/
def tok (r : Fin 4096) : Fin 8192 := ⟨4096 + r.val, by omega⟩

theorem read0 (c : Dev nD) (t : Fin cfg0.N) (p : Fin 512) (k : Fin 2048) :
    iblk m c 0 t (ix2 p k : S512x2048.Idx) = V m c main_arg0 (ix2 (tok (rowOf t p)) k : S8192x2048.Idx) := by
  have e : (tok (rowOf t p)).val = 4096 + (512 * t.val + p.val) := rfl
  blk_ext [iblk, idx t, e]

theorem read1 (c : Dev nD) (t : Fin cfg0.N) (q : Fin 2048) :
    iblk m c 1 t (ix2 0 q : S1x2048.Idx) = V m c main_v0 (ix2 0 q : S1x2048.Idx) := by
  blk_ext [iblk, idx t]

def whole (x : FVec Ideal S8192x2048 .f32) (g : FVec Ideal S1x2048 .f32) (y : S4096x2048.Idx) : EReal :=
  rms (fun k => x (ix2 (tok (y 0)) k)) (y 1) (g (ix2 0 (y 1)))

/-- What the kernel leaves in its result array. -/
theorem arr (c : Dev nD) : (dats m 0 c).arrAt 2 cfg0.N = whole (V m c main_arg0) (V m c main_v0) := by
  refine (dats m 0 c).arrAt_eq_of_covers 2 _ (by decide +kernel) fun t hf y => ?_
  blk_simp
  rw [after0_2, out_eq]
  obtain ⟨p, q, rfl⟩ : ∃ (p : Fin 512) (q : Fin 2048), y = (ix2 p q : S512x2048.Idx) := ⟨y 0, y 1, by idx_vars y⟩
  refine (pay_apply _ _ p q).trans ?_
  have h0 : (((win0_2.blk t).view.emb (ix2 p q : S512x2048.Idx) : S4096x2048.Idx) 0) = rowOf t p := Fin.ext (by
    show win0_2.index t 0 * 512 + 1 * p.val = 512 * t.val + p.val
    rw [(idx t).2.2.1]
    show t.val * 512 + 1 * p.val = _; omega)
  have h1 : (((win0_2.blk t).view.emb (ix2 p q : S512x2048.Idx) : S4096x2048.Idx) 1) = q := Fin.ext (by
    show win0_2.index t 1 * 2048 + 1 * q.val = q.val
    rw [(idx t).2.2.1]
    show 0 * 2048 + 1 * q.val = _; omega)
  unfold whole
  rw [h0, h1]
  exact rms_congr q (fun k => read0 m c t p k) (read1 m c t q)

def weights (g : FVec Ideal S2048 .f32) : FVec Ideal S1x2048 .f32 := shapeCast S1x2048 g shapeCasts_S2048_S1x2048

theorem weights_apply (g : FVec Ideal S2048 .f32) (n : Fin 2048) : weights g (ix2 0 n) = g (ix1 n) := by
  pointwise [weights]

set_option maxHeartbeats 4000000 in
theorem V_weights (c : Dev nD) : (V m c main_v0 : FVec Ideal S1x2048 .f32) = weights (m (c, main_arg1)) := by
  simp only [V, hostOps0]
  run_tidy
  rfl

theorem arr_apply (c : Dev nD) (r : Fin 4096) (n : Fin 2048) (x : FVec Ideal S8192x2048 .f32) (g : FVec Ideal S2048 .f32)
    (h0 : x = m (c, main_arg0)) (h1 : g = m (c, main_arg1)) :
    ((dats m 0 c).arrAt 2 cfg0.N : FVec Ideal S4096x2048 .f32) (ix2 r n) = rms (fun k => x (ix2 (tok r) k)) n (g (ix1 n)) := by
  subst h0 h1
  rw [arr, V_weights, V_main_arg0]
  exact rms_congr n (fun _ => rfl) (weights_apply _ n)

/-- The result array as sequences. -/
def seqs (a : FVec Ideal S4096x2048 .f32) : FVec Ideal S2x2048x2048 .f32 := shapeCast S2x2048x2048 a shapeCasts_S4096x2048_S2x2048x2048

theorem seqs_apply (a : FVec Ideal S4096x2048 .f32) (b : Fin 2) (t : Fin 2048) (n : Fin 2048) :
    seqs a (ix3 b t n) = a (ix2 ⟨b.val * 2048 + t.val, by omega⟩ n) := by
  pointwise [seqs]

set_option maxHeartbeats 4000000 in
/-- What the reshape after the call leaves. -/
theorem tail (c : Dev nD) : Pipeline.afterTail₀ cfgs (dats m) 0 (V0 m) [hostOps1] c main_v2
    = seqs ((dats m 0 c).arrAt 2 cfg0.N : FVec Ideal S4096x2048 .f32) := by
  have e := Pipeline.withArrays_arr (cfgs 0).spec (by decide +kernel) c (V0 m c) (fun w => (dats m 0 c).arrAt w (cfgs 0).N) 2
  unfold Pipeline.afterTail₀
  simp only [hostOps1, List.flatten_cons, List.flatten_nil, List.append_nil]
  run_tidy
  exact congrArg seqs e

/-- The call's run: its result array as sequences, and its arguments kept. -/
theorem run_res (ρ : Dev nD → PrngReg) : θ_run defs (onTc (τ := τ) (main (F := Ideal))) ⟨m, fun _ => 0, ρ⟩ fun r => ∀ c : Dev nD,
      r.2.mem ((c.tc : Thread nD τ).loc main_v2) = seqs ((dats m 0 c).arrAt 2 cfg0.N : FVec Ideal S4096x2048 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨((h.1 c).2 main_v2 (Pipeline.mem_restRefs_of main_v2 (by decide) (by decide))).trans (tail m c), h.2 c⟩)
    (θ_run_and (run_main m ρ) (unchanged m ρ))

end Cert.SampleIdeal.Mm
-- ==== Proof.SampleR.lean ====
module

public import proofs.«01_k».proof.Proof.Gen.SampleRefIdeal.Run
public import proofs.«01_k».proof.Proof.Rms
public import Idealize.ShloMosaic.Lib.Pointwise

@[expose] public section

set_option maxRecDepth 16384

noncomputable section

namespace Cert.SampleRefIdeal.Mm

open Cert.SampleRefIdeal Cert.SampleRefIdeal.Gen Cert.Rms Idealize.ShloMosaic Idealize.ShloMosaic.TcCoe Idealize.SL.Sem

variable (x : FVec Ideal S8192x2048 .f32) (g : FVec Ideal S2048 .f32)

/-- The latent tokens' rows. -/
def rows : FVec Ideal S4096x2048 .f32 := extractStridedSlice S4096x2048 ![4096, 0] x slices_S8192x2048_S4096x2048_4096_0

/-- The same as sequences. -/
def seqs : FVec Ideal S2x2048x2048 .f32 := shapeCast S2x2048x2048 (rows x) shapeCasts_S4096x2048_S2x2048x2048

/-- The reference's result. -/
def res : FVec Ideal S2x2048x2048 .f32 :=
  mulf (mulf (seqs x) (broadcastInDim S2x2048x2048 ![0, 1, 2] bcast_S2x2048x1_S2x2048x2048_0_1_2 (Host.rsqrt (addf (Host.divf (broadcastInDim S2x2048x1 ![0, 1] bcast_S2x2048_S2x2048x1_0_1
    (Host.reduceAdd (mulf (seqs x) (seqs x)) (constant S_ .f32 0x00000000#32) reducesTo_S2x2048x2048_S2x2048_d2 h_S_)) (broadcastInDim S2x2048x1 ![] bcast_S_S2x2048x1 (constant S_ .f32 0x45000000#32)))
    (broadcastInDim S2x2048x1 ![] bcast_S_S2x2048x1 (constant S_ .f32 0x358637BD#32))))))
    (broadcastInDim S2x2048x2048 ![0, 1, 2] bcast_S1x1x2048_S2x2048x2048_0_1_2 (broadcastInDim S1x1x2048 ![2] bcast_S2048_S1x1x2048_2 g))

theorem seqs_apply (b : Fin 2) (t : Fin 2048) (n : Fin 2048) :
    seqs x (ix3 b t n) = x (ix2 ⟨4096 + (b.val * 2048 + t.val), by omega⟩ n) := by
  pointwise [seqs, rows]

/-- One entry of it. -/
theorem res_apply (b : Fin 2) (t : Fin 2048) (n : Fin 2048) :
    res x g (ix3 b t n) = rms (fun k => x (ix2 ⟨4096 + (b.val * 2048 + t.val), by omega⟩ k)) n (g (ix1 n)) := by
  unfold rms
  pointwise [res, seqs_apply]

end Cert.SampleRefIdeal.Mm
-- ==== Proof.SampleEq.lean ====
module

public import proofs.«01_k».proof.Defs
public import proofs.«01_k».proof.Proof.SampleK
public import proofs.«01_k».proof.Proof.SampleR
public import Idealize.ShloMosaic.Adequacy
public import Idealize.ShloMosaic.Init

@[expose] public section

set_option maxRecDepth 16384

noncomputable section

namespace Cert.SampleEq

open Idealize.ShloMosaic Idealize.ShloMosaic.TcCoe Idealize.SL.Sem

/-- The reference runs and keeps its arguments. -/
theorem frame_ref : Cert.quiescent_SampleRefIdeal := fun m g _ =>
  (θ_run Cert.SampleRefIdeal.defs _ _).mono (fun r h => ⟨fun c => (h c).2, sem_eq_zero_of_no_sems (by decide) r.2⟩)
    (Cert.SampleRefIdeal.Value.run (F := Ideal) m g)

/-- The two programs' results agree where their arguments do. -/
theorem equal (m : (ℓ : Loc SampleIdeal.nD SampleIdeal.τ SampleIdeal.sig) → Buf (Elt Ideal) ℓ) (c : Dev SampleIdeal.nD)
    (x : FVec Ideal SampleRefIdeal.S8192x2048 .f32) (g : FVec Ideal SampleRefIdeal.S2048 .f32)
    (h0 : x = m (c, SampleIdeal.main_arg0)) (h1 : g = m (c, SampleIdeal.main_arg1)) :
    SampleRefIdeal.Mm.res x g = SampleIdeal.Mm.seqs (SampleIdeal.Gen.dats m 0 c |>.arrAt 2 SampleIdeal.cfg0.N) := by
  funext y
  obtain ⟨b, t, n, rfl⟩ : ∃ (b : Fin 2) (t : Fin 2048) (n : Fin 2048), y = ix3 b t n := ⟨y 0, y 1, y 2, by idx_vars y⟩
  exact (SampleRefIdeal.Mm.res_apply x g b t n).trans ((SampleIdeal.Mm.seqs_apply _ b t n).trans (SampleIdeal.Mm.arr_apply m c _ n x g h0 h1)).symm

/-- The two programs end with equal results. -/
theorem algebraic : Cert.algebraic_SampleIdeal_SampleRefIdeal := by
  intro m g m' g' _ ha
  refine ⟨fun c => SampleIdeal.Mm.seqs ((Cert.SampleIdeal.Gen.dats m 0 c).arrAt 2 Cert.SampleIdeal.cfg0.N), Cert.SampleIdeal.Mm.run_res m g, ?_⟩
  refine (θ_run Cert.SampleRefIdeal.defs _ _).mono (fun r h c => ⟨(h c).1.trans ?_, (h c).2⟩) (Cert.SampleRefIdeal.Value.run (F := Ideal) m' g')
  exact equal m c _ _ (ha c).1 (ha c).2

end Cert.SampleEq
-- ==== Proof.lean ====
module

public import proofs.«01_k».proof.Defs
public import proofs.«01_k».proof.Proof.Gen.Na
public import proofs.«01_k».proof.Proof.Gen.Na.Skeleton
public import proofs.«01_k».proof.Proof.Gen.Na.Loops
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Loops
public import proofs.«01_k».proof.Proof.Gen.NaIdeal.Launch
public import proofs.«01_k».proof.Proof.Gen.NaIdeal.Points
public import proofs.«01_k».proof.Proof.Gen.NaIdeal.Frame
public import proofs.«01_k».proof.Proof.Gen.NaRefIdeal
public import proofs.«01_k».proof.Proof.Gen.NaIdeal.Value
public import proofs.«01_k».proof.Proof.Gen.NaRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixIdeal.Value
public import proofs.«01_k».proof.Proof.Gen.MixRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.Second
public import proofs.«01_k».proof.Proof.Gen.Second.Skeleton
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondRefIdeal
public import proofs.«01_k».proof.Proof.Gen.SecondRefIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormIdeal.Value
public import proofs.«01_k».proof.Proof.Gen.NormRefIdeal.Run
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.PromptRefIdeal
public import proofs.«01_k».proof.Proof.Gen.PromptRefIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleRefIdeal
public import proofs.«01_k».proof.Proof.Gen.SampleRefIdeal.Run
public import proofs.«01_k».proof.Proof.Finite
public import proofs.«01_k».proof.Proof.Equal
public import proofs.«01_k».proof.Proof.UpEq
public import proofs.«01_k».proof.Proof.DownEq
public import proofs.«01_k».proof.Proof.MixEq
public import proofs.«01_k».proof.Proof.OutEq
public import proofs.«01_k».proof.Proof.QkvEq
public import proofs.«01_k».proof.Proof.SecondEq
public import proofs.«01_k».proof.Proof.MergeEq
public import proofs.«01_k».proof.Proof.NormEq
public import proofs.«01_k».proof.Proof.PromptEq
public import proofs.«01_k».proof.Proof.SampleEq
public import Idealize.ShloMosaic.Adequacy
public import Idealize.ShloMosaic.Init

@[expose] public section

noncomputable section

namespace Cert.Proof

open Idealize.ShloMosaic Idealize.SL.Sem

/-- The attention's reference runs and keeps its arguments. -/
theorem frame_ref : Cert.quiescent_NaRefIdeal := fun m g _ =>
  (θ_run Cert.NaRefIdeal.defs _ _).mono (fun r h => ⟨fun c => (h c).2, sem_eq_zero_of_no_sems (by decide) r.2⟩)
    (Cert.NaRefIdeal.Value.run (F := Ideal) m g)

/-- The attention's two programs end with equal results. -/
theorem algebraic_na : Cert.algebraic_NaIdeal_NaRefIdeal_pre_finite := by
  intro m g m' g' hp ha
  refine ⟨fun c => (Cert.NaIdeal.Gen.dats m 0 c).arrAt 6 Cert.NaIdeal.cfg0.N, Cert.NaIdeal.Value.run_blocks (F := Ideal) m g, ?_⟩
  refine (θ_run Cert.NaRefIdeal.defs _ _).mono (fun r h c => ⟨(h c).1.trans ?_, (h c).2⟩) (Cert.NaRefIdeal.Value.run (F := Ideal) m' g')
  obtain ⟨r0, r1, r3⟩ := Cert.Pre_finite.of_fn _ _ _ _ (hp c)
  exact Cert.Equal.equal m c (Idealize.ShloMosaic.StableHlo.launchContents m' c) (ha c).1 (ha c).2.1 (ha c).2.2.1 (ha c).2.2.2 r0 r1 r3

theorem claim : Cert.Claim := ⟨Cert.Na.Gen.facts, Cert.NaIdeal.Gen.facts, Cert.NaRefIdeal.Gen.facts, Cert.Up.Gen.facts, Cert.UpIdeal.Gen.facts,
  Cert.UpRefIdeal.Gen.facts, Cert.Down.Gen.facts, Cert.DownIdeal.Gen.facts, Cert.DownRefIdeal.Gen.facts, Cert.Mix.Gen.facts,
  Cert.MixIdeal.Gen.facts, Cert.MixRefIdeal.Gen.facts,
  Cert.Out.Gen.facts, Cert.OutIdeal.Gen.facts, Cert.OutRefIdeal.Gen.facts,
  Cert.Qkv.Gen.facts, Cert.QkvIdeal.Gen.facts, Cert.QkvRefIdeal.Gen.facts,
  Cert.Second.Gen.facts, Cert.SecondIdeal.Gen.facts, Cert.SecondRefIdeal.Gen.facts,
  Cert.Merge.Gen.facts, Cert.MergeIdeal.Gen.facts, Cert.MergeRefIdeal.Gen.facts,
  Cert.Norm.Gen.facts, Cert.NormIdeal.Gen.facts, Cert.NormRefIdeal.Gen.facts,
  Cert.Prompt.Gen.facts, Cert.PromptIdeal.Gen.facts, Cert.PromptRefIdeal.Gen.facts,
  Cert.Sample.Gen.facts, Cert.SampleIdeal.Gen.facts, Cert.SampleRefIdeal.Gen.facts,
  Cert.Pre_finite.facts,
  fun m g _ => Cert.Na.Gen.frame m g, fun m g _ => Cert.NaIdeal.Gen.frame m g, fun m g _ => Cert.NaIdeal.Gen.frame m g,
  frame_ref, fun m g _ => frame_ref m g trivial,
  fun m g _ => Cert.Up.Gen.frame m g, fun m g _ => Cert.UpIdeal.Gen.frame m g, Cert.UpEq.frame_ref,
  fun m g _ => Cert.Down.Gen.frame m g, fun m g _ => Cert.DownIdeal.Gen.frame m g, Cert.DownEq.frame_ref,
  fun m g _ => Cert.Mix.Gen.frame m g, fun m g _ => Cert.MixIdeal.Gen.frame m g, Cert.MixEq.frame_ref,
  fun m g _ => Cert.Out.Gen.frame m g, fun m g _ => Cert.OutIdeal.Gen.frame m g, Cert.OutEq.frame_ref,
  fun m g _ => Cert.Qkv.Gen.frame m g, fun m g _ => Cert.QkvIdeal.Gen.frame m g, Cert.QkvEq.frame_ref,
  fun m g _ => Cert.Second.Gen.frame m g, fun m g _ => Cert.SecondIdeal.Gen.frame m g, Cert.SecondEq.frame_ref,
  fun m g _ => Cert.Merge.Gen.frame m g, fun m g _ => Cert.MergeIdeal.Gen.frame m g, Cert.MergeEq.frame_ref,
  fun m g _ => Cert.Norm.Gen.frame m g, fun m g _ => Cert.NormIdeal.Gen.frame m g, Cert.NormEq.frame_ref,
  fun m g _ => Cert.Prompt.Gen.frame m g, fun m g _ => Cert.PromptIdeal.Gen.frame m g, Cert.PromptEq.frame_ref,
  fun m g _ => Cert.Sample.Gen.frame m g, fun m g _ => Cert.SampleIdeal.Gen.frame m g, Cert.SampleEq.frame_ref,
  trivial, algebraic_na, trivial, Cert.UpEq.algebraic, trivial, Cert.DownEq.algebraic, trivial, Cert.MixEq.algebraic,
  trivial, Cert.OutEq.algebraic, trivial, Cert.QkvEq.algebraic, trivial, Cert.SecondEq.algebraic, trivial, Cert.MergeEq.algebraic,
  trivial, Cert.NormEq.algebraic, trivial, Cert.PromptEq.algebraic, trivial, Cert.SampleEq.algebraic⟩

end Cert.Proof

end
